-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v26)) (v1 : (c : Dev Cert.Kernel4Ideal.nD) → Buf (Elt Ideal) ((c.tc : Thread Cert.Kernel4Ideal.nD Cert.Kernel4Ideal.τ).loc Cert.Kernel4Ideal.main_v27)) (v2 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_v27) = v1 c
          ∧ r.2.mem ((c.tc : Thread Cert.Kernel4Ideal.nD Cert.Kernel4Ideal.τ).loc Cert.Kernel4Ideal.main_v28) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v26)) (v1 : (c : Dev Cert.Kernel6Ideal.nD) → Buf (Elt Ideal) ((c.tc : Thread Cert.Kernel6Ideal.nD Cert.Kernel6Ideal.τ).loc Cert.Kernel6Ideal.main_v27)) (v2 : (c : Dev Cert.Kernel6Ideal.nD) → Buf (Elt Ideal) ((c.tc : Thread Cert.Kernel6Ideal.nD Cert.Kernel6Ideal.τ).loc Cert.Kernel6Ideal.main_v28)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26) = v0 c
          ∧ r.2.mem ((c.tc : Thread Cert.Kernel6Ideal.nD Cert.Kernel6Ideal.τ).loc Cert.Kernel6Ideal.main_v27) = v1 c
          ∧ r.2.mem ((c.tc : Thread Cert.Kernel6Ideal.nD Cert.Kernel6Ideal.τ).loc Cert.Kernel6Ideal.main_v28) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v74)) (v1 : (c : Dev Cert.Kernel7Ideal.nD) → Buf (Elt Ideal) ((c.tc : Thread Cert.Kernel7Ideal.nD Cert.Kernel7Ideal.τ).loc Cert.Kernel7Ideal.main_v76)) (v2 : (c : Dev Cert.Kernel7Ideal.nD) → Buf (Elt Ideal) ((c.tc : Thread Cert.Kernel7Ideal.nD Cert.Kernel7Ideal.τ).loc Cert.Kernel7Ideal.main_v73_3)) (v3 : (c : Dev Cert.Kernel7Ideal.nD) → Buf (Elt Ideal) ((c.tc : Thread Cert.Kernel7Ideal.nD Cert.Kernel7Ideal.τ).loc Cert.Kernel7Ideal.main_v73_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v74) = v0 c
          ∧ r.2.mem ((c.tc : Thread Cert.Kernel7Ideal.nD Cert.Kernel7Ideal.τ).loc Cert.Kernel7Ideal.main_v76) = v1 c
          ∧ r.2.mem ((c.tc : Thread Cert.Kernel7Ideal.nD Cert.Kernel7Ideal.τ).loc Cert.Kernel7Ideal.main_v73_3) = v2 c
          ∧ r.2.mem ((c.tc : Thread Cert.Kernel7Ideal.nD Cert.Kernel7Ideal.τ).loc Cert.Kernel7Ideal.main_v73_4) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v54) = v0 c
          ∧ r.2.mem ((c.tc : Thread Cert.Reference7Ideal.nD Cert.Reference7Ideal.τ).loc Cert.Reference7Ideal.main_v55) = v1 c
          ∧ r.2.mem ((c.tc : Thread Cert.Reference7Ideal.nD Cert.Reference7Ideal.τ).loc Cert.Reference7Ideal.main_v57) = v2 c
          ∧ r.2.mem ((c.tc : Thread Cert.Reference7Ideal.nD Cert.Reference7Ideal.τ).loc Cert.Reference7Ideal.main_v60) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v75)) (v1 : (c : Dev Cert.Kernel8Ideal.nD) → Buf (Elt Ideal) ((c.tc : Thread Cert.Kernel8Ideal.nD Cert.Kernel8Ideal.τ).loc Cert.Kernel8Ideal.main_v77)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v75) = v0 c
          ∧ r.2.mem ((c.tc : Thread Cert.Kernel8Ideal.nD Cert.Kernel8Ideal.τ).loc Cert.Kernel8Ideal.main_v77) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_v50) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2x4096x16x192 : Shape := ⟨4, ![2, 4096, 16, 192]⟩
abbrev S2x4096x16x128 : Shape := ⟨4, ![2, 4096, 16, 128]⟩
abbrev S2x4096x64 : Shape := ⟨3, ![2, 4096, 64]⟩
abbrev S_ : Shape := ⟨0, ![]⟩

class Facts : Prop where
  bcast_S_S2x4096x16x192 : S_.BroadcastsInDim S2x4096x16x192 (![] : Fin 0 → Fin S2x4096x16x192.rank)
  bcast_S_S2x4096x16x128 : S_.BroadcastsInDim S2x4096x16x128 (![] : Fin 0 → Fin S2x4096x16x128.rank)
  bcast_S_S2x4096x64 : S_.BroadcastsInDim S2x4096x64 (![] : Fin 0 → Fin S2x4096x64.rank)

variable [Facts]

def fn {F : FTy → Type} [FloatOps F] (main_arg0 : FVec F S2x4096x16x192 .f32) (main_arg1 : FVec F S2x4096x16x128 .f32) (main_arg2 : FVec F S2x4096x16x128 .f32) (main_arg3 : FVec F S2x4096x64 .f32) : IVec S2x4096x16x192 1 × IVec S2x4096x16x128 1 × IVec S2x4096x64 1 :=
  let main_v0 : FVec F S2x4096x16x192 .f32 := Host.absf main_arg0
  let main_cst : FVec F S_ .f32 := constant S_ .f32 0x7F800000#32
  let main_v1 : FVec F S2x4096x16x192 .f32 := broadcastInDim S2x4096x16x192 ![] bcast_S_S2x4096x16x192 main_cst
  let main_v2 : IVec S2x4096x16x192 1 := cmpf .olt main_v0 main_v1
  let main_v3 : FVec F S2x4096x16x128 .f32 := Host.absf main_arg1
  let main_cst_0 : FVec F S_ .f32 := constant S_ .f32 0x7F800000#32
  let main_v4 : FVec F S2x4096x16x128 .f32 := broadcastInDim S2x4096x16x128 ![] bcast_S_S2x4096x16x128 main_cst_0
  let main_v5 : IVec S2x4096x16x128 1 := cmpf .olt main_v3 main_v4
  let main_v6 : FVec F S2x4096x64 .f32 := Host.absf main_arg3
  let main_cst_1 : FVec F S_ .f32 := constant S_ .f32 0x7F800000#32
  let main_v7 : FVec F S2x4096x64 .f32 := broadcastInDim S2x4096x64 ![] bcast_S_S2x4096x64 main_cst_1
  let main_v8 : IVec S2x4096x64 1 := cmpf .olt main_v6 main_v7
  (main_v2, main_v5, main_v8)
-- ==== Kernel.lean ====
abbrev S2x4096x16x192 : Shape := ⟨4, ![2, 4096, 16, 192]⟩
abbrev S2x4096x16x128 : Shape := ⟨4, ![2, 4096, 16, 128]⟩
abbrev S2x4096x64 : Shape := ⟨3, ![2, 4096, 64]⟩
abbrev S8192x2048 : Shape := ⟨2, ![8192, 2048]⟩
abbrev S2x4096x16x64 : Shape := ⟨4, ![2, 4096, 16, 64]⟩
abbrev S8192x1024 : Shape := ⟨2, ![8192, 1024]⟩
abbrev S8192x3072 : Shape := ⟨2, ![8192, 3072]⟩
abbrev S2048x8192 : Shape := ⟨2, ![2048, 8192]⟩
abbrev S2x4096x128 : Shape := ⟨3, ![2, 4096, 128]⟩
abbrev S8192x128 : Shape := ⟨2, ![8192, 128]⟩
abbrev S512x3072 : Shape := ⟨2, ![512, 3072]⟩
abbrev S512x2048 : Shape := ⟨2, ![512, 2048]⟩
abbrev S2048x512 : Shape := ⟨2, ![2048, 512]⟩
abbrev S512x128 : Shape := ⟨2, ![512, 128]⟩
abbrev S16x1x512 : Shape := ⟨3, ![16, 1, 512]⟩
abbrev S16x128x512 : Shape := ⟨3, ![16, 128, 512]⟩
abbrev S512x512 : Shape := ⟨2, ![512, 512]⟩
abbrev S512x256 : Shape := ⟨2, ![512, 256]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 18
  | .vmem => 13
  | .smem => 0
  | _ => 0

abbrev bufTy : (tb : Table) → Fin (tcTables nBuf tb) → BufTy
  | .hbm, ⟨0, _⟩ => ⟨S2x4096x16x192, .f32⟩
  | .hbm, ⟨1, _⟩ => ⟨S2x4096x16x128, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S8192x2048, .f32⟩
  | .hbm, ⟨6, _⟩ => ⟨S2x4096x16x64, .f32⟩
  | .hbm, ⟨7, _⟩ => ⟨S8192x1024, .f32⟩
  | .hbm, ⟨8, _⟩ => ⟨S8192x3072, .f32⟩
  | .hbm, ⟨9, _⟩ => ⟨S8192x3072, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S2048x8192, .f32⟩
  | .hbm, ⟨14, _⟩ => ⟨S2048x8192, .bf16⟩
  | .hbm, ⟨15, _⟩ => ⟨S2x4096x128, .f32⟩
  | .hbm, ⟨16, _⟩ => ⟨S8192x128, .f32⟩
  | .hbm, ⟨17, _⟩ => ⟨S8192x2048, .bf16⟩
  | .local _ .vmem, ⟨0, _⟩ => ⟨S512x3072, .bf16⟩
  | .local _ .vmem, ⟨1, _⟩ => ⟨S512x3072, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | .local _ .vmem, ⟨10, _⟩ => ⟨S16x1x512, .f32⟩
  | .local _ .vmem, ⟨11, _⟩ => ⟨S16x1x512, .f32⟩
  | .local _ .vmem, ⟨12, _⟩ => ⟨S16x128x512, .f32⟩
  | _, _ => ⟨S2x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg1 arg2
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg1 arg2
  let v2 : BitVec 32 := Scalar.addi v0 v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg1 arg2
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S2x4096x16x192 : Shape := ⟨4, ![2, 4096, 16, 192]⟩
abbrev S2x4096x16x128 : Shape := ⟨4, ![2, 4096, 16, 128]⟩
abbrev S2x4096x64 : Shape := ⟨3, ![2, 4096, 64]⟩
abbrev S4096 : Shape := ⟨1, ![4096]⟩
abbrev S2x4096x1x64 : Shape := ⟨4, ![2, 4096, 1, 64]⟩
abbrev S2x4096x16x64 : Shape := ⟨4, ![2, 4096, 16, 64]⟩
abbrev S2x16x4096x4096 : Shape := ⟨4, ![2, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x16x192, .f32⟩
  | .hbm, ⟨1, _⟩ => ⟨S2x4096x16x128, .f32⟩
  | .hbm, ⟨2, _⟩ => ⟨S2x4096x16x128, .f32⟩
  | .hbm, ⟨3, _⟩ => ⟨S2x4096x64, .f32⟩
  | .hbm, ⟨4, _⟩ => ⟨S4096, .i32⟩
  | .hbm, ⟨5, _⟩ => ⟨S2x4096x1x64, .f32⟩
  | .hbm, ⟨6, _⟩ => ⟨S2x4096x16x64, .f32⟩
  | .hbm, ⟨7, _⟩ => ⟨S2x4096x16x192, .f32⟩
  | .hbm, ⟨8, _⟩ => ⟨S2x16x4096x4096, .f32⟩
  | .hbm, ⟨9, _⟩ => ⟨S_, .f32⟩
  | .hbm, ⟨10, _⟩ => ⟨S2x16x4096x4096, .f32⟩
  | .hbm, ⟨11, _⟩ => ⟨S2x16x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S2x16x4096x4096, .i1⟩
  | .hbm, ⟨20, _⟩ => ⟨S2x16x4096x4096, .f32⟩
  | .hbm, ⟨21, _⟩ => ⟨S2x16x4096x4096, .f32⟩
  | .hbm, ⟨22, _⟩ => ⟨S_, .f32⟩
  | .hbm, ⟨23, _⟩ => ⟨S2x16x4096, .f32⟩
  | .hbm, ⟨24, _⟩ => ⟨S_, .f32⟩
  | .hbm, ⟨25, _⟩ => ⟨S2x16x4096, .f32⟩
  | .hbm, ⟨26, _⟩ => ⟨S2x16x4096, .f32⟩
  | .hbm, ⟨27, _⟩ => ⟨S2x16x4096x1, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .f32⟩
  | .hbm, ⟨31, _⟩ => ⟨S_, .f32⟩
  | .hbm, ⟨32, _⟩ => ⟨S2x16x4096, .f32⟩
  | .hbm, ⟨33, _⟩ => ⟨S2x16x4096x1, .f32⟩
  | .hbm, ⟨34, _⟩ => ⟨S2x16x4096x4096, .f32⟩
  | .hbm, ⟨35, _⟩ => ⟨S2x16x4096x4096, .f32⟩
  | .hbm, ⟨36, _⟩ => ⟨S2x16x128x4096, .f32⟩
  | .hbm, ⟨37, _⟩ => ⟨S2x4096x16x128, .f32⟩
  | .hbm, ⟨38, _⟩ => ⟨S8192x2048, .f32⟩
  | .hbm, ⟨39, _⟩ => ⟨S8192x2048, .bf16⟩
  | _, _ => ⟨S2x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048 : Shape := ⟨1, ![2048]⟩
abbrev S2048x5632 : Shape := ⟨2, ![2048, 5632]⟩
abbrev S5632x2048 : Shape := ⟨2, ![5632, 2048]⟩
abbrev S8192x2048 : Shape := ⟨2, ![8192, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S1x2048, .f32⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x4096x2048 : Shape := ⟨3, ![2, 4096, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5632 : Shape := ⟨3, ![2, 4096, 5632]⟩
abbrev S8192x2048 : Shape := ⟨2, ![8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S_, .f32⟩
  | .hbm, ⟨25, _⟩ => ⟨S2x4096x5632, .f32⟩
  | .hbm, ⟨26, _⟩ => ⟨S2x4096x5632, .f32⟩
  | .hbm, ⟨27, _⟩ => ⟨S_, .f32⟩
  | .hbm, ⟨28, _⟩ => ⟨S2x4096x5632, .f32⟩
  | .hbm, ⟨29, _⟩ => ⟨S2x4096x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2x4096x2048, .f32⟩
  | .hbm, ⟨34, _⟩ => ⟨S2x4096x2048, .f32⟩
  | .hbm, ⟨35, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel3.lean ====
abbrev S2x4096x2048 : Shape := ⟨3, ![2, 4096, 2048]⟩
abbrev S2x4096x256 : Shape := ⟨3, ![2, 4096, 256]⟩
abbrev S2048 : Shape := ⟨1, ![2048]⟩
abbrev S2048x2048 : Shape := ⟨2, ![2048, 2048]⟩
abbrev S256x2048 : Shape := ⟨2, ![256, 2048]⟩
abbrev S8192x2048 : Shape := ⟨2, ![8192, 2048]⟩
abbrev S8192x256 : Shape := ⟨2, ![8192, 256]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x4096x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S8192x2048, .f32⟩
  | .hbm, ⟨7, _⟩ => ⟨S8192x256, .f32⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x4096x2048 : Shape := ⟨3, ![2, 4096, 2048]⟩
abbrev S2x4096x256 : Shape := ⟨3, ![2, 4096, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x1, .f32⟩
  | .hbm, ⟨45, _⟩ => ⟨S2x4096x2048, .f32⟩
  | .hbm, ⟨46, _⟩ => ⟨S2x4096x2048, .f32⟩
  | .hbm, ⟨47, _⟩ => ⟨S1x1x2048, .f32⟩
  | .hbm, ⟨48, _⟩ => ⟨S2x4096x2048, .f32⟩
  | .hbm, ⟨49, _⟩ => ⟨S2x4096x2048, .f32⟩
  | .hbm, ⟨50, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel4.lean ====
abbrev S2x4096x2048 : Shape := ⟨3, ![2, 4096, 2048]⟩
abbrev S2x2048 : Shape := ⟨2, ![2, 2048]⟩
abbrev S1x2048x6152 : Shape := ⟨3, ![1, 2048, 6152]⟩
abbrev S8192x2048 : Shape := ⟨2, ![8192, 2048]⟩
abbrev S1x2048 : Shape := ⟨2, ![1, 2048]⟩
abbrev S2048 : Shape := ⟨1, ![2048]⟩
abbrev S2048x6152 : Shape := ⟨2, ![2048, 6152]⟩
abbrev S2048x512 : Shape := ⟨2, ![2048, 512]⟩
abbrev S2048x1024 : Shape := ⟨2, ![2048, 1024]⟩
abbrev S2048x8 : Shape := ⟨2, ![2048, 8]⟩
abbrev S_ : Shape := ⟨0, ![]⟩
abbrev S2048x4x128 : Shape := ⟨3, ![2048, 4, 128]⟩
abbrev S2048x4 : Shape := ⟨2, ![2048, 4]⟩
abbrev S1 : Shape := ⟨1, ![1]⟩
abbrev S2048x6656 : Shape := ⟨2, ![2048, 6656]⟩
abbrev S8192x6656 : Shape := ⟨2, ![8192, 6656]⟩
abbrev S512x2048 : Shape := ⟨2, ![512, 2048]⟩
abbrev S2048x1664 : Shape := ⟨2, ![2048, 1664]⟩
abbrev S512x1664 : Shape := ⟨2, ![512, 1664]⟩
abbrev S512 : Shape := ⟨1, ![512]⟩
abbrev S512x1 : Shape := ⟨2, ![512, 1]⟩
abbrev S8192x1024 : Shape := ⟨2, ![8192, 1024]⟩
abbrev S1x2x4096x8x128 : Shape := ⟨5, ![1, 2, 4096, 8, 128]⟩
abbrev S8192x6144 : Shape := ⟨2, ![8192, 6144]⟩

abbrev nBuf : Space → Nat
  | .hbm => 35
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x6152, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S2048x6152, .f32⟩
  | .hbm, ⟨7, _⟩ => ⟨S2048x512, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x8, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x4x128, .f32⟩
  | .hbm, ⟨17, _⟩ => ⟨S2048x4, .f32⟩
  | .hbm, ⟨18, _⟩ => ⟨S_, .i32⟩
  | .hbm, ⟨19, _⟩ => ⟨S1, .i32⟩
  | .hbm, ⟨20, _⟩ => ⟨S2048x4x128, .f32⟩
  | .hbm, ⟨21, _⟩ => ⟨S2048x4, .f32⟩
  | .hbm, ⟨22, _⟩ => ⟨S_, .i32⟩
  | .hbm, ⟨23, _⟩ => ⟨S1, .i32⟩
  | .hbm, ⟨24, _⟩ => ⟨S2048x4x128, .f32⟩
  | .hbm, ⟨25, _⟩ => ⟨S2048x512, .f32⟩
  | .hbm, ⟨26, _⟩ => ⟨S2048x6656, .f32⟩
  | .hbm, ⟨27, _⟩ => ⟨S2048x6656, .bf16⟩
  | .hbm, ⟨28, _⟩ => ⟨S1x2048, .f32⟩
  | .hbm, ⟨29, _⟩ => ⟨S8192x6656, .f32⟩
  | .hbm, ⟨30, _⟩ => ⟨S8192x1024, .f32⟩
  | .hbm, ⟨31, _⟩ => ⟨S8192x1024, .f32⟩
  | .hbm, ⟨32, _⟩ => ⟨S1x2x4096x8x128, .f32⟩
  | .hbm, ⟨33, _⟩ => ⟨S1x2x4096x8x128, .f32⟩
  | .hbm, ⟨34, _⟩ => ⟨S8192x6144, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S512x1664, .f32⟩
  | .local _ .vmem, ⟨6, _⟩ => ⟨S512x1664, .f32⟩
  | .local _ .vmem, ⟨7, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2x4096x2048 : Shape := ⟨3, ![2, 4096, 2048]⟩
abbrev S2x2048 : Shape := ⟨2, ![2, 2048]⟩
abbrev S1x2048x6152 : Shape := ⟨3, ![1, 2048, 6152]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x6152 : Shape := ⟨2, ![2048, 6152]⟩
abbrev S2x4096x6152 : Shape := ⟨3, ![2, 4096, 6152]⟩
abbrev S2x4096x1024 : Shape := ⟨3, ![2, 4096, 1024]⟩
abbrev S2x4096x3072 : Shape := ⟨3, ![2, 4096, 3072]⟩
abbrev S2x4096x6144 : Shape := ⟨3, ![2, 4096, 6144]⟩
abbrev S1x2x4096x8x128 : Shape := ⟨5, ![1, 2, 4096, 8, 128]⟩
abbrev S8192x6144 : Shape := ⟨2, ![8192, 6144]⟩

abbrev nBuf : Space → Nat
  | .hbm => 31
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S1x2048x6152, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S2048x6152, .f32⟩
  | .hbm, ⟨22, _⟩ => ⟨S2x4096x6152, .f32⟩
  | .hbm, ⟨23, _⟩ => ⟨S2x4096x1024, .f32⟩
  | .hbm, ⟨24, _⟩ => ⟨S2x4096x1024, .f32⟩
  | .hbm, ⟨25, _⟩ => ⟨S2x4096x3072, .f32⟩
  | .hbm, ⟨26, _⟩ => ⟨S2x4096x3072, .f32⟩
  | .hbm, ⟨27, _⟩ => ⟨S2x4096x6144, .f32⟩
  | .hbm, ⟨28, _⟩ => ⟨S1x2x4096x8x128, .f32⟩
  | .hbm, ⟨29, _⟩ => ⟨S1x2x4096x8x128, .f32⟩
  | .hbm, ⟨30, _⟩ => ⟨S8192x6144, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel5.lean ====
abbrev S128x1x2048 : Shape := ⟨3, ![128, 1, 2048]⟩
abbrev S128x1x256 : Shape := ⟨3, ![128, 1, 256]⟩
abbrev S2048 : Shape := ⟨1, ![2048]⟩
abbrev S2048x2048 : Shape := ⟨2, ![2048, 2048]⟩
abbrev S256x2048 : Shape := ⟨2, ![256, 2048]⟩
abbrev S128x2048 : Shape := ⟨2, ![128, 2048]⟩
abbrev S128x256 : Shape := ⟨2, ![128, 256]⟩
abbrev S1x2048 : Shape := ⟨2, ![1, 2048]⟩
abbrev S128 : Shape := ⟨1, ![128]⟩
abbrev S128x1 : Shape := ⟨2, ![128, 1]⟩

abbrev nBuf : Space → Nat
  | .hbm => 13
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S128x1x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S128x2048, .f32⟩
  | .hbm, ⟨7, _⟩ => ⟨S128x256, .f32⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S1x2048, .f32⟩
  | .hbm, ⟨12, _⟩ => ⟨S128x2048, .f32⟩
  | .local _ .vmem, ⟨0, _⟩ => ⟨S128x2048, .f32⟩
  | .local _ .vmem, ⟨1, _⟩ => ⟨S128x256, .f32⟩
  | .local _ .vmem, ⟨2, _⟩ => ⟨S1x2048, .f32⟩
  | .local _ .vmem, ⟨3, _⟩ => ⟨S2048x2048, .bf16⟩
  | .local _ .vmem, ⟨4, _⟩ => ⟨S256x2048, .bf16⟩
  | .local _ .vmem, ⟨5, _⟩ => ⟨S1x2048, .f32⟩
  | .local _ .vmem, ⟨6, _⟩ => ⟨S128x2048, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference5Ideal.lean ====
abbrev S128x1x2048 : Shape := ⟨3, ![128, 1, 2048]⟩
abbrev S128x1x256 : Shape := ⟨3, ![128, 1, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S128x2048 : Shape := ⟨2, ![128, 2048]⟩

abbrev nBuf : Space → Nat
  | .hbm => 51
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S2048, .f32⟩
  | .hbm, ⟨6, _⟩ => ⟨S128x1x2048, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x2048, .f32⟩
  | .hbm, ⟨18, _⟩ => ⟨S128x1x2048, .f32⟩
  | .hbm, ⟨19, _⟩ => ⟨S1x1x2048, .f32⟩
  | .hbm, ⟨20, _⟩ => ⟨S128x1x2048, .f32⟩
  | .hbm, ⟨21, _⟩ => ⟨S128x1x2048, .f32⟩
  | .hbm, ⟨22, _⟩ => ⟨S128x1x2048, .f32⟩
  | .hbm, ⟨23, _⟩ => ⟨S128x1x2048, .f32⟩
  | .hbm, ⟨24, _⟩ => ⟨S128x1x2048, .f32⟩
  | .hbm, ⟨25, _⟩ => ⟨S_, .f32⟩
  | .hbm, ⟨26, _⟩ => ⟨S128x1x2048, .f32⟩
  | .hbm, ⟨27, _⟩ => ⟨S128x1x2048, .f32⟩
  | .hbm, ⟨28, _⟩ => ⟨S_, .f32⟩
  | .hbm, ⟨29, _⟩ => ⟨S128x1x2048, .f32⟩
  | .hbm, ⟨30, _⟩ => ⟨S128x1x2048, .f32⟩
  | .hbm, ⟨31, _⟩ => ⟨S128x1x2048, .f32⟩
  | .hbm, ⟨32, _⟩ => ⟨S128x1x2048, .f32⟩
  | .hbm, ⟨33, _⟩ => ⟨S128x1x2048, .f32⟩
  | .hbm, ⟨34, _⟩ => ⟨S128x1x2048, .f32⟩
  | .hbm, ⟨35, _⟩ => ⟨S_, .f32⟩
  | .hbm, ⟨36, _⟩ => ⟨S128x1, .f32⟩
  | .hbm, ⟨37, _⟩ => ⟨S128x1x1, .f32⟩
  | .hbm, ⟨38, _⟩ => ⟨S_, .f32⟩
  | .hbm, ⟨39, _⟩ => ⟨S128x1x1, .f32⟩
  | .hbm, ⟨40, _⟩ => ⟨S128x1x1, .f32⟩
  | .hbm, ⟨41, _⟩ => ⟨S_, .f32⟩
  | .hbm, ⟨42, _⟩ => ⟨S128x1x1, .f32⟩
  | .hbm, ⟨43, _⟩ => ⟨S128x1x1, .f32⟩
  | .hbm, ⟨44, _⟩ => ⟨S128x1x1, .f32⟩
  | .hbm, ⟨45, _⟩ => ⟨S128x1x2048, .f32⟩
  | .hbm, ⟨46, _⟩ => ⟨S128x1x2048, .f32⟩
  | .hbm, ⟨47, _⟩ => ⟨S1x1x2048, .f32⟩
  | .hbm, ⟨48, _⟩ => ⟨S128x1x2048, .f32⟩
  | .hbm, ⟨49, _⟩ => ⟨S128x1x2048, .f32⟩
  | .hbm, ⟨50, _⟩ => ⟨S128x2048, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel6.lean ====
abbrev S128x1x2048 : Shape := ⟨3, ![128, 1, 2048]⟩
abbrev S2x2048 : Shape := ⟨2, ![2, 2048]⟩
abbrev S1x2048x6152 : Shape := ⟨3, ![1, 2048, 6152]⟩
abbrev S128x2048 : Shape := ⟨2, ![128, 2048]⟩
abbrev S1x2048 : Shape := ⟨2, ![1, 2048]⟩
abbrev S2048 : Shape := ⟨1, ![2048]⟩
abbrev S2048x6152 : Shape := ⟨2, ![2048, 6152]⟩
abbrev S2048x512 : Shape := ⟨2, ![2048, 512]⟩
abbrev S2048x1024 : Shape := ⟨2, ![2048, 1024]⟩
abbrev S2048x8 : Shape := ⟨2, ![2048, 8]⟩
abbrev S_ : Shape := ⟨0, ![]⟩
abbrev S2048x4x128 : Shape := ⟨3, ![2048, 4, 128]⟩
abbrev S2048x4 : Shape := ⟨2, ![2048, 4]⟩
abbrev S1 : Shape := ⟨1, ![1]⟩
abbrev S2048x6656 : Shape := ⟨2, ![2048, 6656]⟩
abbrev S128x6656 : Shape := ⟨2, ![128, 6656]⟩
abbrev S2048x1664 : Shape := ⟨2, ![2048, 1664]⟩
abbrev S128x1664 : Shape := ⟨2, ![128, 1664]⟩
abbrev S128 : Shape := ⟨1, ![128]⟩
abbrev S128x1 : Shape := ⟨2, ![128, 1]⟩
abbrev S128x1024 : Shape := ⟨2, ![128, 1024]⟩
abbrev S1x128x1x8x128 : Shape := ⟨5, ![1, 128, 1, 8, 128]⟩
abbrev S128x6144 : Shape := ⟨2, ![128, 6144]⟩

abbrev nBuf : Space → Nat
  | .hbm => 35
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S2x2048, .f32⟩
  | .hbm, ⟨2, _⟩ => ⟨S1x2048x6152, .f32⟩
  | .hbm, ⟨3, _⟩ => ⟨S128x2048, .f32⟩
  | .hbm, ⟨4, _⟩ => ⟨S1x2048, .f32⟩
  | .hbm, ⟨5, _⟩ => ⟨S2048, .f32⟩
  | .hbm, ⟨6, _⟩ => ⟨S2048x6152, .f32⟩
  | .hbm, ⟨7, _⟩ => ⟨S2048x512, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x8, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x4x128, .f32⟩
  | .hbm, ⟨17, _⟩ => ⟨S2048x4, .f32⟩
  | .hbm, ⟨18, _⟩ => ⟨S_, .i32⟩
  | .hbm, ⟨19, _⟩ => ⟨S1, .i32⟩
  | .hbm, ⟨20, _⟩ => ⟨S2048x4x128, .f32⟩
  | .hbm, ⟨21, _⟩ => ⟨S2048x4, .f32⟩
  | .hbm, ⟨22, _⟩ => ⟨S_, .i32⟩
  | .hbm, ⟨23, _⟩ => ⟨S1, .i32⟩
  | .hbm, ⟨24, _⟩ => ⟨S2048x4x128, .f32⟩
  | .hbm, ⟨25, _⟩ => ⟨S2048x512, .f32⟩
  | .hbm, ⟨26, _⟩ => ⟨S2048x6656, .f32⟩
  | .hbm, ⟨27, _⟩ => ⟨S2048x6656, .bf16⟩
  | .hbm, ⟨28, _⟩ => ⟨S1x2048, .f32⟩
  | .hbm, ⟨29, _⟩ => ⟨S128x6656, .f32⟩
  | .hbm, ⟨30, _⟩ => ⟨S128x1024, .f32⟩
  | .hbm, ⟨31, _⟩ => ⟨S128x1024, .f32⟩
  | .hbm, ⟨32, _⟩ => ⟨S1x128x1x8x128, .f32⟩
  | .hbm, ⟨33, _⟩ => ⟨S1x128x1x8x128, .f32⟩
  | .hbm, ⟨34, _⟩ => ⟨S128x6144, .f32⟩
  | .local _ .vmem, ⟨0, _⟩ => ⟨S128x2048, .f32⟩
  | .local _ .vmem, ⟨1, _⟩ => ⟨S1x2048, .f32⟩
  | .local _ .vmem, ⟨2, _⟩ => ⟨S2048x1664, .bf16⟩
  | .local _ .vmem, ⟨3, _⟩ => ⟨S2048x1664, .bf16⟩
  | .local _ .vmem, ⟨4, _⟩ => ⟨S128x1664, .f32⟩
  | .local _ .vmem, ⟨5, _⟩ => ⟨S128x1664, .f32⟩
  | .local _ .vmem, ⟨6, _⟩ => ⟨S128x2048, .bf16⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S128x1x2048 : Shape := ⟨3, ![128, 1, 2048]⟩
abbrev S2x2048 : Shape := ⟨2, ![2, 2048]⟩
abbrev S1x2048x6152 : Shape := ⟨3, ![1, 2048, 6152]⟩
abbrev S1x2048 : Shape := ⟨2, ![1, 2048]⟩
abbrev S2048 : Shape := ⟨1, ![2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S2048x6152 : Shape := ⟨2, ![2048, 6152]⟩
abbrev S128x1x6152 : Shape := ⟨3, ![128, 1, 6152]⟩
abbrev S128x1x1024 : Shape := ⟨3, ![128, 1, 1024]⟩
abbrev S128x1x3072 : Shape := ⟨3, ![128, 1, 3072]⟩
abbrev S128x1x6144 : Shape := ⟨3, ![128, 1, 6144]⟩
abbrev S1x128x1x8x128 : Shape := ⟨5, ![1, 128, 1, 8, 128]⟩
abbrev S128x6144 : Shape := ⟨2, ![128, 6144]⟩

abbrev nBuf : Space → Nat
  | .hbm => 31
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S2x2048, .f32⟩
  | .hbm, ⟨2, _⟩ => ⟨S1x2048x6152, .f32⟩
  | .hbm, ⟨3, _⟩ => ⟨S1x2048, .f32⟩
  | .hbm, ⟨4, _⟩ => ⟨S2048, .f32⟩
  | .hbm, ⟨5, _⟩ => ⟨S128x1x2048, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x2048, .f32⟩
  | .hbm, ⟨17, _⟩ => ⟨S128x1x2048, .f32⟩
  | .hbm, ⟨18, _⟩ => ⟨S1x1x2048, .f32⟩
  | .hbm, ⟨19, _⟩ => ⟨S128x1x2048, .f32⟩
  | .hbm, ⟨20, _⟩ => ⟨S128x1x2048, .f32⟩
  | .hbm, ⟨21, _⟩ => ⟨S2048x6152, .f32⟩
  | .hbm, ⟨22, _⟩ => ⟨S128x1x6152, .f32⟩
  | .hbm, ⟨23, _⟩ => ⟨S128x1x1024, .f32⟩
  | .hbm, ⟨24, _⟩ => ⟨S128x1x1024, .f32⟩
  | .hbm, ⟨25, _⟩ => ⟨S128x1x3072, .f32⟩
  | .hbm, ⟨26, _⟩ => ⟨S128x1x3072, .f32⟩
  | .hbm, ⟨27, _⟩ => ⟨S128x1x6144, .f32⟩
  | .hbm, ⟨28, _⟩ => ⟨S1x128x1x8x128, .f32⟩
  | .hbm, ⟨29, _⟩ => ⟨S1x128x1x8x128, .f32⟩
  | .hbm, ⟨30, _⟩ => ⟨S128x6144, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel7.lean ====
abbrev S2x4096x1088 : Shape := ⟨3, ![2, 4096, 1088]⟩
abbrev S1x512 : Shape := ⟨2, ![1, 512]⟩
abbrev S1x512x3072 : Shape := ⟨3, ![1, 512, 3072]⟩
abbrev S1x512x4096 : Shape := ⟨3, ![1, 512, 4096]⟩
abbrev S8192x1088 : Shape := ⟨2, ![8192, 1088]⟩
abbrev S8192x64 : Shape := ⟨2, ![8192, 64]⟩
abbrev S8192x1x2x32 : Shape := ⟨4, ![8192, 1, 2, 32]⟩
abbrev S8192x1x1x32 : Shape := ⟨4, ![8192, 1, 1, 32]⟩
abbrev S8192x1x32 : Shape := ⟨3, ![8192, 1, 32]⟩
abbrev S8192x1024 : Shape := ⟨2, ![8192, 1024]⟩
abbrev S8192x1280 : Shape := ⟨2, ![8192, 1280]⟩
abbrev S512x3072 : Shape := ⟨2, ![512, 3072]⟩
abbrev S512x4096 : Shape := ⟨2, ![512, 4096]⟩
abbrev S512x16x192 : Shape := ⟨3, ![512, 16, 192]⟩
abbrev S512x16x64 : Shape := ⟨3, ![512, 16, 64]⟩
abbrev S512x1024 : Shape := ⟨2, ![512, 1024]⟩
abbrev S512x16x128 : Shape := ⟨3, ![512, 16, 128]⟩
abbrev S512x2048 : Shape := ⟨2, ![512, 2048]⟩
abbrev S512x16x2x32 : Shape := ⟨4, ![512, 16, 2, 32]⟩
abbrev S512x16x1x32 : Shape := ⟨4, ![512, 16, 1, 32]⟩
abbrev S512x16x32 : Shape := ⟨3, ![512, 16, 32]⟩
abbrev S512x16x256 : Shape := ⟨3, ![512, 16, 256]⟩
abbrev S2048x512 : Shape := ⟨2, ![2048, 512]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S512 : Shape := ⟨1, ![512]⟩
abbrev S8192x3072 : Shape := ⟨2, ![8192, 3072]⟩
abbrev S8192x512 : Shape := ⟨2, ![8192, 512]⟩
abbrev S8192x2048 : Shape := ⟨2, ![8192, 2048]⟩
abbrev S2048x8192 : Shape := ⟨2, ![2048, 8192]⟩
abbrev S256x1280 : Shape := ⟨2, ![256, 1280]⟩
abbrev S256x128 : Shape := ⟨2, ![256, 128]⟩
abbrev S256x3072 : Shape := ⟨2, ![256, 3072]⟩
abbrev S256x512 : Shape := ⟨2, ![256, 512]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S256x4096 : Shape := ⟨2, ![256, 4096]⟩
abbrev S1x2x4096x512 : Shape := ⟨4, ![1, 2, 4096, 512]⟩
abbrev S1x2x4096x64 : Shape := ⟨4, ![1, 2, 4096, 64]⟩

abbrev nBuf : Space → Nat
  | .hbm => 88
  | .vmem => 21
  | .smem => 0
  | _ => 0

abbrev bufTy : (tb : Table) → Fin (tcTables nBuf tb) → BufTy
  | .hbm, ⟨0, _⟩ => ⟨S2x4096x1088, .f32⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S8192x1088, .f32⟩
  | .hbm, ⟨6, _⟩ => ⟨S8192x64, .f32⟩
  | .hbm, ⟨7, _⟩ => ⟨S8192x64, .f32⟩
  | .hbm, ⟨8, _⟩ => ⟨S8192x1x2x32, .f32⟩
  | .hbm, ⟨9, _⟩ => ⟨S8192x1x1x32, .f32⟩
  | .hbm, ⟨10, _⟩ => ⟨S8192x1x32, .f32⟩
  | .hbm, ⟨11, _⟩ => ⟨S8192x1x32, .f32⟩
  | .hbm, ⟨12, _⟩ => ⟨S8192x1x1x32, .f32⟩
  | .hbm, ⟨13, _⟩ => ⟨S8192x1x32, .f32⟩
  | .hbm, ⟨14, _⟩ => ⟨S8192x1x1x32, .f32⟩
  | .hbm, ⟨15, _⟩ => ⟨S8192x1x1x32, .f32⟩
  | .hbm, ⟨16, _⟩ => ⟨S8192x1x2x32, .f32⟩
  | .hbm, ⟨17, _⟩ => ⟨S8192x64, .f32⟩
  | .hbm, ⟨18, _⟩ => ⟨S8192x1024, .f32⟩
  | .hbm, ⟨19, _⟩ => ⟨S8192x1280, .f32⟩
  | .hbm, ⟨20, _⟩ => ⟨S512x3072, .f32⟩
  | .hbm, ⟨21, _⟩ => ⟨S512x4096, .f32⟩
  | .hbm, ⟨22, _⟩ => ⟨S512x16x192, .f32⟩
  | .hbm, ⟨23, _⟩ => ⟨S512x16x64, .f32⟩
  | .hbm, ⟨24, _⟩ => ⟨S512x1024, .f32⟩
  | .hbm, ⟨25, _⟩ => ⟨S512x16x128, .f32⟩
  | .hbm, ⟨26, _⟩ => ⟨S512x2048, .f32⟩
  | .hbm, ⟨27, _⟩ => ⟨S512x16x2x32, .f32⟩
  | .hbm, ⟨28, _⟩ => ⟨S512x16x1x32, .f32⟩
  | .hbm, ⟨29, _⟩ => ⟨S512x16x32, .f32⟩
  | .hbm, ⟨30, _⟩ => ⟨S512x16x32, .f32⟩
  | .hbm, ⟨31, _⟩ => ⟨S512x16x1x32, .f32⟩
  | .hbm, ⟨32, _⟩ => ⟨S512x16x32, .f32⟩
  | .hbm, ⟨33, _⟩ => ⟨S512x16x1x32, .f32⟩
  | .hbm, ⟨34, _⟩ => ⟨S512x16x1x32, .f32⟩
  | .hbm, ⟨35, _⟩ => ⟨S512x16x2x32, .f32⟩
  | .hbm, ⟨36, _⟩ => ⟨S512x1024, .f32⟩
  | .hbm, ⟨37, _⟩ => ⟨S512x4096, .f32⟩
  | .hbm, ⟨38, _⟩ => ⟨S512x4096, .bf16⟩
  | .hbm, ⟨39, _⟩ => ⟨S512x16x256, .f32⟩
  | .hbm, ⟨40, _⟩ => ⟨S512x16x128, .f32⟩
  | .hbm, ⟨41, _⟩ => ⟨S512x16x128, .f32⟩
  | .hbm, ⟨42, _⟩ => ⟨S512x2048, .f32⟩
  | .hbm, ⟨43, _⟩ => ⟨S512x2048, .bf16⟩
  | .hbm, ⟨44, _⟩ => ⟨S512x2048, .f32⟩
  | .hbm, ⟨45, _⟩ => ⟨S2048x512, .f32⟩
  | .hbm, ⟨46, _⟩ => ⟨S2048x512, .bf16⟩
  | .hbm, ⟨47, _⟩ => ⟨S4096, .i32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S4096, .f32⟩
  | .hbm, ⟨57, _⟩ => ⟨S4096x1, .f32⟩
  | .hbm, ⟨58, _⟩ => ⟨S1x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S1x4096x1x32, .f32⟩
  | .hbm, ⟨64, _⟩ => ⟨S1x4096x4x32, .f32⟩
  | .hbm, ⟨65, _⟩ => ⟨S4096x128, .f32⟩
  | .hbm, ⟨66, _⟩ => ⟨S4096x32, .f32⟩
  | .hbm, ⟨67, _⟩ => ⟨S1x4096x1x32, .f32⟩
  | .hbm, ⟨68, _⟩ => ⟨S1x4096x4x32, .f32⟩
  | .hbm, ⟨69, _⟩ => ⟨S4096x128, .f32⟩
  | .hbm, ⟨70, _⟩ => ⟨S1x4096x1x128, .f32⟩
  | .hbm, ⟨71, _⟩ => ⟨S2x4096x1x128, .f32⟩
  | .hbm, ⟨72, _⟩ => ⟨S8192x128, .f32⟩
  | .hbm, ⟨73, _⟩ => ⟨S1x4096x1x128, .f32⟩
  | .hbm, ⟨74, _⟩ => ⟨S2x4096x1x128, .f32⟩
  | .hbm, ⟨75, _⟩ => ⟨S8192x128, .f32⟩
  | .hbm, ⟨76, _⟩ => ⟨S512, .f32⟩
  | .hbm, ⟨77, _⟩ => ⟨S512, .f32⟩
  | .hbm, ⟨78, _⟩ => ⟨S1x512, .f32⟩
  | .hbm, ⟨79, _⟩ => ⟨S1x512, .f32⟩
  | .hbm, ⟨80, _⟩ => ⟨S8192x3072, .bf16⟩
  | .hbm, ⟨81, _⟩ => ⟨S8192x512, .f32⟩
  | .hbm, ⟨82, _⟩ => ⟨S8192x128, .f32⟩
  | .hbm, ⟨83, _⟩ => ⟨S8192x2048, .bf16⟩
  | .hbm, ⟨84, _⟩ => ⟨S2048x8192, .bf16⟩
  | .hbm, ⟨85, _⟩ => ⟨S1x2x4096x512, .f32⟩
  | .hbm, ⟨86, _⟩ => ⟨S8192x64, .f32⟩
  | .hbm, ⟨87, _⟩ => ⟨S1x2x4096x64, .f32⟩
  | .local _ .vmem, ⟨0, _⟩ => ⟨S256x1280, .f32⟩
  | .local _ .vmem, ⟨1, _⟩ => ⟨S256x1280, .f32⟩
  | .local _ .vmem, ⟨2, _⟩ => ⟨S1x512, .f32⟩
  | .local _ .vmem, ⟨3, _⟩ => ⟨S1x512, .f32⟩
  | .local _ .vmem, ⟨4, _⟩ => ⟨S512x4096, .bf16⟩
  | .local _ .vmem, ⟨5, _⟩ => ⟨S512x2048, .bf16⟩
  | .local _ .vmem, ⟨6, _⟩ => ⟨S2048x512, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x3072, .bf16⟩
  | .local _ .vmem, ⟨12, _⟩ => ⟨S256x3072, .bf16⟩
  | .local _ .vmem, ⟨13, _⟩ => ⟨S256x512, .f32⟩
  | .local _ .vmem, ⟨14, _⟩ => ⟨S256x512, .f32⟩
  | .local _ .vmem, ⟨15, _⟩ => ⟨S256x128, .f32⟩
  | .local _ .vmem, ⟨16, _⟩ => ⟨S256x128, .f32⟩
  | .local _ .vmem, ⟨17, _⟩ => ⟨S256x2048, .bf16⟩
  | .local _ .vmem, ⟨18, _⟩ => ⟨S256x2048, .bf16⟩
  | .local _ .vmem, ⟨19, _⟩ => ⟨S2048x256, .bf16⟩
  | .local _ .vmem, ⟨20, _⟩ => ⟨S2048x256, .bf16⟩
  | _, _ => ⟨S2x4096x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst : Ref sig .tc := ⟨.hbm, 50, rfl⟩
abbrev main_v45 : Ref sig .tc := ⟨.hbm, 51, rfl⟩
abbrev main_v46 : Ref sig .tc := ⟨.hbm, 52, rfl⟩
abbrev main_cst_0 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73_0 : Ref sig .tc := ⟨.hbm, 80, rfl⟩
abbrev main_v73_1 : Ref sig .tc := ⟨.hbm, 81, rfl⟩
abbrev main_v73_2 : Ref sig .tc := ⟨.hbm, 82, rfl⟩
abbrev main_v73_3 : Ref sig .tc := ⟨.hbm, 83, rfl⟩
abbrev main_v73_4 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S2x4096x1088 : Shape := ⟨3, ![2, 4096, 1088]⟩
abbrev S1x512 : Shape := ⟨2, ![1, 512]⟩
abbrev S1x512x3072 : Shape := ⟨3, ![1, 512, 3072]⟩
abbrev S1x512x4096 : Shape := ⟨3, ![1, 512, 4096]⟩
abbrev S4096 : Shape := ⟨1, ![4096]⟩
abbrev S2x4096x512 : Shape := ⟨3, ![2, 4096, 512]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x64 : Shape := ⟨3, ![2, 4096, 64]⟩
abbrev S2x4096x1x64 : Shape := ⟨4, ![2, 4096, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S512x4096 : Shape := ⟨2, ![512, 4096]⟩
abbrev S512x16x256 : Shape := ⟨3, ![512, 16, 256]⟩
abbrev S512x16x128 : Shape := ⟨3, ![512, 16, 128]⟩
abbrev S2x4096x16x128 : Shape := ⟨4, ![2, 4096, 16, 128]⟩
abbrev S1x2x4096x512 : Shape := ⟨4, ![1, 2, 4096, 512]⟩
abbrev S1x2x4096x64 : Shape := ⟨4, ![1, 2, 4096, 64]⟩
abbrev S8192x2048 : Shape := ⟨2, ![8192, 2048]⟩
abbrev S2048x8192 : Shape := ⟨2, ![2048, 8192]⟩

abbrev nBuf : Space → Nat
  | .hbm => 71
  | .vmem => 0
  | .smem => 0
  | _ => 0

abbrev bufTy : (tb : Table) → Fin (tcTables nBuf tb) → BufTy
  | .hbm, ⟨0, _⟩ => ⟨S2x4096x1088, .f32⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S4096, .i32⟩
  | .hbm, ⟨6, _⟩ => ⟨S2x4096x512, .f32⟩
  | .hbm, ⟨7, _⟩ => ⟨S512, .f32⟩
  | .hbm, ⟨8, _⟩ => ⟨S2x4096x512, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x512, .f32⟩
  | .hbm, ⟨20, _⟩ => ⟨S2x4096x512, .f32⟩
  | .hbm, ⟨21, _⟩ => ⟨S1x1x512, .f32⟩
  | .hbm, ⟨22, _⟩ => ⟨S2x4096x512, .f32⟩
  | .hbm, ⟨23, _⟩ => ⟨S2x4096x512, .f32⟩
  | .hbm, ⟨24, _⟩ => ⟨S2x4096x64, .f32⟩
  | .hbm, ⟨25, _⟩ => ⟨S2x4096x1x64, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S4096, .f32⟩
  | .hbm, ⟨35, _⟩ => ⟨S4096x1, .f32⟩
  | .hbm, ⟨36, _⟩ => ⟨S1x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S1x4096x1x32, .f32⟩
  | .hbm, ⟨42, _⟩ => ⟨S4096x32, .f32⟩
  | .hbm, ⟨43, _⟩ => ⟨S1x4096x1x32, .f32⟩
  | .hbm, ⟨44, _⟩ => ⟨S2x4096x1x32, .f32⟩
  | .hbm, ⟨45, _⟩ => ⟨S2x4096x1x32, .f32⟩
  | .hbm, ⟨46, _⟩ => ⟨S2x4096x1x32, .f32⟩
  | .hbm, ⟨47, _⟩ => ⟨S2x4096x1x32, .f32⟩
  | .hbm, ⟨48, _⟩ => ⟨S2x4096x1x32, .f32⟩
  | .hbm, ⟨49, _⟩ => ⟨S2x4096x1x32, .f32⟩
  | .hbm, ⟨50, _⟩ => ⟨S2x4096x1x32, .f32⟩
  | .hbm, ⟨51, _⟩ => ⟨S2x4096x1x32, .f32⟩
  | .hbm, ⟨52, _⟩ => ⟨S2x4096x1x32, .f32⟩
  | .hbm, ⟨53, _⟩ => ⟨S2x4096x1x32, .f32⟩
  | .hbm, ⟨54, _⟩ => ⟨S2x4096x1x32, .f32⟩
  | .hbm, ⟨55, _⟩ => ⟨S2x4096x1x32, .f32⟩
  | .hbm, ⟨56, _⟩ => ⟨S2x4096x1x64, .f32⟩
  | .hbm, ⟨57, _⟩ => ⟨S2x4096x64, .f32⟩
  | .hbm, ⟨58, _⟩ => ⟨S512x4096, .f32⟩
  | .hbm, ⟨59, _⟩ => ⟨S512x16x256, .f32⟩
  | .hbm, ⟨60, _⟩ => ⟨S512x16x128, .f32⟩
  | .hbm, ⟨61, _⟩ => ⟨S2x4096x16x128, .f32⟩
  | .hbm, ⟨62, _⟩ => ⟨S512x16x128, .f32⟩
  | .hbm, ⟨63, _⟩ => ⟨S2x4096x16x128, .f32⟩
  | .hbm, ⟨64, _⟩ => ⟨S1x2x4096x512, .f32⟩
  | .hbm, ⟨65, _⟩ => ⟨S1x2x4096x64, .f32⟩
  | .hbm, ⟨66, _⟩ => ⟨S8192x2048, .f32⟩
  | .hbm, ⟨67, _⟩ => ⟨S8192x2048, .bf16⟩
  | .hbm, ⟨68, _⟩ => ⟨S8192x2048, .f32⟩
  | .hbm, ⟨69, _⟩ => ⟨S2048x8192, .f32⟩
  | .hbm, ⟨70, _⟩ => ⟨S2048x8192, .bf16⟩
  | _, _ => ⟨S2x4096x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩

abbrev nD : Nat := 1
abbrev τ : Topo := Topo.v7x

variable {F : FTy → Type} [FloatOps F]
-- ==== Kernel8.lean ====
abbrev S128x1x1088 : Shape := ⟨3, ![128, 1, 1088]⟩
abbrev S1x512 : Shape := ⟨2, ![1, 512]⟩
abbrev S1x512x3072 : Shape := ⟨3, ![1, 512, 3072]⟩
abbrev S1x512x4096 : Shape := ⟨3, ![1, 512, 4096]⟩
abbrev S128x1088 : Shape := ⟨2, ![128, 1088]⟩
abbrev S128x64 : Shape := ⟨2, ![128, 64]⟩
abbrev S128x1x2x32 : Shape := ⟨4, ![128, 1, 2, 32]⟩
abbrev S128x1x1x32 : Shape := ⟨4, ![128, 1, 1, 32]⟩
abbrev S128x1x32 : Shape := ⟨3, ![128, 1, 32]⟩
abbrev S128x1024 : Shape := ⟨2, ![128, 1024]⟩
abbrev S128x1280 : Shape := ⟨2, ![128, 1280]⟩
abbrev S512x3072 : Shape := ⟨2, ![512, 3072]⟩
abbrev S512x4096 : Shape := ⟨2, ![512, 4096]⟩
abbrev S512x16x192 : Shape := ⟨3, ![512, 16, 192]⟩
abbrev S512x16x64 : Shape := ⟨3, ![512, 16, 64]⟩
abbrev S512x1024 : Shape := ⟨2, ![512, 1024]⟩
abbrev S512x16x128 : Shape := ⟨3, ![512, 16, 128]⟩
abbrev S512x2048 : Shape := ⟨2, ![512, 2048]⟩
abbrev S512x16x2x32 : Shape := ⟨4, ![512, 16, 2, 32]⟩
abbrev S512x16x1x32 : Shape := ⟨4, ![512, 16, 1, 32]⟩
abbrev S512x16x32 : Shape := ⟨3, ![512, 16, 32]⟩
abbrev S512x16x256 : Shape := ⟨3, ![512, 16, 256]⟩
abbrev S2048x512 : Shape := ⟨2, ![2048, 512]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S1x1x4x32 : Shape := ⟨4, ![1, 1, 4, 32]⟩
abbrev S1x128 : Shape := ⟨2, ![1, 128]⟩
abbrev S1x1x1x128 : Shape := ⟨4, ![1, 1, 1, 128]⟩
abbrev S128x1x1x128 : Shape := ⟨4, ![128, 1, 1, 128]⟩
abbrev S128x128 : Shape := ⟨2, ![128, 128]⟩
abbrev S512 : Shape := ⟨1, ![512]⟩
abbrev S128x3072 : Shape := ⟨2, ![128, 3072]⟩
abbrev S128x512 : Shape := ⟨2, ![128, 512]⟩
abbrev S128 : Shape := ⟨1, ![128]⟩
abbrev S128x1 : Shape := ⟨2, ![128, 1]⟩
abbrev S128x4096 : Shape := ⟨2, ![128, 4096]⟩
abbrev S128x2048 : Shape := ⟨2, ![128, 2048]⟩
abbrev S1x128x1x512 : Shape := ⟨4, ![1, 128, 1, 512]⟩
abbrev S1x128x1x64 : Shape := ⟨4, ![1, 128, 1, 64]⟩

abbrev nBuf : Space → Nat
  | .hbm => 88
  | .vmem => 11
  | .smem => 0
  | _ => 0

abbrev bufTy : (tb : Table) → Fin (tcTables nBuf tb) → BufTy
  | .hbm, ⟨0, _⟩ => ⟨S128x1x1088, .f32⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S128x1088, .f32⟩
  | .hbm, ⟨6, _⟩ => ⟨S128x64, .f32⟩
  | .hbm, ⟨7, _⟩ => ⟨S128x64, .f32⟩
  | .hbm, ⟨8, _⟩ => ⟨S128x1x2x32, .f32⟩
  | .hbm, ⟨9, _⟩ => ⟨S128x1x1x32, .f32⟩
  | .hbm, ⟨10, _⟩ => ⟨S128x1x32, .f32⟩
  | .hbm, ⟨11, _⟩ => ⟨S128x1x32, .f32⟩
  | .hbm, ⟨12, _⟩ => ⟨S128x1x1x32, .f32⟩
  | .hbm, ⟨13, _⟩ => ⟨S128x1x32, .f32⟩
  | .hbm, ⟨14, _⟩ => ⟨S128x1x1x32, .f32⟩
  | .hbm, ⟨15, _⟩ => ⟨S128x1x1x32, .f32⟩
  | .hbm, ⟨16, _⟩ => ⟨S128x1x2x32, .f32⟩
  | .hbm, ⟨17, _⟩ => ⟨S128x64, .f32⟩
  | .hbm, ⟨18, _⟩ => ⟨S128x1024, .f32⟩
  | .hbm, ⟨19, _⟩ => ⟨S128x1280, .f32⟩
  | .hbm, ⟨20, _⟩ => ⟨S512x3072, .f32⟩
  | .hbm, ⟨21, _⟩ => ⟨S512x4096, .f32⟩
  | .hbm, ⟨22, _⟩ => ⟨S512x16x192, .f32⟩
  | .hbm, ⟨23, _⟩ => ⟨S512x16x64, .f32⟩
  | .hbm, ⟨24, _⟩ => ⟨S512x1024, .f32⟩
  | .hbm, ⟨25, _⟩ => ⟨S512x16x128, .f32⟩
  | .hbm, ⟨26, _⟩ => ⟨S512x2048, .f32⟩
  | .hbm, ⟨27, _⟩ => ⟨S512x16x2x32, .f32⟩
  | .hbm, ⟨28, _⟩ => ⟨S512x16x1x32, .f32⟩
  | .hbm, ⟨29, _⟩ => ⟨S512x16x32, .f32⟩
  | .hbm, ⟨30, _⟩ => ⟨S512x16x32, .f32⟩
  | .hbm, ⟨31, _⟩ => ⟨S512x16x1x32, .f32⟩
  | .hbm, ⟨32, _⟩ => ⟨S512x16x32, .f32⟩
  | .hbm, ⟨33, _⟩ => ⟨S512x16x1x32, .f32⟩
  | .hbm, ⟨34, _⟩ => ⟨S512x16x1x32, .f32⟩
  | .hbm, ⟨35, _⟩ => ⟨S512x16x2x32, .f32⟩
  | .hbm, ⟨36, _⟩ => ⟨S512x1024, .f32⟩
  | .hbm, ⟨37, _⟩ => ⟨S512x4096, .f32⟩
  | .hbm, ⟨38, _⟩ => ⟨S512x4096, .bf16⟩
  | .hbm, ⟨39, _⟩ => ⟨S512x16x256, .f32⟩
  | .hbm, ⟨40, _⟩ => ⟨S512x16x128, .f32⟩
  | .hbm, ⟨41, _⟩ => ⟨S512x16x128, .f32⟩
  | .hbm, ⟨42, _⟩ => ⟨S512x2048, .f32⟩
  | .hbm, ⟨43, _⟩ => ⟨S512x2048, .bf16⟩
  | .hbm, ⟨44, _⟩ => ⟨S512x2048, .f32⟩
  | .hbm, ⟨45, _⟩ => ⟨S2048x512, .f32⟩
  | .hbm, ⟨46, _⟩ => ⟨S2048x512, .bf16⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S1, .i32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S1, .f32⟩
  | .hbm, ⟨60, _⟩ => ⟨S1x1, .f32⟩
  | .hbm, ⟨61, _⟩ => ⟨S1x32, .f32⟩
  | .hbm, ⟨62, _⟩ => ⟨S1x32, .f32⟩
  | .hbm, ⟨63, _⟩ => ⟨S1x32, .f32⟩
  | .hbm, ⟨64, _⟩ => ⟨S1x32, .f32⟩
  | .hbm, ⟨65, _⟩ => ⟨S1x1x1x32, .f32⟩
  | .hbm, ⟨66, _⟩ => ⟨S1x1x4x32, .f32⟩
  | .hbm, ⟨67, _⟩ => ⟨S1x128, .f32⟩
  | .hbm, ⟨68, _⟩ => ⟨S1x32, .f32⟩
  | .hbm, ⟨69, _⟩ => ⟨S1x1x1x32, .f32⟩
  | .hbm, ⟨70, _⟩ => ⟨S1x1x4x32, .f32⟩
  | .hbm, ⟨71, _⟩ => ⟨S1x128, .f32⟩
  | .hbm, ⟨72, _⟩ => ⟨S1x1x1x128, .f32⟩
  | .hbm, ⟨73, _⟩ => ⟨S128x1x1x128, .f32⟩
  | .hbm, ⟨74, _⟩ => ⟨S128x128, .f32⟩
  | .hbm, ⟨75, _⟩ => ⟨S1x1x1x128, .f32⟩
  | .hbm, ⟨76, _⟩ => ⟨S128x1x1x128, .f32⟩
  | .hbm, ⟨77, _⟩ => ⟨S128x128, .f32⟩
  | .hbm, ⟨78, _⟩ => ⟨S512, .f32⟩
  | .hbm, ⟨79, _⟩ => ⟨S512, .f32⟩
  | .hbm, ⟨80, _⟩ => ⟨S1x512, .f32⟩
  | .hbm, ⟨81, _⟩ => ⟨S1x512, .f32⟩
  | .hbm, ⟨82, _⟩ => ⟨S128x3072, .bf16⟩
  | .hbm, ⟨83, _⟩ => ⟨S128x512, .f32⟩
  | .hbm, ⟨84, _⟩ => ⟨S128x128, .f32⟩
  | .hbm, ⟨85, _⟩ => ⟨S1x128x1x512, .f32⟩
  | .hbm, ⟨86, _⟩ => ⟨S128x64, .f32⟩
  | .hbm, ⟨87, _⟩ => ⟨S1x128x1x64, .f32⟩
  | .local _ .vmem, ⟨0, _⟩ => ⟨S128x1280, .f32⟩
  | .local _ .vmem, ⟨1, _⟩ => ⟨S1x512, .f32⟩
  | .local _ .vmem, ⟨2, _⟩ => ⟨S1x512, .f32⟩
  | .local _ .vmem, ⟨3, _⟩ => ⟨S512x4096, .bf16⟩
  | .local _ .vmem, ⟨4, _⟩ => ⟨S512x2048, .bf16⟩
  | .local _ .vmem, ⟨5, _⟩ => ⟨S2048x512, .bf16⟩
  | .local _ .vmem, ⟨6, _⟩ => ⟨S128x128, .f32⟩
  | .local _ .vmem, ⟨7, _⟩ => ⟨S128x128, .f32⟩
  | .local _ .vmem, ⟨8, _⟩ => ⟨S128x3072, .bf16⟩
  | .local _ .vmem, ⟨9, _⟩ => ⟨S128x512, .f32⟩
  | .local _ .vmem, ⟨10, _⟩ => ⟨S128x128, .f32⟩
  | _, _ => ⟨S128x1x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst : Ref sig .tc := ⟨.hbm, 53, rfl⟩
abbrev main_v47 : Ref sig .tc := ⟨.hbm, 54, rfl⟩
abbrev main_v48 : Ref sig .tc := ⟨.hbm, 55, rfl⟩
abbrev main_cst_0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74_0 : Ref sig .tc := ⟨.hbm, 82, rfl⟩
abbrev main_v74_1 : Ref sig .tc := ⟨.hbm, 83, rfl⟩
abbrev main_v74_2 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference8Ideal.lean ====
abbrev S128x1x1088 : Shape := ⟨3, ![128, 1, 1088]⟩
abbrev S1x512 : Shape := ⟨2, ![1, 512]⟩
abbrev S1x512x3072 : Shape := ⟨3, ![1, 512, 3072]⟩
abbrev S1x512x4096 : Shape := ⟨3, ![1, 512, 4096]⟩
abbrev S1 : Shape := ⟨1, ![1]⟩
abbrev S_ : Shape := ⟨0, ![]⟩
abbrev S128x1x512 : Shape := ⟨3, ![128, 1, 512]⟩
abbrev S512 : Shape := ⟨1, ![512]⟩
abbrev S128x1 : Shape := ⟨2, ![128, 1]⟩
abbrev S128x1x1 : Shape := ⟨3, ![128, 1, 1]⟩
abbrev S1x1x512 : Shape := ⟨3, ![1, 1, 512]⟩
abbrev S128x1x64 : Shape := ⟨3, ![128, 1, 64]⟩
abbrev S128x1x1x64 : Shape := ⟨4, ![128, 1, 1, 64]⟩
abbrev S32 : Shape := ⟨1, ![32]⟩
abbrev S1x1 : Shape := ⟨2, ![1, 1]⟩
abbrev S1x32 : Shape := ⟨2, ![1, 32]⟩
abbrev S1x1x1x32 : Shape := ⟨4, ![1, 1, 1, 32]⟩
abbrev S128x1x1x32 : Shape := ⟨4, ![128, 1, 1, 32]⟩
abbrev S1x128x1x512 : Shape := ⟨4, ![1, 128, 1, 512]⟩
abbrev S1x128x1x64 : Shape := ⟨4, ![1, 128, 1, 64]⟩

abbrev nBuf : Space → Nat
  | .hbm => 62
  | .vmem => 0
  | .smem => 0
  | _ => 0

abbrev bufTy : (tb : Table) → Fin (tcTables nBuf tb) → BufTy
  | .hbm, ⟨0, _⟩ => ⟨S128x1x1088, .f32⟩
  | .hbm, ⟨1, _⟩ => ⟨S1x512, .f32⟩
  | .hbm, ⟨2, _⟩ => ⟨S1x512, .f32⟩
  | .hbm, ⟨3, _⟩ => ⟨S1x512x3072, .f32⟩
  | .hbm, ⟨4, _⟩ => ⟨S1x512x4096, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S128x1x512, .f32⟩
  | .hbm, ⟨10, _⟩ => ⟨S512, .f32⟩
  | .hbm, ⟨11, _⟩ => ⟨S128x1x512, .f32⟩
  | .hbm, ⟨12, _⟩ => ⟨S_, .f32⟩
  | .hbm, ⟨13, _⟩ => ⟨S128x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S128x1x1, .f32⟩
  | .hbm, ⟨22, _⟩ => ⟨S128x1x512, .f32⟩
  | .hbm, ⟨23, _⟩ => ⟨S128x1x512, .f32⟩
  | .hbm, ⟨24, _⟩ => ⟨S1x1x512, .f32⟩
  | .hbm, ⟨25, _⟩ => ⟨S128x1x512, .f32⟩
  | .hbm, ⟨26, _⟩ => ⟨S128x1x512, .f32⟩
  | .hbm, ⟨27, _⟩ => ⟨S128x1x64, .f32⟩
  | .hbm, ⟨28, _⟩ => ⟨S128x1x1x64, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S1, .f32⟩
  | .hbm, ⟨38, _⟩ => ⟨S1x1, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S1x32, .f32⟩
  | .hbm, ⟨43, _⟩ => ⟨S1x1x1x32, .f32⟩
  | .hbm, ⟨44, _⟩ => ⟨S1x32, .f32⟩
  | .hbm, ⟨45, _⟩ => ⟨S1x1x1x32, .f32⟩
  | .hbm, ⟨46, _⟩ => ⟨S128x1x1x32, .f32⟩
  | .hbm, ⟨47, _⟩ => ⟨S128x1x1x32, .f32⟩
  | .hbm, ⟨48, _⟩ => ⟨S128x1x1x32, .f32⟩
  | .hbm, ⟨49, _⟩ => ⟨S128x1x1x32, .f32⟩
  | .hbm, ⟨50, _⟩ => ⟨S128x1x1x32, .f32⟩
  | .hbm, ⟨51, _⟩ => ⟨S128x1x1x32, .f32⟩
  | .hbm, ⟨52, _⟩ => ⟨S128x1x1x32, .f32⟩
  | .hbm, ⟨53, _⟩ => ⟨S128x1x1x32, .f32⟩
  | .hbm, ⟨54, _⟩ => ⟨S128x1x1x32, .f32⟩
  | .hbm, ⟨55, _⟩ => ⟨S128x1x1x32, .f32⟩
  | .hbm, ⟨56, _⟩ => ⟨S128x1x1x32, .f32⟩
  | .hbm, ⟨57, _⟩ => ⟨S128x1x1x32, .f32⟩
  | .hbm, ⟨58, _⟩ => ⟨S128x1x1x64, .f32⟩
  | .hbm, ⟨59, _⟩ => ⟨S128x1x64, .f32⟩
  | .hbm, ⟨60, _⟩ => ⟨S1x128x1x512, .f32⟩
  | .hbm, ⟨61, _⟩ => ⟨S1x128x1x64, .f32⟩
  | _, _ => ⟨S128x1x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Proof.AttScore.lean ====
module
public import Idealize.ShloMosaic.Lib.Pointwise
public import Idealize.ShloMosaic.Lib.WordCmp
@[expose] public section
noncomputable section
open Idealize.ShloMosaic
namespace Cert.Att

/-! # The attention, written plainly on the extended reals

`x0` holds the queries (batch, position, head, 128 lanes without position and 64 rotated), `x1` the keys without position, `x2` the
values, `x3` the rotated keys, shared by the heads. -/

variable (x0 : (⟨4, ![2, 4096, 16, 192]⟩ : Shape).Idx → EReal) (x1 x2 : (⟨4, ![2, 4096, 16, 128]⟩ : Shape).Idx → EReal)
  (x3 : (⟨3, ![2, 4096, 64]⟩ : Shape).Idx → EReal)

/-- The score of the query at `t` with the key at `k`, before the mask. -/
def rawScore (b : Fin 2) (h : Fin 16) (t k : Fin 4096) : EReal :=
  (∑ d : Fin 128, x0 (ix4 b t h ⟨d.val, by omega⟩) * x1 (ix4 b k h d) + ∑ d : Fin 64, x0 (ix4 b t h ⟨128 + d.val, by omega⟩) * x3 (ix3 b k d)) *
    Ideal.ofBits .f32 0x3D93CD3A#32

/-- The row of masked scores of a query: a key after the query is masked. -/
def score (b : Fin 2) (h : Fin 16) (t : Fin 4096) : ℕ → EReal := fun k =>
  if hk : k < 4096 then (if k ≤ t.val then rawScore x0 x1 x3 b h t ⟨k, hk⟩ else ⊥) else ⊥

/-- A column of values of a head. -/
def value (b : Fin 2) (h : Fin 16) (d : Fin 128) : ℕ → EReal := fun k => if hk : k < 4096 then x2 (ix4 b ⟨k, hk⟩ h d) else 0

/-- The greatest score of a row. -/
def top (b : Fin 2) (h : Fin 16) (t : Fin 4096) : EReal := Finset.fold max ⊥ (fun k : Fin 4096 => score x0 x1 x3 b h t k.val) Finset.univ

/-- One element of the attention's output. -/
def out (b : Fin 2) (h : Fin 16) (t : Fin 4096) (d : Fin 128) : EReal :=
  ∑ k : Fin 4096, value x2 b h d k.val * Ideal.div (Ideal.exp (score x0 x1 x3 b h t k.val - top x0 x1 x3 b h t))
    (∑ k : Fin 4096, Ideal.exp (score x0 x1 x3 b h t k.val - top x0 x1 x3 b h t))

/-- The constant that stands for minus infinity. -/
theorem ofBits_neg_inf : Ideal.ofBits .f32 0xFF800000#32 = ⊥ := by
  simp [Ideal.ofBits, Ideal.ieee]

/-- A choice by a signed comparison of words below the sign bit is the choice by their numbers. -/
theorem select_le {α : Type} (x y : BitVec 32) (a b : ℕ) (hx : x.toNat = a) (hy : y.toNat = b) (ha : a < 2 ^ 31) (hb : b < 2 ^ 31) (p q : α) :
    Scalar.select (IntOp.cmpi .sle x y) p q = if a ≤ b then p else q := by
  subst hx hy
  rw [WordCmp.cmpi_sle_of_lt ha hb, WordCmp.select_ofBool]
  simp only [decide_eq_true_eq]

theorem select_lt {α : Type} (x y : BitVec 32) (a b : ℕ) (hx : x.toNat = a) (hy : y.toNat = b) (ha : a < 2 ^ 31) (hb : b < 2 ^ 31) (p q : α) :
    Scalar.select (IntOp.cmpi .slt x y) p q = if a < b then p else q := by
  subst hx hy
  rw [WordCmp.cmpi_slt_of_lt ha hb, WordCmp.select_ofBool]
  simp only [decide_eq_true_eq]

theorem select_ge {α : Type} (x y : BitVec 32) (a b : ℕ) (hx : x.toNat = a) (hy : y.toNat = b) (ha : a < 2 ^ 31) (hb : b < 2 ^ 31) (p q : α) :
    Scalar.select (IntOp.cmpi .sge x y) p q = if b ≤ a then p else q := by
  subst hx hy
  rw [WordCmp.cmpi_sge_of_lt ha hb, WordCmp.select_ofBool]
  simp only [decide_eq_true_eq]

end Cert.Att
end
-- ==== Proof.AttRef.lean ====
module
public import proofs.«01_k».proof.Proof.Gen.ReferenceIdeal.Read
public import proofs.«01_k».proof.Proof.AttScore
@[expose] public section
set_option maxRecDepth 16384
noncomputable section
open Idealize.ShloMosaic
namespace Cert.ReferenceIdeal.Att
open Cert.ReferenceIdeal Cert.ReferenceIdeal.Read Cert.Att

/-! # The reference, read at an index -/

variable (x0 : (⟨S2x4096x16x192, .f32⟩ : BufTy).Contents (Elt Ideal)) (x1 x2 : (⟨S2x4096x16x128, .f32⟩ : BufTy).Contents (Elt Ideal))
  (x3 : (⟨S2x4096x64, .f32⟩ : BufTy).Contents (Elt Ideal))

theorem v12_apply (b : Fin 2) (h : Fin 16) (t k : Fin 4096) :
    val_main_v12 (F := Ideal) x0 x1 x3 (ix4 b h t k) = score x0 x1 x3 b h t k.val := by
  pointwise [val_main_v12, val_main_v6, val_main_v5, val_main_cst, val_main_v4, val_main_v3, val_main_v2, val_main_v1, val_main_call0_v1,
    val_main_call0_v2, val_main_call0_v0, val_main_cst_0, val_main_v11, val_main_v10, val_main_v9, val_main_v8, val_main_v7, val_main_v0]
  rw [show id (constant (F := Ideal) S_ FTy.f32 4286578688#32) ix0 = (⊥ : EReal) from ofBits_neg_inf]
  rw [select_le _ _ k.val t.val (Nat.mod_eq_of_lt (by omega)) (Nat.mod_eq_of_lt (by omega)) (by omega) (by omega)]
  unfold score rawScore
  rw [dif_pos k.isLt]

theorem reduces : S2x16x4096x4096.Reduces [3] S2x16x4096 := by decide

theorem rowMax (y : S2x16x4096x4096.Idx → EReal) (z : S_.Idx → EReal) (h' : S2x16x4096x4096.ReducesTo [3] S2x16x4096) (hu : 0 < S_.numel) (b : Fin 2) (h : Fin 16) (t : Fin 4096) :
    Host.reduce (max : EReal → EReal → EReal) y z h' hu (ix3 b h t) =
      Finset.fold max (z (Shape.Idx.first hu)) (fun k : Fin 4096 => y (ix4 b h t k)) Finset.univ := by
  rw [Host.reduce_eq_fold_single _ _ _ _ reduces]
  congr 1
  funext k
  show y _ = y _
  congr 1
  funext a
  match a with
  | ⟨0, _⟩ => rfl
  | ⟨1, _⟩ => rfl
  | ⟨2, _⟩ => rfl
  | ⟨3, _⟩ => rfl
theorem v13_apply (b : Fin 2) (h : Fin 16) (t : Fin 4096) : val_main_v13 (F := Ideal) x0 x1 x3 (ix3 b h t) = top x0 x1 x3 b h t := by
  unfold val_main_v13 top
  refine (rowMax _ _ _ _ b h t).trans ?_
  simp only [v12_apply]
  rw [show val_main_cst_1 (F := Ideal) (Shape.Idx.first _) = (⊥ : EReal) from ofBits_neg_inf]

theorem v14_apply (b : Fin 2) (h : Fin 16) (t : Fin 4096) : val_main_v14 (F := Ideal) (ix3 b h t) = (⊥ : EReal) := by
  rw [val_main_v14_apply, val_main_cst_2_apply]
  exact ofBits_neg_inf

theorem v15_apply (b : Fin 2) (h : Fin 16) (t : Fin 4096) : val_main_v15 (F := Ideal) x0 x1 x3 (ix3 b h t) = top x0 x1 x3 b h t := by
  rw [val_main_v15_apply, v13_apply, v14_apply]
  exact max_eq_right bot_le

theorem v24_apply (b : Fin 2) (h : Fin 16) (d : Fin 128) (t : Fin 4096) :
    val_main_v24 (F := Ideal) x0 x1 x2 x3 (ix4 b h d t) = out x0 x1 x2 x3 b h t d := by
  pointwise [val_main_v24, val_main_v23, val_main_v22, val_main_v21, val_main_v20, val_main_v19, val_main_v18, val_main_v17, val_main_v16,
    val_main_cst_3]
  unfold out
  simp only [v12_apply, v15_apply, value, Fin.isLt, dite_true]

theorem v27_apply (r : Fin 8192) (j : Fin 2048) : val_main_v27 (F := Ideal) x0 x1 x2 x3 (ix2 r j) =
    out x0 x1 x2 x3 ⟨r.val / 4096, by omega⟩ ⟨j.val / 128, by omega⟩ ⟨r.val % 4096, by omega⟩ ⟨j.val % 128, by omega⟩ := by
  pointwise [val_main_v27, val_main_v26, val_main_v25]
  exact v24_apply x0 x1 x2 x3 _ _ _ _
end Cert.ReferenceIdeal.Att
end
-- ==== Proof.AttSteps.lean ====
module
public import proofs.«01_k».proof.Proof.Gen.KernelIdeal.Frame
public import Idealize.ShloMosaic.Lib.Pipeline.Value
public import Idealize.ShloMosaic.Lib.Pipeline.ReadBack
public import Idealize.ShloMosaic.Lib.Pipeline.ValueKit.Acc
public import Idealize.ShloMosaic.Lib.ValueIdxCore
@[expose] public section
set_option maxRecDepth 16384
noncomputable section
open Idealize.ShloMosaic Idealize.ShloMosaic.TcCoe Idealize.ShloMosaic.Tactic Idealize.SL.Sem
open Idealize.ShloMosaic.ValueIdx
namespace Cert.KernelIdeal.Att
open Cert.KernelIdeal Cert.KernelIdeal.Gen
variable {F : FTy → Type} [FloatOps F]

/-! # What one grid point of the attention leaves, head by head

A grid point holds one block of 512 queries (`x0`), one block of 512 keys (`x1`, `x3`) and values (`x2`), and for each of the
16 heads a running maximum, a running sum and a running weighted sum. The body treats the heads one after the other with the
same operations; here those operations are written once, over the head's number. -/

/-- The queries of head `h` that meet the keys without position. -/
abbrev qn (x0 : Vec F S512x3072 .bf16) (h : ℕ) (hh : h < 16) : Vec F S512x128 .bf16 :=
  View.ld x0 (Rect.unit (s := S512x3072) ![0, 128 * h] ![512, 128] (fun a => match a with | ⟨0, _⟩ => (by decide : 0 + 512 ≤ 512) | ⟨1, _⟩ => (by omega : 128 * h + 128 ≤ 3072)))
/-- The rotated queries of the pair of heads that `h` belongs to, side by side. -/
abbrev qp (x0 : Vec F S512x3072 .bf16) (h : ℕ) (hh : h < 16) : Vec F S512x128 .bf16 :=
  View.ld x0 (Rect.unit (s := S512x3072) ![0, 2048 + 128 * (h / 2)] ![512, 128] (fun a => match a with | ⟨0, _⟩ => (by decide : 0 + 512 ≤ 512) | ⟨1, _⟩ => (by omega : 2048 + 128 * (h / 2) + 128 ≤ 3072)))
/-- The keys without position of head `h`. -/
abbrev kn (x1 : Vec F S512x2048 .bf16) (h : ℕ) (hh : h < 16) : Vec F S512x128 .bf16 :=
  View.ld x1 (Rect.unit (s := S512x2048) ![0, 128 * h] ![512, 128] (fun a => match a with | ⟨0, _⟩ => (by decide : 0 + 512 ≤ 512) | ⟨1, _⟩ => (by omega : 128 * h + 128 ≤ 2048)))
/-- The values of head `h`, transposed. -/
abbrev vh (x2 : Vec F S2048x512 .bf16) (h : ℕ) (hh : h < 16) : Vec F S128x512 .bf16 :=
  View.ld x2 (Rect.unit (s := S2048x512) ![128 * h, 0] ![128, 512] (fun a => match a with | ⟨0, _⟩ => (by omega : 128 * h + 128 ≤ 2048) | ⟨1, _⟩ => (by decide : 0 + 512 ≤ 512)))
/-- The keys with position, read whole. -/
abbrev kp (x3 : Vec F S512x128 .f32) : Vec F S512x128 .f32 :=
  View.ld x3 (Rect.unit (s := S512x128) ![0, 0] ![512, 128] inb_S512x128_S512x128_0_0)
/-- The keys with position of head `h`: in the half of the pair's lanes that is the head's, zero in the other half. -/
def kpsel (x3 : Vec F S512x128 .f32) (h : ℕ) : FVec F S512x128 .bf16 := if h % 2 = 0 then k0_pay11 (kp x3) else k0_pay12 (kp x3)
/-- Head `h`'s row of a running maximum or sum. -/
abbrev row (xs : Vec F S16x1x512 .f32) (h : ℕ) (hh : h < 16) : Vec F S1x1x512 .f32 :=
  View.ld xs (Rect.unit (s := S16x1x512) ![h, 0, 0] ![1, 1, 512] (fun a => match a with | ⟨0, _⟩ => (by omega : h + 1 ≤ 16) | ⟨1, _⟩ => (by decide : 0 + 1 ≤ 1) | ⟨2, _⟩ => (by decide : 0 + 512 ≤ 512)))
/-- Head `h`'s plane of a running weighted sum. -/
abbrev plane (xs : Vec F S16x128x512 .f32) (h : ℕ) (hh : h < 16) : Vec F S1x128x512 .f32 :=
  View.ld xs (Rect.unit (s := S16x128x512) ![h, 0, 0] ![1, 128, 512] (fun a => match a with | ⟨0, _⟩ => (by omega : h + 1 ≤ 16) | ⟨1, _⟩ => (by decide : 0 + 128 ≤ 128) | ⟨2, _⟩ => (by decide : 0 + 512 ≤ 512)))

/-- Which (key, query) pairs of the blocks the causal mask lets through. -/
abbrev msk (i : grid0.Coords) : IVec S512x512 1 := k0_pay9 (BitVec.ofNat 32 (i 1).val) (BitVec.ofNat 32 (i 2).val)

section Head
variable (i : grid0.Coords) (x0 : Vec F S512x3072 .bf16) (x1 : Vec F S512x2048 .bf16) (x2 : Vec F S2048x512 .bf16)
  (x3 : Vec F S512x128 .f32)

/-- The masked scores of head `h`, a row per key and a column per query. -/
def sc (h : ℕ) (hh : h < 16) : FVec F S512x512 .f32 := k0_pay151 (msk i) (kpsel x3 h) (qn x0 h hh) (qp x0 h hh) (kn x1 h hh)
/-- The maximum after the block. -/
def mNew (xm : Vec F S1x1x512 .f32) (h : ℕ) (hh : h < 16) : FVec F S1x512 .f32 :=
  k0_pay153 (msk i) (kpsel x3 h) (qn x0 h hh) (qp x0 h hh) (kn x1 h hh) xm
/-- The sum after the block. -/
def lNew (xm xl : Vec F S1x1x512 .f32) (h : ℕ) (hh : h < 16) : FVec F S1x1x512 .f32 :=
  k0_pay156 (msk i) (kpsel x3 h) (qn x0 h hh) (qp x0 h hh) (kn x1 h hh) xm xl
/-- The weighted sum after the block. -/
def aNew (xm : Vec F S1x1x512 .f32) (xa : Vec F S1x128x512 .f32) (h : ℕ) (hh : h < 16) : FVec F S1x128x512 .f32 :=
  k0_pay4 (k0_pay155 (msk i) (kpsel x3 h) (qn x0 h hh) (qp x0 h hh) (kn x1 h hh) xm)
    (k0_pay157 (msk i) (kpsel x3 h) (qn x0 h hh) (qp x0 h hh) (kn x1 h hh) xm xa) (vh x2 h hh)
end Head

/-- A family of blocks, one per head, as one array whose first axis is the head. -/
def stack {A B : ℕ} {α : Type} (f : (h : ℕ) → h < 16 → (⟨3, ![1, A, B]⟩ : Shape).Idx → α) : (⟨3, ![16, A, B]⟩ : Shape).Idx → α :=
  fun y => f (y 0).val (y 0).isLt (ix3 (0 : Fin 1) (y 1) (y 2))

/-- The stack at an index whose first part is `h`. -/
theorem stack_at {A B : ℕ} {α : Type} (f : (h : ℕ) → h < 16 → (⟨3, ![1, A, B]⟩ : Shape).Idx → α) (h : ℕ) (hh : h < 16)
    (y : (⟨3, ![16, A, B]⟩ : Shape).Idx) (e : (y 0).val = h) (x : (⟨3, ![1, A, B]⟩ : Shape).Idx) (ex : ix3 (0 : Fin 1) (y 1) (y 2) = x) :
    stack f y = f h hh x := by
  subst e
  subst ex
  rfl

/-- Block `h` of the stack is the family's member `h`. -/
theorem stack_block {A B : ℕ} {α : Type} (f : (h : ℕ) → h < 16 → (⟨3, ![1, A, B]⟩ : Shape).Idx → α) (h : ℕ) (hh : h < 16)
    (inb : ∀ a, (![h, 0, 0] : Fin 3 → ℕ) a + (![1, A, B] : Fin 3 → ℕ) a ≤ (⟨3, ![16, A, B]⟩ : Shape).size a)
    (x : (⟨3, ![1, A, B]⟩ : Shape).Idx) :
    f h hh x = stack f ((Rect.unit (s := ⟨3, ![16, A, B]⟩) ![h, 0, 0] ![1, A, B] inb).emb x) := by
  have e0 : (((Rect.unit (s := ⟨3, ![16, A, B]⟩) ![h, 0, 0] ![1, A, B] inb).emb x) 0).val = h := by
    show h + 1 * (x 0).val = h
    have : (x 0).val < 1 := (x 0).isLt
    omega
  have ex : ix3 (0 : Fin 1) (((Rect.unit (s := ⟨3, ![16, A, B]⟩) ![h, 0, 0] ![1, A, B] inb).emb x) 1)
      (((Rect.unit (s := ⟨3, ![16, A, B]⟩) ![h, 0, 0] ![1, A, B] inb).emb x) 2) = x := by
    funext a
    apply Fin.ext
    match a with
    | ⟨0, _⟩ => have : (x 0).val < 1 := (x 0).isLt
                show 0 = (x 0).val
                omega
    | ⟨1, _⟩ => show 0 + 1 * (x 1).val = (x 1).val
                omega
    | ⟨2, _⟩ => show 0 + 1 * (x 2).val = (x 2).val
                omega
  exact (stack_at f h hh _ e0 _ ex).symm

/-- The stores of the members below `n` of such a family, the last store first. -/
def heads {A B : ℕ} {e : EltTy} (f : (h : ℕ) → h < 16 → (⟨3, ![1, A, B]⟩ : Shape).Idx → Elt F e) :
    (n : ℕ) → n ≤ 16 → List (View.Piece (Elt F) (⟨3, ![16, A, B]⟩ : Shape) e)
  | 0, _ => []
  | n + 1, hn => ⟨Rect.unit (s := ⟨3, ![16, A, B]⟩) ![n, 0, 0] ![1, A, B] (fun a => match a with
      | ⟨0, _⟩ => (by omega : n + 1 ≤ 16) | ⟨1, _⟩ => (by omega : 0 + A ≤ A) | ⟨2, _⟩ => (by omega : 0 + B ≤ B)), f n (by omega)⟩ :: heads f n (by omega)

/-- Where one of those stores lies the array holds the stack, whatever was stored before. -/
theorem canon_heads_lt {A B : ℕ} {e : EltTy} (f : (h : ℕ) → h < 16 → (⟨3, ![1, A, B]⟩ : Shape).Idx → Elt F e)
    (L : List (View.Piece (Elt F) (⟨3, ![16, A, B]⟩ : Shape) e)) (y : (⟨3, ![16, A, B]⟩ : Shape).Idx) :
    ∀ (n : ℕ) (hn : n ≤ 16), (y 0).val < n → View.canon (heads f n hn ++ L) y = stack f y
  | 0, _, h => absurd h (Nat.not_lt_zero _)
  | n + 1, hn, h => by
    have inb : ∀ a, (![n, 0, 0] : Fin 3 → ℕ) a + (![1, A, B] : Fin 3 → ℕ) a ≤ (⟨3, ![16, A, B]⟩ : Shape).size a :=
      fun a => match a with
        | ⟨0, _⟩ => (by omega : n + 1 ≤ 16) | ⟨1, _⟩ => (by omega : 0 + A ≤ A) | ⟨2, _⟩ => (by omega : 0 + B ≤ B)
    show View.canon (⟨Rect.unit (s := ⟨3, ![16, A, B]⟩) ![n, 0, 0] ![1, A, B] inb, f n (by omega)⟩ :: (heads f n (by omega) ++ L)) y = _
    by_cases hm : y ∈ (Rect.unit (s := ⟨3, ![16, A, B]⟩) ![n, 0, 0] ![1, A, B] inb).set
    · obtain ⟨x, rfl⟩ := (Rect.unit (s := ⟨3, ![16, A, B]⟩) ![n, 0, 0] ![1, A, B] inb).exists_idx_of_mem hm
      exact (View.canon_cons_emb _ _ _ x).trans (stack_block f n (by omega) inb x)
    · refine (View.canon_cons_of_not_mem (⟨Rect.unit (s := ⟨3, ![16, A, B]⟩) ![n, 0, 0] ![1, A, B] inb, f n (by omega)⟩ : View.Piece (Elt F) _ e) _ hm).trans
        (canon_heads_lt f L y n (by omega) ?_)
      rw [Rect.mem_set_unit] at hm
      by_contra hlt
      refine hm fun a => ?_
      match a with
      | ⟨0, _⟩ => show n ≤ (y 0).val ∧ (y 0).val < n + 1
                  omega
      | ⟨1, _⟩ => exact ⟨Nat.zero_le _, (by have h2 : (y 1).val < A := (y 1).isLt; show (y 1).val < 0 + A; omega)⟩
      | ⟨2, _⟩ => exact ⟨Nat.zero_le _, (by have h2 : (y 2).val < B := (y 2).isLt; show (y 2).val < 0 + B; omega)⟩

/-- After all sixteen stores the array is the stack. -/
theorem canon_heads {A B : ℕ} {e : EltTy} (f : (h : ℕ) → h < 16 → (⟨3, ![1, A, B]⟩ : Shape).Idx → Elt F e)
    (L : List (View.Piece (Elt F) (⟨3, ![16, A, B]⟩ : Shape) e)) : View.canon (heads f 16 le_rfl ++ L) = stack f :=
  funext fun y => canon_heads_lt f L y 16 le_rfl (y 0).isLt

/-- One store more. -/
theorem heads_cons {A B : ℕ} {e : EltTy} (f : (h : ℕ) → h < 16 → (⟨3, ![1, A, B]⟩ : Shape).Idx → Elt F e) (n : ℕ) (hn : n + 1 ≤ 16)
    (inb : ∀ a, (![n, 0, 0] : Fin 3 → ℕ) a + (![1, A, B] : Fin 3 → ℕ) a ≤ (⟨3, ![16, A, B]⟩ : Shape).size a)
    (p : (⟨3, ![1, A, B]⟩ : Shape).Idx → Elt F e) (L L' : List (View.Piece (Elt F) (⟨3, ![16, A, B]⟩ : Shape) e))
    (hp : p = f n (by omega)) (hL : L = heads f n (by omega) ++ L') :
    (⟨Rect.unit (s := ⟨3, ![16, A, B]⟩) ![n, 0, 0] ![1, A, B] inb, p⟩ :: L : List (View.Piece (Elt F) (⟨3, ![16, A, B]⟩ : Shape) e)) =
      heads f (n + 1) hn ++ L' := by
  subst hp
  subst hL
  rfl

/-- A family of blocks of columns, one per head, as one array. -/
def tile {α : Type} (f : (h : ℕ) → h < 16 → S512x128.Idx → α) : S512x2048.Idx → α :=
  fun y => f ((y 1).val / 128) (by have : (y 1).val < 2048 := (y 1).isLt
                                   omega) (ix2 (y 0) (⟨(y 1).val % 128, Nat.mod_lt _ (by decide)⟩ : Fin 128))

/-- The tiles at an index in the columns of `h`. -/
theorem tile_at {α : Type} (f : (h : ℕ) → h < 16 → S512x128.Idx → α) (h : ℕ) (hh : h < 16) (y : S512x2048.Idx) (e : (y 1).val / 128 = h)
    (x : S512x128.Idx) (ex : ix2 (y 0) (⟨(y 1).val % 128, Nat.mod_lt _ (by decide)⟩ : Fin 128) = x) : tile f y = f h hh x := by
  subst e
  subst ex
  rfl

/-- Columns `128 h` to `128 h + 127` of the array are the family's member `h`. -/
theorem tile_block {α : Type} (f : (h : ℕ) → h < 16 → S512x128.Idx → α) (h : ℕ) (hh : h < 16) (o : ℕ) (ho : o = 128 * h)
    (inb : ∀ a, (![0, o] : Fin 2 → ℕ) a + (![512, 128] : Fin 2 → ℕ) a ≤ S512x2048.size a) (x : S512x128.Idx) :
    f h hh x = tile f ((Rect.unit (s := S512x2048) ![0, o] ![512, 128] inb).emb x) := by
  subst ho
  have hx : (x 1).val < 128 := (x 1).isLt
  have e1 : (((Rect.unit (s := S512x2048) ![0, 128 * h] ![512, 128] inb).emb x) 1).val = 128 * h + (x 1).val := by
    show 128 * h + 1 * (x 1).val = _
    omega
  have eh : (((Rect.unit (s := S512x2048) ![0, 128 * h] ![512, 128] inb).emb x) 1).val / 128 = h := by rw [e1]; omega
  have ex : ix2 (((Rect.unit (s := S512x2048) ![0, 128 * h] ![512, 128] inb).emb x) 0)
      (⟨(((Rect.unit (s := S512x2048) ![0, 128 * h] ![512, 128] inb).emb x) 1).val % 128, Nat.mod_lt _ (by decide)⟩ : Fin 128) = x := by
    funext a
    apply Fin.ext
    match a with
    | ⟨0, _⟩ => show 0 + 1 * (x 0).val = (x 0).val
                omega
    | ⟨1, _⟩ => show (((Rect.unit (s := S512x2048) ![0, 128 * h] ![512, 128] inb).emb x) 1).val % 128 = (x 1).val
                rw [e1]
                omega
  exact (tile_at f h hh _ eh _ ex).symm

/-- The stores of the members below `n` of such a family, the last store first. -/
def tiles {e : EltTy} (f : (h : ℕ) → h < 16 → S512x128.Idx → Elt F e) : (n : ℕ) → n ≤ 16 → List (View.Piece (Elt F) S512x2048 e)
  | 0, _ => []
  | n + 1, hn => ⟨Rect.unit (s := S512x2048) ![0, 128 * n] ![512, 128] (fun a => match a with
      | ⟨0, _⟩ => (by decide : 0 + 512 ≤ 512) | ⟨1, _⟩ => (by omega : 128 * n + 128 ≤ 2048)), f n (by omega)⟩ :: tiles f n (by omega)

/-- Where one of those stores lies the block holds the tiles. -/
theorem canon_tiles_lt {e : EltTy} (f : (h : ℕ) → h < 16 → S512x128.Idx → Elt F e) (y : S512x2048.Idx) :
    ∀ (n : ℕ) (hn : n ≤ 16), (y 1).val < 128 * n → View.canon (tiles f n hn) y = tile f y
  | 0, _, h => absurd h (Nat.not_lt_zero _)
  | n + 1, hn, h => by
    have inb : ∀ a, (![0, 128 * n] : Fin 2 → ℕ) a + (![512, 128] : Fin 2 → ℕ) a ≤ S512x2048.size a :=
      fun a => match a with | ⟨0, _⟩ => (by decide : 0 + 512 ≤ 512) | ⟨1, _⟩ => (by omega : 128 * n + 128 ≤ 2048)
    show View.canon (⟨Rect.unit (s := S512x2048) ![0, 128 * n] ![512, 128] inb, f n (by omega)⟩ :: tiles f n (by omega)) y = _
    by_cases hm : y ∈ (Rect.unit (s := S512x2048) ![0, 128 * n] ![512, 128] inb).set
    · obtain ⟨x, rfl⟩ := (Rect.unit (s := S512x2048) ![0, 128 * n] ![512, 128] inb).exists_idx_of_mem hm
      exact (View.canon_cons_emb _ _ _ x).trans (tile_block f n (by omega) _ rfl inb x)
    · refine (View.canon_cons_of_not_mem (⟨Rect.unit (s := S512x2048) ![0, 128 * n] ![512, 128] inb, f n (by omega)⟩ : View.Piece (Elt F) _ e) _ hm).trans
        (canon_tiles_lt f y n (by omega) ?_)
      rw [Rect.mem_set_unit] at hm
      by_contra hlt
      refine hm fun a => ?_
      match a with
      | ⟨0, _⟩ => exact ⟨Nat.zero_le _, (by have h2 : (y 0).val < 512 := (y 0).isLt; show (y 0).val < 0 + 512; omega)⟩
      | ⟨1, _⟩ => show 128 * n ≤ (y 1).val ∧ (y 1).val < 128 * n + 128
                  omega

/-- After all sixteen stores the block is the tiles. -/
theorem canon_tiles {e : EltTy} (f : (h : ℕ) → h < 16 → S512x128.Idx → Elt F e) : View.canon (tiles f 16 le_rfl) = tile f :=
  funext fun y => canon_tiles_lt f y 16 le_rfl (y 1).isLt

section Point
variable (i : grid0.Coords) (x0 : Vec F S512x3072 .bf16) (x1 : Vec F S512x2048 .bf16) (x2 : Vec F S2048x512 .bf16)
  (x3 : Vec F S512x128 .f32) (xs0 xs1 : Vec F S16x1x512 .f32) (xs2 : Vec F S16x128x512 .f32)

/-- The maxima of all heads after the block. -/
def gM : Vec F S16x1x512 .f32 := stack fun h hh => k0_pay5 (mNew i x0 x1 x3 (row xs0 h hh) h hh)
/-- The sums of all heads after the block. -/
def gL : Vec F S16x1x512 .f32 := stack fun h hh => lNew i x0 x1 x3 (row xs0 h hh) (row xs1 h hh) h hh
/-- The weighted sums of all heads after the block. -/
def gA : Vec F S16x128x512 .f32 := stack fun h hh => aNew i x0 x1 x2 x3 (row xs0 h hh) (plane xs2 h hh) h hh
end Point

/-- The output block: in each head's columns the weighted sum over the sum, transposed. -/
def gO (fl : (h : ℕ) → h < 16 → Vec F S1x1x512 .f32) (fa : (h : ℕ) → h < 16 → Vec F S1x128x512 .f32) : Vec F S512x2048 .bf16 :=
  tile fun h hh => k0_pay158 (fa h hh) (fl h hh)

/-- What the scratch arrays are filled with before the first block of keys. -/
abbrev m0 : Vec F S16x1x512 .f32 := k0_pay1
/-- The sums before the first block. -/
abbrev l0 : Vec F S16x1x512 .f32 := k0_pay2
/-- The weighted sums before the first block. -/
abbrev a0 : Vec F S16x128x512 .f32 := k0_pay3

end Cert.KernelIdeal.Att
end
-- ==== Proof.Online.lean ====
module
public import Idealize.ShloMosaic.PureOps.Ideal
public import Idealize.ShloMosaic.PureOps.Ideal.Laws
@[expose] public section
noncomputable section
open Idealize.ShloMosaic
namespace Cert.Online

/-! # The running softmax, on the extended reals

A row of scores `s`, one per key, each a real number or `⊥` (a masked key), and a row of values `v`, any extended reals. After the
first `n` keys a running softmax holds a maximum `M`, the sum of `exp (s - M)` and the sum of `v * exp (s - M)`. `M` need not be the
maximum of anything here: any real number does. -/

/-- A nonnegative real factor goes into a sum of extended reals. -/
theorem mul_sum_real {ι : Type*} (c : ℝ) (hc : 0 ≤ c) (t : Finset ι) (f : ι → EReal) : (c : EReal) * ∑ k ∈ t, f k = ∑ k ∈ t, (c : EReal) * f k := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

/-- A sum of reals, read in the extended reals. -/
theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, ← ih, EReal.coe_add]

/-- The weight of a score that is real or `⊥` is a nonnegative real. -/
theorem exp_real {x : EReal} (hx : x ≠ ⊤) (M : ℝ) : ∃ r : ℝ, 0 ≤ r ∧ Ideal.exp (x - (M : EReal)) = (r : EReal) ∧ (x ≠ ⊥ → 0 < r) := by
  induction x using EReal.rec with
  | bot => exact ⟨0, le_rfl, by rw [EReal.bot_sub, Ideal.exp_bot]; rfl, fun h => absurd rfl h⟩
  | coe a => exact ⟨Real.exp (a - M), (Real.exp_pos _).le, by rw [← EReal.coe_sub, Ideal.exp_coe], fun _ => Real.exp_pos _⟩
  | top => exact absurd rfl hx

/-- A weight against one number is a weight against another, times a factor that does not depend on the score. -/
theorem exp_rescale {x : EReal} (hx : x ≠ ⊤) (M M' : ℝ) :
    ((Real.exp (M - M') : ℝ) : EReal) * Ideal.exp (x - (M : EReal)) = Ideal.exp (x - (M' : EReal)) := by
  induction x using EReal.rec with
  | bot => rw [EReal.bot_sub, EReal.bot_sub, Ideal.exp_bot, mul_zero]
  | coe a =>
    rw [← EReal.coe_sub, ← EReal.coe_sub, Ideal.exp_coe, Ideal.exp_coe, ← EReal.coe_mul, ← Real.exp_add]
    congr 2
    ring
  | top => exact absurd rfl hx

/-- A maximum over real and masked scores that starts from a real number is a real number. -/
theorem max_fold_real {ι : Type*} (t : Finset ι) (f : ι → EReal) (hf : ∀ k ∈ t, f k ≠ ⊤) (M : ℝ) :
    ∃ M' : ℝ, max (M : EReal) (t.fold max ⊥ f) = (M' : EReal) := by
  have htop : t.fold max ⊥ f < ⊤ := (Finset.fold_max_lt _).mpr ⟨bot_lt_top, fun k hk => lt_top_iff_ne_top.mpr (hf k hk)⟩
  refine ⟨(max (M : EReal) (t.fold max ⊥ f)).toReal, (EReal.coe_toReal ?_ ?_).symm⟩
  · exact (max_lt (EReal.coe_lt_top M) htop).ne
  · exact (lt_of_lt_of_le (EReal.bot_lt_coe M) (le_max_left _ _)).ne'

/-- The same without a start, where some score is real. -/
theorem fold_real {ι : Type*} (t : Finset ι) (f : ι → EReal) (hf : ∀ k ∈ t, f k ≠ ⊤) (k0 : ι) (hk : k0 ∈ t) (h0 : f k0 ≠ ⊥) :
    ∃ M' : ℝ, t.fold max ⊥ f = (M' : EReal) := by
  have htop : t.fold max ⊥ f < ⊤ := (Finset.fold_max_lt _).mpr ⟨bot_lt_top, fun k hk => lt_top_iff_ne_top.mpr (hf k hk)⟩
  have hbot : ⊥ < t.fold max ⊥ f := (Finset.lt_fold_max _).mpr (Or.inr ⟨k0, hk, bot_lt_iff_ne_bot.mpr h0⟩)
  exact ⟨_, (EReal.coe_toReal htop.ne hbot.ne').symm⟩

/-- What the running maximum, sum and weighted sum hold after the first `n` keys. -/
def Inv (s v : ℕ → EReal) (n : ℕ) (m l a : EReal) : Prop :=
  ∃ M : ℝ, m = (M : EReal) ∧ l = ∑ k ∈ Finset.range n, Ideal.exp (s k - (M : EReal)) ∧ a = ∑ k ∈ Finset.range n, v k * Ideal.exp (s k - (M : EReal))

/-- Before any key. -/
theorem inv_zero (s v : ℕ → EReal) (M : ℝ) : Inv s v 0 (M : EReal) 0 0 := ⟨M, rfl, by simp, by simp⟩

/-- One block of `B` keys more. -/
theorem inv_step {s v : ℕ → EReal} (hs : ∀ k, s k ≠ ⊤) {n : ℕ} {m l a : EReal} (h : Inv s v n m l a) (B : ℕ) (sb vb : Fin B → EReal)
    (hsb : ∀ x, sb x = s (n + x.val)) (hvb : ∀ x, vb x = v (n + x.val)) {m' : EReal} (hm' : m' = max m (Finset.fold max ⊥ sb Finset.univ)) :
    Inv s v (n + B) m' (Ideal.exp (m - m') * l + ∑ x : Fin B, Ideal.exp (sb x - m'))
      (Ideal.exp (m - m') * a + ∑ x : Fin B, vb x * Ideal.exp (sb x - m')) := by
  obtain ⟨M, rfl, rfl, rfl⟩ := h
  obtain ⟨M', hM'⟩ := max_fold_real Finset.univ sb (fun k _ => by rw [hsb]; exact hs _) M
  rw [hM'] at hm'
  subst hm'
  refine ⟨M', rfl, ?_, ?_⟩
  · rw [← EReal.coe_sub, Ideal.exp_coe, mul_sum_real _ (Real.exp_pos _).le, Finset.sum_range_add, Finset.sum_range (fun x => Ideal.exp (s (n + x) - (M' : EReal)))]
    congr 1
    · exact Finset.sum_congr rfl fun k _ => exp_rescale (hs k) M M'
    · exact Finset.sum_congr rfl fun x _ => by rw [hsb]
  · rw [← EReal.coe_sub, Ideal.exp_coe, mul_sum_real _ (Real.exp_pos _).le, Finset.sum_range_add, Finset.sum_range (fun x => v (n + x) * Ideal.exp (s (n + x) - (M' : EReal)))]
    congr 1
    · exact Finset.sum_congr rfl fun k _ => by rw [mul_left_comm, exp_rescale (hs k) M M']
    · exact Finset.sum_congr rfl fun x _ => by rw [hsb, hvb]

/-- THE EQUATION: the weighted sum over the sum, after the first `n` keys, is the softmax over all `N` keys applied to the values, where
every key from `n` on is masked and some key before is not. -/
theorem inv_final {s v : ℕ → EReal} (hs : ∀ k, s k ≠ ⊤) {n N : ℕ} (hn : n ≤ N) {m l a : EReal} (h : Inv s v n m l a)
    (hmask : ∀ k, n ≤ k → s k = ⊥) (k0 : ℕ) (hk0 : k0 < n) (h0 : s k0 ≠ ⊥) {X : EReal}
    (hX : X = Finset.fold max ⊥ (fun k : Fin N => s k.val) Finset.univ) :
    Ideal.div a l = ∑ k : Fin N, v k.val * Ideal.div (Ideal.exp (s k.val - X)) (∑ k : Fin N, Ideal.exp (s k.val - X)) := by
  obtain ⟨M, rfl, rfl, rfl⟩ := h
  obtain ⟨M', hM'⟩ := fold_real Finset.univ (fun k : Fin N => s k.val) (fun k _ => hs _) ⟨k0, by omega⟩ (Finset.mem_univ _) h0
  rw [hM'] at hX
  subst hX
  -- the weights against either number are real
  choose w hw0 hw hwp using fun k => exp_real (hs k) M
  have hrest : ∀ k, n ≤ k → w k = 0 := fun k hk => by
    have := hw k
    rw [hmask k hk, EReal.bot_sub, Ideal.exp_bot] at this
    exact_mod_cast this.symm
  have hsub : ∀ f : ℕ → EReal, (∀ k, n ≤ k → f k = 0) → ∑ k ∈ Finset.range n, f k = ∑ k : Fin N, f k.val := fun f hf => by
    rw [← Finset.sum_range f]
    exact Finset.sum_subset (Finset.range_subset_range.mpr hn) fun k _ hk => hf k (by simpa using hk)
  have hc : 0 < Real.exp (M - M') := Real.exp_pos _
  have hw' : ∀ k, Ideal.exp (s k - (M' : EReal)) = ((Real.exp (M - M') * w k : ℝ) : EReal) := fun k => by
    rw [← exp_rescale (hs k) M M', hw, EReal.coe_mul]
  have hL : 0 < ∑ k ∈ Finset.range n, w k :=
    Finset.sum_pos' (fun k _ => hw0 k) ⟨k0, Finset.mem_range.mpr hk0, hwp k0 h0⟩
  have hl : ∑ k ∈ Finset.range n, Ideal.exp (s k - (M : EReal)) = ((∑ k ∈ Finset.range n, w k : ℝ) : EReal) := by
    rw [coe_sum]
    exact Finset.sum_congr rfl fun k _ => hw k
  have hl' : ∑ k : Fin N, Ideal.exp (s k.val - (M' : EReal)) = ((Real.exp (M - M') * ∑ k ∈ Finset.range n, w k : ℝ) : EReal) := by
    rw [← hsub (fun k => Ideal.exp (s k - (M' : EReal))) (fun k hk => by rw [hw', hrest k hk, mul_zero]; rfl), Finset.mul_sum, coe_sum]
    exact Finset.sum_congr rfl fun k _ => hw' k
  rw [hl, hl', Ideal.div_coe hL.ne', mul_comm, mul_sum_real _ (by positivity)]
  rw [hsub _ (fun k hk => by rw [hw, hrest k hk, EReal.coe_zero, mul_zero, mul_zero])]
  refine Finset.sum_congr rfl fun k _ => ?_
  rw [Ideal.div_coe (mul_pos hc hL).ne', hw', hw, mul_left_comm, ← EReal.coe_mul, ← EReal.coe_mul]
  congr 2
  field_simp

end Cert.Online
end
-- ==== Proof.AttRead.lean ====
module
public import proofs.«01_k».proof.Proof.AttSteps
public import proofs.«01_k».proof.Proof.AttScore
public import proofs.«01_k».proof.Proof.Online
public import Idealize.ShloMosaic.Lib.Pointwise
@[expose] public section
set_option maxRecDepth 16384
noncomputable section
open Idealize.ShloMosaic Idealize.ShloMosaic.TcCoe Idealize.ShloMosaic.Tactic Idealize.SL.Sem
namespace Cert.KernelIdeal.Att
open Cert.KernelIdeal Cert.KernelIdeal.Gen Cert.Att Cert.Online

/-! # What the operations of one head compute, element by element -/

variable (m : IVec S512x512 1) (kpe : FVec Ideal S512x128 .bf16) (qn' qp' kn' : Vec Ideal S512x128 .bf16)
  (xm xl : Vec Ideal S1x1x512 .f32) (xa : Vec Ideal S1x128x512 .f32)

theorem pay151_apply (k q : Fin 512) : k0_pay151 m kpe qn' qp' kn' (ix2 k q) =
    Scalar.select (m (ix2 k q)) ((∑ x, kn' (ix2 k x) * qn' (ix2 q x) + ∑ x, kpe (ix2 k x) * qp' (ix2 q x)) * Ideal.ofBits .f32 0x3D93CD3A#32) (⊥ : EReal) := by
  rw [← ofBits_neg_inf]
  pointwise [k0_pay151]

theorem pay153_apply (q : Fin 512) : k0_pay153 m kpe qn' qp' kn' xm (ix2 (0 : Fin 1) q) =
    max (xm (ix3 (0 : Fin 1) (0 : Fin 1) q)) (Finset.fold max (⊥ : EReal) (fun x : Fin 512 => k0_pay151 m kpe qn' qp' kn' (ix2 x q)) Finset.univ) := by
  rw [← ofBits_neg_inf]
  pointwise [k0_pay153, k0_pay152]

theorem pay156_apply (q : Fin 512) : k0_pay156 m kpe qn' qp' kn' xm xl (ix3 (0 : Fin 1) (0 : Fin 1) q) =
    Ideal.exp (xm (ix3 (0 : Fin 1) (0 : Fin 1) q) - k0_pay153 m kpe qn' qp' kn' xm (ix2 (0 : Fin 1) q)) * xl (ix3 (0 : Fin 1) (0 : Fin 1) q)
      + ∑ x : Fin 512, Ideal.exp (k0_pay151 m kpe qn' qp' kn' (ix2 x q) - k0_pay153 m kpe qn' qp' kn' xm (ix2 (0 : Fin 1) q)) := by
  pointwise [k0_pay156, k0_pay154, k0_pay155, k0_pay152]

theorem pay4_apply (v : Vec Ideal S128x512 .bf16) (d : Fin 128) (q : Fin 512) :
    k0_pay4 (k0_pay155 m kpe qn' qp' kn' xm) (k0_pay157 m kpe qn' qp' kn' xm xa) v (ix3 (0 : Fin 1) d q) =
      Ideal.exp (xm (ix3 (0 : Fin 1) (0 : Fin 1) q) - k0_pay153 m kpe qn' qp' kn' xm (ix2 (0 : Fin 1) q)) * xa (ix3 (0 : Fin 1) d q)
        + ∑ x : Fin 512, v (ix2 d x) * Ideal.exp (k0_pay151 m kpe qn' qp' kn' (ix2 x q) - k0_pay153 m kpe qn' qp' kn' xm (ix2 (0 : Fin 1) q)) := by
  pointwise [k0_pay4, k0_pay157, k0_pay154, k0_pay155, k0_pay152]

theorem pay5_apply (x : FVec Ideal S1x512 .f32) (q : Fin 512) : k0_pay5 x (ix3 (0 : Fin 1) (0 : Fin 1) q) = x (ix2 (0 : Fin 1) q) := by
  pointwise [k0_pay5]

theorem pay158_apply (a : Vec Ideal S1x128x512 .f32) (l : Vec Ideal S1x1x512 .f32) (q : Fin 512) (d : Fin 128) :
    k0_pay158 a l (ix2 q d) = Ideal.div (a (ix3 (0 : Fin 1) d q)) (l (ix3 (0 : Fin 1) (0 : Fin 1) q)) := by
  pointwise [k0_pay158]

/-- The lanes of the pair below 64 are those of the even head. -/
theorem pay11_apply (x : Vec Ideal S512x128 .f32) (k : Fin 512) (d : Fin 128) :
    k0_pay11 x (ix2 k d) = if d.val < 64 then x (ix2 k d) else 0 := by
  rw [← select_lt (BitVec.ofNat 32 d.val) 64#32 d.val 64 (Nat.mod_eq_of_lt (by omega)) rfl (by omega) (by omega) (x (ix2 k d)) (0 : EReal)]
  pointwise [k0_pay11, k0_pay10]

theorem pay12_apply (x : Vec Ideal S512x128 .f32) (k : Fin 512) (d : Fin 128) :
    k0_pay12 x (ix2 k d) = if 64 ≤ d.val then x (ix2 k d) else 0 := by
  rw [← select_ge (BitVec.ofNat 32 d.val) 64#32 d.val 64 (Nat.mod_eq_of_lt (by omega)) rfl (by omega) (by omega) (x (ix2 k d)) (0 : EReal)]
  pointwise [k0_pay12, k0_pay10]

/-- The mask lets a key through that is not after the query. -/
theorem msk_apply (i : grid0.Coords) (k q : Fin 512) (A B : EReal) :
    Scalar.select (msk i (ix2 k q)) A B = if 512 * (i 2).val + k.val ≤ 512 * (i 1).val + q.val then A else B := by
  have h1 : (i 1).val < 8 := (i 1).isLt
  have h2 : (i 2).val < 8 := (i 2).isLt
  have e : msk i (ix2 k q) = IntOp.cmpi .sle (IntOp.addi (Scalar.muli (BitVec.ofNat 32 (i 2).val) 512#32) (BitVec.ofNat 32 k.val))
      (IntOp.addi (Scalar.muli (BitVec.ofNat 32 (i 1).val) 512#32) (BitVec.ofNat 32 q.val)) := by
    unfold msk
    pointwise [k0_pay9]
  rw [e]
  refine select_le _ _ _ _ ?_ ?_ (by omega) (by omega) A B
  · show ((BitVec.ofNat 32 (i 2).val * 512#32) + BitVec.ofNat 32 k.val).toNat = _
    simp only [BitVec.toNat_add, BitVec.toNat_mul, BitVec.toNat_ofNat]
    omega
  · show ((BitVec.ofNat 32 (i 1).val * 512#32) + BitVec.ofNat 32 q.val).toNat = _
    simp only [BitVec.toNat_add, BitVec.toNat_mul, BitVec.toNat_ofNat]
    omega

/-- A sum over 128 lanes whose upper half is zero. -/
theorem sum_low (f : Fin 128 → EReal) (g : Fin 64 → EReal) (hl : ∀ d : Fin 64, f ⟨d.val, by omega⟩ = g d) (hu : ∀ d : Fin 64, f ⟨64 + d.val, by omega⟩ = 0) :
    ∑ x, f x = ∑ d, g d := by
  have e := Fin.sum_univ_add (a := 64) (b := 64) f
  rw [Finset.sum_eq_zero (s := Finset.univ) (f := fun d : Fin 64 => f (Fin.natAdd 64 d)) (fun d _ => hu d), add_zero] at e
  exact e.trans (Finset.sum_congr rfl fun d _ => hl d)

/-- A sum over 128 lanes whose lower half is zero. -/
theorem sum_high (f : Fin 128 → EReal) (g : Fin 64 → EReal) (hl : ∀ d : Fin 64, f ⟨64 + d.val, by omega⟩ = g d) (hu : ∀ d : Fin 64, f ⟨d.val, by omega⟩ = 0) :
    ∑ x, f x = ∑ d, g d := by
  have e := Fin.sum_univ_add (a := 64) (b := 64) f
  rw [Finset.sum_eq_zero (s := Finset.univ) (f := fun d : Fin 64 => f (Fin.castAdd 64 d)) (fun d _ => hu d), zero_add] at e
  exact e.trans (Finset.sum_congr rfl fun d _ => hl d)

/-! ## The blocks a head reads -/
section Blocks
variable (x0 : Vec Ideal S512x3072 .bf16) (x1 : Vec Ideal S512x2048 .bf16) (x2 : Vec Ideal S2048x512 .bf16) (x3 : Vec Ideal S512x128 .f32)
  (h : ℕ) (hh : h < 16)

theorem qn_apply (q : Fin 512) (d : Fin 128) : qn x0 h hh (ix2 q d) = x0 (ix2 q ⟨128 * h + d.val, by omega⟩) := by
  unfold qn
  pointwise []
theorem qp_apply (q : Fin 512) (d : Fin 128) : qp x0 h hh (ix2 q d) = x0 (ix2 q ⟨2048 + 128 * (h / 2) + d.val, by omega⟩) := by
  unfold qp
  pointwise []
theorem kn_apply (q : Fin 512) (d : Fin 128) : kn x1 h hh (ix2 q d) = x1 (ix2 q ⟨128 * h + d.val, by omega⟩) := by
  unfold kn
  pointwise []
theorem vh_apply (d : Fin 128) (q : Fin 512) : vh x2 h hh (ix2 d q) = x2 (ix2 ⟨128 * h + d.val, by omega⟩ q) := by
  unfold vh
  pointwise []
theorem kp_apply (k : Fin 512) (d : Fin 128) : kp x3 (ix2 k d) = x3 (ix2 k d) := by
  unfold kp
  pointwise []
theorem row_apply (xs : Vec Ideal S16x1x512 .f32) (q : Fin 512) : row xs h hh (ix3 (0 : Fin 1) (0 : Fin 1) q) = xs (ix3 (⟨h, hh⟩ : Fin 16) (0 : Fin 1) q) := by
  unfold row
  pointwise []
theorem plane_apply (xs : Vec Ideal S16x128x512 .f32) (d : Fin 128) (q : Fin 512) : plane xs h hh (ix3 (0 : Fin 1) d q) = xs (ix3 (⟨h, hh⟩ : Fin 16) d q) := by
  unfold plane
  pointwise []

/-- The product with the rotated keys: the other head's half contributes nothing. -/
theorem kpsel_sum (k q : Fin 512) : (∑ x : Fin 128, kpsel x3 h (ix2 k x) * qp x0 h hh (ix2 q x)) =
    ∑ d : Fin 64, x3 (ix2 k ⟨64 * (h % 2) + d.val, by omega⟩) * x0 (ix2 q ⟨2048 + 64 * h + d.val, by omega⟩) := by
  unfold kpsel
  by_cases hp : h % 2 = 0
  · rw [if_pos hp]
    refine sum_low (fun x : Fin 128 => k0_pay11 (kp x3) (ix2 k x) * qp x0 h hh (ix2 q x))
      (fun d : Fin 64 => x3 (ix2 k ⟨64 * (h % 2) + d.val, by omega⟩) * x0 (ix2 q ⟨2048 + 64 * h + d.val, by omega⟩)) ?_ ?_ <;> intro d <;> beta_reduce
    · rw [pay11_apply, kp_apply, qp_apply, if_pos d.isLt]
      exact congrArg₂ (fun a b => x3 (ix2 k a) * x0 (ix2 q b)) (Fin.ext (by show d.val = 64 * (h % 2) + d.val; omega))
        (Fin.ext (by show 2048 + 128 * (h / 2) + d.val = 2048 + 64 * h + d.val; omega))
    · rw [pay11_apply, if_neg (by show ¬64 + d.val < 64; omega)]
      exact zero_mul _
  · rw [if_neg hp]
    refine sum_high (fun x : Fin 128 => k0_pay12 (kp x3) (ix2 k x) * qp x0 h hh (ix2 q x))
      (fun d : Fin 64 => x3 (ix2 k ⟨64 * (h % 2) + d.val, by omega⟩) * x0 (ix2 q ⟨2048 + 64 * h + d.val, by omega⟩)) ?_ ?_ <;> intro d <;> beta_reduce
    · rw [pay12_apply, kp_apply, qp_apply, if_pos (by show 64 ≤ 64 + d.val; omega)]
      exact congrArg₂ (fun a b => x3 (ix2 k a) * x0 (ix2 q b)) (Fin.ext (by show 64 + d.val = 64 * (h % 2) + d.val; omega))
        (Fin.ext (by show 2048 + 128 * (h / 2) + (64 + d.val) = 2048 + 64 * h + d.val; omega))
    · rw [pay12_apply, if_neg (by show ¬64 ≤ d.val; omega)]
      exact zero_mul _

/-- The masked score of a key and a query of the blocks. -/
theorem sc_apply (i : grid0.Coords) (k q : Fin 512) : sc i x0 x1 x3 h hh (ix2 k q) =
    if 512 * (i 2).val + k.val ≤ 512 * (i 1).val + q.val then
      (∑ d : Fin 128, x0 (ix2 q ⟨128 * h + d.val, by omega⟩) * x1 (ix2 k ⟨128 * h + d.val, by omega⟩)
        + ∑ d : Fin 64, x0 (ix2 q ⟨2048 + 64 * h + d.val, by omega⟩) * x3 (ix2 k ⟨64 * (h % 2) + d.val, by omega⟩)) * Ideal.ofBits .f32 0x3D93CD3A#32
    else (⊥ : EReal) := by
  unfold sc
  rw [pay151_apply, msk_apply, kpsel_sum]
  have e1 : (∑ x : Fin 128, kn x1 h hh (ix2 k x) * qn x0 h hh (ix2 q x)) =
      ∑ d : Fin 128, x0 (ix2 q ⟨128 * h + d.val, by omega⟩) * x1 (ix2 k ⟨128 * h + d.val, by omega⟩) :=
    Finset.sum_congr rfl fun d _ => by
      rw [kn_apply, qn_apply]
      exact mul_comm (G := EReal) _ _
  have e2 : (∑ d : Fin 64, x3 (ix2 k ⟨64 * (h % 2) + d.val, by omega⟩) * x0 (ix2 q ⟨2048 + 64 * h + d.val, by omega⟩)) =
      ∑ d : Fin 64, x0 (ix2 q ⟨2048 + 64 * h + d.val, by omega⟩) * x3 (ix2 k ⟨64 * (h % 2) + d.val, by omega⟩) :=
    Finset.sum_congr rfl fun d _ => mul_comm (G := EReal) _ _
  rw [e1, e2]

/-- One block of keys and values more: the invariant of the running maximum, sum and weighted sum. -/
theorem head_step (i : grid0.Coords) {s v : ℕ → EReal} (hs : ∀ k, s k ≠ ⊤) {n : ℕ} (q : Fin 512) (d : Fin 128)
    (hsb : ∀ x : Fin 512, sc i x0 x1 x3 h hh (ix2 x q) = s (n + x.val)) (hvb : ∀ x : Fin 512, vh x2 h hh (ix2 d x) = v (n + x.val))
    (hI : Inv s v n (xm (ix3 (0 : Fin 1) (0 : Fin 1) q)) (xl (ix3 (0 : Fin 1) (0 : Fin 1) q)) (xa (ix3 (0 : Fin 1) d q))) :
    Inv s v (n + 512) (k0_pay5 (mNew i x0 x1 x3 xm h hh) (ix3 (0 : Fin 1) (0 : Fin 1) q)) (lNew i x0 x1 x3 xm xl h hh (ix3 (0 : Fin 1) (0 : Fin 1) q))
      (aNew i x0 x1 x2 x3 xm xa h hh (ix3 (0 : Fin 1) d q)) := by
  unfold mNew lNew aNew
  rw [pay5_apply, pay156_apply, pay4_apply]
  exact inv_step hs hI 512 _ _ hsb hvb (pay153_apply _ _ _ _ _ _ q)
end Blocks
end Cert.KernelIdeal.Att
end
-- ==== Proof.AttHost.lean ====
module
public import proofs.«01_k».proof.Proof.Gen.KernelIdeal.Frame
public import Idealize.ShloMosaic.Lib.Pointwise
public import Idealize.ShloMosaic.Lib.StableHlo.ReadAt
@[expose] public section
set_option maxRecDepth 16384
noncomputable section
open Idealize.ShloMosaic Idealize.ShloMosaic.TcCoe Idealize.ShloMosaic.Tactic Idealize.SL.Sem
namespace Cert.KernelIdeal.Att
open Cert.KernelIdeal Cert.KernelIdeal.Gen

/-! # The arrays the attention is given, and the blocks of them a grid point holds -/

variable (m : (ℓ : Loc nD τ sig) → Buf (Elt Ideal) ℓ) (c : Dev nD)

/-- The queries, the keys without position, the values and the keys with position. -/
abbrev Xq : S2x4096x16x192.Idx → EReal := m ((c.tc : Thread nD τ).loc main_arg0)
abbrev Xk : S2x4096x16x128.Idx → EReal := m ((c.tc : Thread nD τ).loc main_arg1)
abbrev Xv : S2x4096x16x128.Idx → EReal := m ((c.tc : Thread nD τ).loc main_arg2)
abbrev Xr : S2x4096x64.Idx → EReal := m ((c.tc : Thread nD τ).loc main_arg3)

theorem v5_nope (b : Fin 2) (t : Fin 4096) (h : Fin 16) (d : Fin 128) :
    V m c main_v5 (ix2 (⟨4096 * b.val + t.val, by omega⟩ : Fin 8192) (⟨128 * h.val + d.val, by omega⟩ : Fin 3072)) = Xq m c (ix4 b t h ⟨d.val, by omega⟩) := by
  unfold V
  after_reads_at
  rw [dif_pos (by omega)]
  after_reads_at

theorem v5_rope (b : Fin 2) (t : Fin 4096) (h : Fin 16) (d : Fin 64) :
    V m c main_v5 (ix2 (⟨4096 * b.val + t.val, by omega⟩ : Fin 8192) (⟨2048 + 64 * h.val + d.val, by omega⟩ : Fin 3072)) = Xq m c (ix4 b t h ⟨128 + d.val, by omega⟩) := by
  unfold V
  after_reads_at
  rw [dif_neg (by omega)]
  after_reads_at
  refine congrArg (Xq m c) ?_
  congr 1 <;> exact Fin.ext (by dsimp only; omega)

theorem v7_apply (b : Fin 2) (t : Fin 4096) (h : Fin 16) (d : Fin 128) :
    V m c main_v7 (ix2 (⟨4096 * b.val + t.val, by omega⟩ : Fin 8192) (⟨128 * h.val + d.val, by omega⟩ : Fin 2048)) = Xk m c (ix4 b t h d) := by
  unfold V
  after_reads_at
  refine congrArg (Xk m c) ?_
  congr 1 <;> exact Fin.ext (by dsimp only; omega)

theorem v10_apply (b : Fin 2) (t : Fin 4096) (h : Fin 16) (d : Fin 128) :
    V m c main_v10 (ix2 (⟨128 * h.val + d.val, by omega⟩ : Fin 2048) (⟨4096 * b.val + t.val, by omega⟩ : Fin 8192)) = Xv m c (ix4 b t h d) := by
  unfold V
  after_reads_at
  refine congrArg (Xv m c) ?_
  congr 1 <;> exact Fin.ext (by dsimp only; omega)

theorem v12_apply (b : Fin 2) (t : Fin 4096) (j : Fin 2) (d : Fin 64) :
    V m c main_v12 (ix2 (⟨4096 * b.val + t.val, by omega⟩ : Fin 8192) (⟨64 * j.val + d.val, by omega⟩ : Fin 128)) = Xr m c (ix3 b t d) := by
  unfold V
  after_reads_at
  by_cases hj : 64 * j.val + d.val < 64
  · rw [dif_pos hj]
    after_reads_at
    refine congrArg (Xr m c) ?_
    congr 1
    exact Fin.ext (by dsimp only; omega)
  · rw [dif_neg hj]
    after_reads_at
    refine congrArg (Xr m c) ?_
    congr 1
    exact Fin.ext (by dsimp only; omega)

/-! ## Where the blocks lie -/

theorem idx0 : ∀ t : Fin cfg0.N, win0_0.index t (0 : Fin 2) = t.val / 8 ∧ win0_0.index t (1 : Fin 2) = 0 := by decide +kernel
theorem idx1 : ∀ t : Fin cfg0.N, win0_1.index t (0 : Fin 2) = 8 * (t.val / 64) + min (t.val / 8 % 8) (t.val % 8) ∧ win0_1.index t (1 : Fin 2) = 0 := by decide +kernel
theorem idx2 : ∀ t : Fin cfg0.N, win0_2.index t (0 : Fin 2) = 0 ∧ win0_2.index t (1 : Fin 2) = 8 * (t.val / 64) + min (t.val / 8 % 8) (t.val % 8) := by decide +kernel
theorem idx3 : ∀ t : Fin cfg0.N, win0_3.index t (0 : Fin 2) = 8 * (t.val / 64) + min (t.val / 8 % 8) (t.val % 8) ∧ win0_3.index t (1 : Fin 2) = 0 := by decide +kernel
theorem crd : ∀ t : Fin cfg0.N, (grid0.coords t 1).val = t.val / 8 % 8 ∧ (grid0.coords t 2).val = t.val % 8 := by decide +kernel

theorem blk0 (t : Fin cfg0.N) (q : Fin 512) (x : Fin 3072) (r : Fin 8192) (hr : r.val = 512 * (t.val / 8) + q.val) :
    iblk m c 0 t (ix2 q x) = V m c main_v5 (ix2 r x) := by
  show V m c main_v5 _ = V m c main_v5 _
  congr 1
  funext a
  apply Fin.ext
  match a with
  | ⟨0, _⟩ => show win0_0.index t (0 : Fin 2) * 512 + 1 * q.val = r.val
              rw [(idx0 t).1]; omega
  | ⟨1, _⟩ => show win0_0.index t (1 : Fin 2) * 3072 + 1 * x.val = x.val
              rw [(idx0 t).2]; omega
theorem blk1 (t : Fin cfg0.N) (q : Fin 512) (x : Fin 2048) (r : Fin 8192) (hr : r.val = 512 * (8 * (t.val / 64) + min (t.val / 8 % 8) (t.val % 8)) + q.val) :
    iblk m c 1 t (ix2 q x) = V m c main_v7 (ix2 r x) := by
  show V m c main_v7 _ = V m c main_v7 _
  congr 1
  funext a
  apply Fin.ext
  match a with
  | ⟨0, _⟩ => show win0_1.index t (0 : Fin 2) * 512 + 1 * q.val = r.val
              rw [(idx1 t).1]; omega
  | ⟨1, _⟩ => show win0_1.index t (1 : Fin 2) * 2048 + 1 * x.val = x.val
              rw [(idx1 t).2]; omega
theorem blk2 (t : Fin cfg0.N) (x : Fin 2048) (q : Fin 512) (r : Fin 8192) (hr : r.val = 512 * (8 * (t.val / 64) + min (t.val / 8 % 8) (t.val % 8)) + q.val) :
    iblk m c 2 t (ix2 x q) = V m c main_v10 (ix2 x r) := by
  show V m c main_v10 _ = V m c main_v10 _
  congr 1
  funext a
  apply Fin.ext
  match a with
  | ⟨0, _⟩ => show win0_2.index t (0 : Fin 2) * 2048 + 1 * x.val = x.val
              rw [(idx2 t).1]; omega
  | ⟨1, _⟩ => show win0_2.index t (1 : Fin 2) * 512 + 1 * q.val = r.val
              rw [(idx2 t).2]; omega
theorem blk3 (t : Fin cfg0.N) (q : Fin 512) (x : Fin 128) (r : Fin 8192) (hr : r.val = 512 * (8 * (t.val / 64) + min (t.val / 8 % 8) (t.val % 8)) + q.val) :
    iblk m c 3 t (ix2 q x) = V m c main_v12 (ix2 r x) := by
  show V m c main_v12 _ = V m c main_v12 _
  congr 1
  funext a
  apply Fin.ext
  match a with
  | ⟨0, _⟩ => show win0_3.index t (0 : Fin 2) * 512 + 1 * q.val = r.val
              rw [(idx3 t).1]; omega
  | ⟨1, _⟩ => show win0_3.index t (1 : Fin 2) * 128 + 1 * x.val = x.val
              rw [(idx3 t).2]; omega
end Cert.KernelIdeal.Att
end
-- ==== Proof.AttReal.lean ====
module
public import proofs.«01_k».proof.Proof.AttScore
@[expose] public section
noncomputable section
open Idealize.ShloMosaic
namespace Cert.Att

/-! # Of real queries and keys the scores are real -/

variable {x0 : (⟨4, ![2, 4096, 16, 192]⟩ : Shape).Idx → EReal} {x1 : (⟨4, ![2, 4096, 16, 128]⟩ : Shape).Idx → EReal}
  {x3 : (⟨3, ![2, 4096, 64]⟩ : Shape).Idx → EReal}

/-- A sum of products of reals is real. -/
theorem real_sum {n : ℕ} (f g : Fin n → EReal) (hf : ∀ d, ∃ r : ℝ, f d = r) (hg : ∀ d, ∃ r : ℝ, g d = r) : ∃ r : ℝ, ∑ d, f d * g d = r := by
  choose a ha using hf
  choose b hb using hg
  refine ⟨∑ d, a d * b d, ?_⟩
  simp only [ha, hb, ← EReal.coe_mul]
  exact (map_sum (⟨⟨(fun r : ℝ => (r : EReal)), EReal.coe_zero⟩, EReal.coe_add⟩ : ℝ →+ EReal) (fun d => a d * b d) Finset.univ).symm

theorem scale_real : ∃ r : ℝ, Ideal.ofBits .f32 0x3D93CD3A#32 = r := by
  simp only [Ideal.ofBits, Ideal.ieee]
  norm_num
  exact ⟨_, rfl⟩

theorem floor_real : ∃ r : ℝ, Ideal.ofBits .f32 0xF149F2CA#32 = r := by
  simp only [Ideal.ofBits, Ideal.ieee]
  norm_num
  exact ⟨_, rfl⟩

variable (h0 : ∀ i, ∃ r : ℝ, x0 i = r) (h1 : ∀ i, ∃ r : ℝ, x1 i = r) (h3 : ∀ i, ∃ r : ℝ, x3 i = r)
include h0 h1 h3

theorem rawScore_real (b : Fin 2) (h : Fin 16) (t k : Fin 4096) : ∃ r : ℝ, rawScore x0 x1 x3 b h t k = r := by
  obtain ⟨p, hp⟩ := real_sum (fun d : Fin 128 => x0 (ix4 b t h ⟨d.val, by omega⟩)) (fun d => x1 (ix4 b k h d)) (fun _ => h0 _) (fun _ => h1 _)
  obtain ⟨q, hq⟩ := real_sum (fun d : Fin 64 => x0 (ix4 b t h ⟨128 + d.val, by omega⟩)) (fun d => x3 (ix3 b k d)) (fun _ => h0 _) (fun _ => h3 _)
  obtain ⟨s, hs⟩ := scale_real
  refine ⟨(p + q) * s, ?_⟩
  unfold rawScore
  rw [hp, hq, hs, EReal.coe_mul, EReal.coe_add]

/-- No score is plus infinity. -/
theorem score_ne_top (b : Fin 2) (h : Fin 16) (t : Fin 4096) (k : ℕ) : score x0 x1 x3 b h t k ≠ ⊤ := by
  unfold score
  split_ifs with hk hkt
  · obtain ⟨r, hr⟩ := rawScore_real h0 h1 h3 b h t ⟨k, hk⟩
    rw [hr]
    exact EReal.coe_ne_top r
  · exact bot_ne_top
  · exact bot_ne_top

/-- The first key is seen by every query. -/
theorem score_zero_ne_bot (b : Fin 2) (h : Fin 16) (t : Fin 4096) : score x0 x1 x3 b h t 0 ≠ ⊥ := by
  unfold score
  rw [dif_pos (by norm_num), if_pos (Nat.zero_le _)]
  obtain ⟨r, hr⟩ := rawScore_real h0 h1 h3 b h t ⟨0, by norm_num⟩
  rw [hr]
  exact EReal.coe_ne_bot r

end Cert.Att
end
-- ==== Proof.AttPointA.lean ====
module
public import proofs.«01_k».proof.Proof.AttSteps
@[expose] public section
set_option maxRecDepth 16384
noncomputable section
open Idealize.ShloMosaic Idealize.ShloMosaic.TcCoe Idealize.ShloMosaic.Tactic Idealize.SL.Sem
open Idealize.ShloMosaic.ValueIdx
namespace Cert.KernelIdeal.Att
open Cert.KernelIdeal Cert.KernelIdeal.Gen
variable {F : FTy → Type} [FloatOps F]

/-! # What the body leaves at the first block of keys -/

/-- At the first block of keys: the maxima. -/
theorem sout0_A_0_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (hc0 : cond0_0 i) (hc1 : cond0_1 i) (hc2 : ¬cond0_2 i) :
    sout0_A_0 c i arg3 harg3 arg4 harg4 arg5 harg5 arg6 harg6 arg7 harg7 arg8 harg8 arg9 harg9 arg10 harg10 hc0 hc1 hc2 x0 x1 x2 x3 = gM i x0 x1 x3 m0 := by
  unfold sout0_A_0
  rw [View.read_writes_junk_eq_canon]
  unfold kernelRun0_A
  dsimp only
  sl_unfold_words
  simp (disch := decide) only [↓View.readCov_skip, ↓View.readCov_cons_toLoadRect, ↓View.readCov_fill, View.readAt_eq_ld, harg3.read_unread, harg4.read_unread, harg5.read_unread, harg6.read_unread, harg8.read_unread, harg9.read_unread, harg10.read_unread]
  exact canon_heads (F := F) (A := 1) (B := 512) (e := .f32) (fun h hh => k0_pay5 (mNew i x0 x1 x3 (row m0 h hh) h hh)) [⟨Rect.unit ![0, 0, 0] ![16, 1, 512] inb_S16x1x512_S16x1x512_0_0_0, k0_pay1⟩]

/-- At the first block of keys: the sums. -/
theorem sout0_A_1_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (hc0 : cond0_0 i) (hc1 : cond0_1 i) (hc2 : ¬cond0_2 i) :
    sout0_A_1 c i arg3 harg3 arg4 harg4 arg5 harg5 arg6 harg6 arg7 harg7 arg8 harg8 arg9 harg9 arg10 harg10 hc0 hc1 hc2 x0 x1 x2 x3 = gL i x0 x1 x3 m0 l0 := by
  unfold sout0_A_1
  rw [View.read_writes_junk_eq_canon]
  unfold kernelRun0_A
  dsimp only
  sl_unfold_words
  simp (disch := decide) only [↓View.readCov_skip, ↓View.readCov_cons_toLoadRect, ↓View.readCov_fill, View.readAt_eq_ld, harg3.read_unread, harg4.read_unread, harg5.read_unread, harg6.read_unread, harg8.read_unread, harg9.read_unread, harg10.read_unread]
  exact canon_heads (F := F) (A := 1) (B := 512) (e := .f32) (fun h hh => lNew i x0 x1 x3 (row m0 h hh) (row l0 h hh) h hh) [⟨Rect.unit ![0, 0, 0] ![16, 1, 512] inb_S16x1x512_S16x1x512_0_0_0, k0_pay2⟩]

/-- At the first block of keys: the weighted sums. -/
theorem sout0_A_2_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (hc0 : cond0_0 i) (hc1 : cond0_1 i) (hc2 : ¬cond0_2 i) :
    sout0_A_2 c i arg3 harg3 arg4 harg4 arg5 harg5 arg6 harg6 arg7 harg7 arg8 harg8 arg9 harg9 arg10 harg10 hc0 hc1 hc2 x0 x1 x2 x3 = gA i x0 x1 x2 x3 m0 a0 := by
  unfold sout0_A_2
  rw [View.read_writes_junk_eq_canon]
  unfold kernelRun0_A
  dsimp only
  sl_unfold_words
  simp (disch := decide) only [↓View.readCov_skip, ↓View.readCov_cons_toLoadRect, ↓View.readCov_fill, View.readAt_eq_ld, harg3.read_unread, harg4.read_unread, harg5.read_unread, harg6.read_unread, harg8.read_unread, harg9.read_unread, harg10.read_unread]
  exact canon_heads (F := F) (A := 128) (B := 512) (e := .f32) (fun h hh => aNew i x0 x1 x2 x3 (row m0 h hh) (plane a0 h hh) h hh) [⟨Rect.unit ![0, 0, 0] ![16, 128, 512] inb_S16x128x512_S16x128x512_0_0_0, k0_pay3⟩]

end Cert.KernelIdeal.Att
end
-- ==== Proof.AttPointC.lean ====
module
public import proofs.«01_k».proof.Proof.AttSteps
@[expose] public section
set_option maxRecDepth 16384
noncomputable section
open Idealize.ShloMosaic Idealize.ShloMosaic.TcCoe Idealize.ShloMosaic.Tactic Idealize.SL.Sem
open Idealize.ShloMosaic.ValueIdx
namespace Cert.KernelIdeal.Att
open Cert.KernelIdeal Cert.KernelIdeal.Gen
variable {F : FTy → Type} [FloatOps F]

/-! # What the body leaves at the last block of keys, where the mask lets nothing through -/

/-- At the last block of keys, where the mask lets nothing through: the output block. -/
theorem out0_C_4_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : ¬cond0_1 i) (hc2 : cond0_2 i) :
    out0_C_4 c i arg3 harg3 arg4 harg4 arg5 harg5 arg6 harg6 arg7 harg7 arg8 harg8 arg9 harg9 arg10 harg10 hc0 hc1 hc2 x0 x1 x2 x3 xs0 xs1 xs2 = gO (row xs1) (plane xs2) := by
  unfold out0_C_4
  rw [View.read_writes_junk_eq_canon]
  unfold kernelRun0_C
  dsimp only
  sl_unfold_words
  simp only [View.readAt_eq_ld, harg3.read_unread, harg4.read_unread, harg5.read_unread, harg6.read_unread, harg8.read_unread, harg9.read_unread, harg10.read_unread]
  exact canon_tiles (F := F) (e := .bf16) (fun h hh => k0_pay158 (plane xs2 h hh) (row xs1 h hh))

end Cert.KernelIdeal.Att
end
-- ==== Proof.AttPointD.lean ====
module
public import proofs.«01_k».proof.Proof.AttSteps
@[expose] public section
set_option maxRecDepth 16384
noncomputable section
open Idealize.ShloMosaic Idealize.ShloMosaic.TcCoe Idealize.ShloMosaic.Tactic Idealize.SL.Sem
open Idealize.ShloMosaic.ValueIdx
namespace Cert.KernelIdeal.Att
open Cert.KernelIdeal Cert.KernelIdeal.Gen
variable {F : FTy → Type} [FloatOps F]

/-! # What the body leaves at a later block of keys -/

/-- At a later block of keys: the maxima. -/
theorem sout0_D_0_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : cond0_1 i) (hc2 : ¬cond0_2 i) :
    sout0_D_0 c i arg3 harg3 arg4 harg4 arg5 harg5 arg6 harg6 arg7 harg7 arg8 harg8 arg9 harg9 arg10 harg10 hc0 hc1 hc2 x0 x1 x2 x3 xs0 xs1 xs2 = gM i x0 x1 x3 xs0 := by
  unfold sout0_D_0
  rw [View.read_writes_junk_eq_canon]
  unfold kernelRun0_D
  dsimp only
  sl_unfold_words
  simp only [View.readAt_eq_ld, harg3.read_unread, harg4.read_unread, harg5.read_unread, harg6.read_unread, harg8.read_unread, harg9.read_unread, harg10.read_unread]
  exact canon_heads (F := F) (A := 1) (B := 512) (e := .f32) (fun h hh => k0_pay5 (mNew i x0 x1 x3 (row xs0 h hh) h hh)) []

/-- At a later block of keys: the sums. -/
theorem sout0_D_1_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : cond0_1 i) (hc2 : ¬cond0_2 i) :
    sout0_D_1 c i arg3 harg3 arg4 harg4 arg5 harg5 arg6 harg6 arg7 harg7 arg8 harg8 arg9 harg9 arg10 harg10 hc0 hc1 hc2 x0 x1 x2 x3 xs0 xs1 xs2 = gL i x0 x1 x3 xs0 xs1 := by
  unfold sout0_D_1
  rw [View.read_writes_junk_eq_canon]
  unfold kernelRun0_D
  dsimp only
  sl_unfold_words
  simp only [View.readAt_eq_ld, harg3.read_unread, harg4.read_unread, harg5.read_unread, harg6.read_unread, harg8.read_unread, harg9.read_unread, harg10.read_unread]
  exact canon_heads (F := F) (A := 1) (B := 512) (e := .f32) (fun h hh => lNew i x0 x1 x3 (row xs0 h hh) (row xs1 h hh) h hh) []

/-- At a later block of keys: the weighted sums. -/
theorem sout0_D_2_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : cond0_1 i) (hc2 : ¬cond0_2 i) :
    sout0_D_2 c i arg3 harg3 arg4 harg4 arg5 harg5 arg6 harg6 arg7 harg7 arg8 harg8 arg9 harg9 arg10 harg10 hc0 hc1 hc2 x0 x1 x2 x3 xs0 xs1 xs2 = gA i x0 x1 x2 x3 xs0 xs2 := by
  unfold sout0_D_2
  rw [View.read_writes_junk_eq_canon]
  unfold kernelRun0_D
  dsimp only
  sl_unfold_words
  simp only [View.readAt_eq_ld, harg3.read_unread, harg4.read_unread, harg5.read_unread, harg6.read_unread, harg8.read_unread, harg9.read_unread, harg10.read_unread]
  exact canon_heads (F := F) (A := 128) (B := 512) (e := .f32) (fun h hh => aNew i x0 x1 x2 x3 (row xs0 h hh) (plane xs2 h hh) h hh) []

end Cert.KernelIdeal.Att
end
-- ==== Proof.AttPointE.lean ====
module
public import proofs.«01_k».proof.Proof.AttSteps
@[expose] public section
set_option maxRecDepth 16384
noncomputable section
open Idealize.ShloMosaic Idealize.ShloMosaic.TcCoe Idealize.ShloMosaic.Tactic Idealize.SL.Sem
open Idealize.ShloMosaic.ValueIdx
namespace Cert.KernelIdeal.Att
open Cert.KernelIdeal Cert.KernelIdeal.Gen
variable {F : FTy → Type} [FloatOps F]

/-! # What the body leaves at the last block of keys -/

/-- At the last block of keys: the maxima. -/
theorem sout0_E_0_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : cond0_1 i) (hc2 : cond0_2 i) :
    sout0_E_0 c i arg3 harg3 arg4 harg4 arg5 harg5 arg6 harg6 arg7 harg7 arg8 harg8 arg9 harg9 arg10 harg10 hc0 hc1 hc2 x0 x1 x2 x3 xs0 xs1 xs2 = gM i x0 x1 x3 xs0 := by
  unfold sout0_E_0
  rw [View.read_writes_junk_eq_canon]
  unfold kernelRun0_E
  dsimp only
  sl_unfold_words
  simp only [View.readAt_eq_ld, harg3.read_unread, harg4.read_unread, harg5.read_unread, harg6.read_unread, harg8.read_unread, harg9.read_unread, harg10.read_unread]
  exact canon_heads (F := F) (A := 1) (B := 512) (e := .f32) (fun h hh => k0_pay5 (mNew i x0 x1 x3 (row xs0 h hh) h hh)) []

/-- At the last block of keys: the sums. -/
theorem sout0_E_1_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : cond0_1 i) (hc2 : cond0_2 i) :
    sout0_E_1 c i arg3 harg3 arg4 harg4 arg5 harg5 arg6 harg6 arg7 harg7 arg8 harg8 arg9 harg9 arg10 harg10 hc0 hc1 hc2 x0 x1 x2 x3 xs0 xs1 xs2 = gL i x0 x1 x3 xs0 xs1 := by
  unfold sout0_E_1
  rw [View.read_writes_junk_eq_canon]
  unfold kernelRun0_E
  dsimp only
  sl_unfold_words
  simp only [View.readAt_eq_ld, harg3.read_unread, harg4.read_unread, harg5.read_unread, harg6.read_unread, harg8.read_unread, harg9.read_unread, harg10.read_unread]
  exact canon_heads (F := F) (A := 1) (B := 512) (e := .f32) (fun h hh => lNew i x0 x1 x3 (row xs0 h hh) (row xs1 h hh) h hh) []

/-- At the last block of keys: the weighted sums. -/
theorem sout0_E_2_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : cond0_1 i) (hc2 : cond0_2 i) :
    sout0_E_2 c i arg3 harg3 arg4 harg4 arg5 harg5 arg6 harg6 arg7 harg7 arg8 harg8 arg9 harg9 arg10 harg10 hc0 hc1 hc2 x0 x1 x2 x3 xs0 xs1 xs2 = gA i x0 x1 x2 x3 xs0 xs2 := by
  unfold sout0_E_2
  rw [View.read_writes_junk_eq_canon]
  unfold kernelRun0_E
  dsimp only
  sl_unfold_words
  simp only [View.readAt_eq_ld, harg3.read_unread, harg4.read_unread, harg5.read_unread, harg6.read_unread, harg8.read_unread, harg9.read_unread, harg10.read_unread]
  exact canon_heads (F := F) (A := 128) (B := 512) (e := .f32) (fun h hh => aNew i x0 x1 x2 x3 (row xs0 h hh) (plane xs2 h hh) h hh) []

/-- At the last block of keys: the output block. -/
theorem out0_E_4_eq (c : Dev nD) (i : grid0.Coords) (arg3 : Memref sig .tc .vmem S512x3072 .bf16) (harg3 : arg3.IsWhole) (arg4 : Memref sig .tc .vmem S512x2048 .bf16) (harg4 : arg4.IsWhole)
    (arg5 : Memref sig .tc .vmem S2048x512 .bf16) (harg5 : arg5.IsWhole) (arg6 : Memref sig .tc .vmem S512x128 .f32) (harg6 : arg6.IsWhole) (arg7 : Memref sig .tc .vmem S512x2048 .bf16) (harg7 : arg7.IsWhole)
    (arg8 : Memref sig .tc .vmem S16x1x512 .f32) (harg8 : arg8.IsWhole) (arg9 : Memref sig .tc .vmem S16x1x512 .f32) (harg9 : arg9.IsWhole) (arg10 : Memref sig .tc .vmem S16x128x512 .f32) (harg10 : arg10.IsWhole)
    (x0 : Vec F S512x3072 .bf16) (x1 : Vec F S512x2048 .bf16) (x2 : Vec F S2048x512 .bf16) (x3 : Vec F S512x128 .f32)
    (xs0 xs1 : Vec F S16x1x512 .f32) (xs2 : Vec F S16x128x512 .f32)
    (hc0 : ¬cond0_0 i) (hc1 : cond0_1 i) (hc2 : cond0_2 i) :
    out0_E_4 c i arg3 harg3 arg4 harg4 arg5 harg5 arg6 harg6 arg7 harg7 arg8 harg8 arg9 harg9 arg10 harg10 hc0 hc1 hc2 x0 x1 x2 x3 xs0 xs1 xs2 = gO (fun h hh => lNew i x0 x1 x3 (row xs0 h hh) (row xs1 h hh) h hh) (fun h hh => aNew i x0 x1 x2 x3 (row xs0 h hh) (plane xs2 h hh) h hh) := by
  unfold out0_E_4
  rw [View.read_writes_junk_eq_canon]
  unfold kernelRun0_E
  dsimp only
  sl_unfold_words
  simp (disch := decide) only [↓View.readCov_skip, ↓View.readCov_cons_toLoadRect, View.readAt_eq_ld, harg3.read_unread, harg4.read_unread, harg5.read_unread, harg6.read_unread, harg8.read_unread, harg9.read_unread, harg10.read_unread]
  exact canon_tiles (F := F) (e := .bf16) (fun h hh => k0_pay158 ((fun h hh => aNew i x0 x1 x2 x3 (row xs0 h hh) (plane xs2 h hh) h hh) h hh) ((fun h hh => lNew i x0 x1 x3 (row xs0 h hh) (row xs1 h hh) h hh) h hh))

end Cert.KernelIdeal.Att
end
-- ==== Proof.AttRun.lean ====
module
public import proofs.«01_k».proof.Proof.AttRead
public import proofs.«01_k».proof.Proof.AttHost
public import proofs.«01_k».proof.Proof.AttReal
public import proofs.«01_k».proof.Proof.AttPointA
public import proofs.«01_k».proof.Proof.AttPointC
public import proofs.«01_k».proof.Proof.AttPointD
public import proofs.«01_k».proof.Proof.AttPointE
public import proofs.«01_k».proof.Proof.Gen.KernelIdeal.Value
@[expose] public section
set_option maxRecDepth 16384
noncomputable section
open Idealize.ShloMosaic Idealize.ShloMosaic.TcCoe Idealize.ShloMosaic.Tactic Idealize.SL.Sem
namespace Cert.KernelIdeal.Att
open Cert.KernelIdeal Cert.KernelIdeal.Gen Cert.KernelIdeal.Value Cert.Att Cert.Online

/-! # The attention's grid, run through: after each block of keys the invariant, after the last the output -/

/-! ## The arrays over the heads, read at a head -/

/-- A stack read at head `h`. -/
theorem stack_ix {A B : ℕ} (f : (h : ℕ) → h < 16 → (⟨3, ![1, A, B]⟩ : Shape).Idx → EReal) (h : Fin 16) (a : Fin A) (b : Fin B) :
    stack f (ix3 h a b) = f h.val h.isLt (ix3 (0 : Fin 1) a b) := stack_at f h.val h.isLt _ rfl _ (by
  funext x
  match x with
  | ⟨0, _⟩ => rfl
  | ⟨1, _⟩ => rfl
  | ⟨2, _⟩ => rfl)

/-- The output block read in head `h`'s columns. -/
theorem gO_ix (fl : (h : ℕ) → h < 16 → Vec Ideal S1x1x512 .f32) (fa : (h : ℕ) → h < 16 → Vec Ideal S1x128x512 .f32) (h : Fin 16) (q : Fin 512) (d : Fin 128) :
    gO fl fa (ix2 q (⟨128 * h.val + d.val, by omega⟩ : Fin 2048)) =
      Ideal.div (fa h.val h.isLt (ix3 (0 : Fin 1) d q)) (fl h.val h.isLt (ix3 (0 : Fin 1) (0 : Fin 1) q)) := by
  unfold gO
  rw [tile_at _ h.val h.isLt _ (by show (128 * h.val + d.val) / 128 = h.val; omega) (ix2 q d) (by
    funext x
    match x with
    | ⟨0, _⟩ => rfl
    | ⟨1, _⟩ => exact Fin.ext (by show (128 * h.val + d.val) % 128 = d.val; omega))]
  exact pay158_apply _ _ q d

variable (m : (ℓ : Loc nD τ sig) → Buf (Elt Ideal) ℓ) (c : Dev nD)

/-- The batch, the block of queries and a query's position at a grid point. -/
abbrev bOf (n : ℕ) (hn : n < 128) : Fin 2 := ⟨n / 64, by omega⟩
abbrev tOf (n : ℕ) (q : Fin 512) : Fin 4096 := ⟨512 * (n / 8 % 8) + q.val, by omega⟩

theorem lt128 (t : Fin cfg0.N) : t.val < 128 := lt_of_lt_of_eq t.isLt (show cfg0.N = 128 from N_0)

/-- The block scores are the scores. -/
theorem sc_eq (t : Fin cfg0.N) (hij : t.val % 8 ≤ t.val / 8 % 8) (h : Fin 16) (k q : Fin 512) :
    sc (grid0.coords t) (iblk m c 0 t) (iblk m c 1 t) (iblk m c 3 t) h.val h.isLt (ix2 k q) =
      score (Xq m c) (Xk m c) (Xr m c) (bOf t.val (lt128 t)) h (tOf t.val q) (512 * (t.val % 8) + k.val) := by
  have ht := lt128 t
  rw [sc_apply, (crd t).1, (crd t).2]
  unfold score rawScore
  rw [dif_pos (by omega)]
  have e0 : ∀ d : Fin 128, iblk m c 0 t (ix2 q (⟨128 * h.val + d.val, by omega⟩ : Fin 3072)) = Xq m c (ix4 (bOf t.val (lt128 t)) (tOf t.val q) h ⟨d.val, by omega⟩) :=
    fun d => (blk0 m c t q _ ⟨4096 * (t.val / 64) + (512 * (t.val / 8 % 8) + q.val), by omega⟩ (by dsimp only; omega)).trans (v5_nope m c (bOf t.val (lt128 t)) (tOf t.val q) h d)
  have e0' : ∀ d : Fin 64, iblk m c 0 t (ix2 q (⟨2048 + 64 * h.val + d.val, by omega⟩ : Fin 3072)) = Xq m c (ix4 (bOf t.val (lt128 t)) (tOf t.val q) h ⟨128 + d.val, by omega⟩) :=
    fun d => (blk0 m c t q _ ⟨4096 * (t.val / 64) + (512 * (t.val / 8 % 8) + q.val), by omega⟩ (by dsimp only; omega)).trans (v5_rope m c (bOf t.val (lt128 t)) (tOf t.val q) h d)
  have e1 : ∀ d : Fin 128, iblk m c 1 t (ix2 k (⟨128 * h.val + d.val, by omega⟩ : Fin 2048)) =
      Xk m c (ix4 (bOf t.val (lt128 t)) (⟨512 * (t.val % 8) + k.val, by omega⟩ : Fin 4096) h d) :=
    fun d => (blk1 m c t k _ ⟨4096 * (t.val / 64) + (512 * (t.val % 8) + k.val), by omega⟩ (by dsimp only; omega)).trans (v7_apply m c (bOf t.val (lt128 t)) ⟨512 * (t.val % 8) + k.val, by omega⟩ h d)
  have e3 : ∀ d : Fin 64, iblk m c 3 t (ix2 k (⟨64 * (h.val % 2) + d.val, by omega⟩ : Fin 128)) =
      Xr m c (ix3 (bOf t.val (lt128 t)) (⟨512 * (t.val % 8) + k.val, by omega⟩ : Fin 4096) d) :=
    fun d => (blk3 m c t k _ ⟨4096 * (t.val / 64) + (512 * (t.val % 8) + k.val), by omega⟩ (by dsimp only; omega)).trans
      (v12_apply m c (bOf t.val (lt128 t)) ⟨512 * (t.val % 8) + k.val, by omega⟩ ⟨h.val % 2, by omega⟩ d)
  simp only [e0, e0', e1, e3]

/-- The block values are the values. -/
theorem vh_eq (t : Fin cfg0.N) (hij : t.val % 8 ≤ t.val / 8 % 8) (h : Fin 16) (d : Fin 128) (k : Fin 512) :
    vh (iblk m c 2 t) h.val h.isLt (ix2 d k) = value (Xv m c) (bOf t.val (lt128 t)) h d (512 * (t.val % 8) + k.val) := by
  have ht := lt128 t
  unfold value
  rw [vh_apply, dif_pos (by omega)]
  exact (blk2 m c t _ k ⟨4096 * (t.val / 64) + (512 * (t.val % 8) + k.val), by omega⟩ (by dsimp only; omega)).trans
    (v10_apply m c (bOf t.val (lt128 t)) ⟨512 * (t.val % 8) + k.val, by omega⟩ h d)

/-- The invariant of all heads and queries after grid point `n`, of the first `n'` keys. -/
def Good (n : ℕ) (hn : n < 128) (n' : ℕ) (xs0 xs1 : Vec Ideal S16x1x512 .f32) (xs2 : Vec Ideal S16x128x512 .f32) : Prop :=
  ∀ (h : Fin 16) (q : Fin 512) (d : Fin 128), Inv (score (Xq m c) (Xk m c) (Xr m c) (bOf n hn) h (tOf n q)) (value (Xv m c) (bOf n hn) h d) n'
    (xs0 (ix3 h (0 : Fin 1) q)) (xs1 (ix3 h (0 : Fin 1) q)) (xs2 (ix3 h d q))

section Finite
variable (hq : ∀ i, ∃ r : ℝ, Xq m c i = r) (hk : ∀ i, ∃ r : ℝ, Xk m c i = r) (hr : ∀ i, ∃ r : ℝ, Xr m c i = r)
include hq hk hr

/-- One block of keys more. -/
theorem good_step (t : Fin cfg0.N) (hij : t.val % 8 ≤ t.val / 8 % 8) (xs0 xs1 : Vec Ideal S16x1x512 .f32) (xs2 : Vec Ideal S16x128x512 .f32)
    (hI : Good m c t.val (lt128 t) (512 * (t.val % 8)) xs0 xs1 xs2) :
    Good m c t.val (lt128 t) (512 * (t.val % 8) + 512) (gM (grid0.coords t) (iblk m c 0 t) (iblk m c 1 t) (iblk m c 3 t) xs0)
      (gL (grid0.coords t) (iblk m c 0 t) (iblk m c 1 t) (iblk m c 3 t) xs0 xs1)
      (gA (grid0.coords t) (iblk m c 0 t) (iblk m c 1 t) (iblk m c 2 t) (iblk m c 3 t) xs0 xs2) := by
  intro h q d
  unfold gM gL gA
  rw [stack_ix, stack_ix, stack_ix]
  refine head_step (row xs0 h.val h.isLt) (row xs1 h.val h.isLt) (plane xs2 h.val h.isLt) (iblk m c 0 t) (iblk m c 1 t) (iblk m c 2 t) (iblk m c 3 t) h.val h.isLt (grid0.coords t)
    (score_ne_top hq hk hr _ _ _) q d (fun x => sc_eq m c t hij h x q) (fun x => vh_eq m c t hij h d x) ?_
  rw [row_apply, row_apply, plane_apply]
  exact hI h q d

/-- Before the first block of keys. -/
theorem good_zero (n : ℕ) (hn : n < 128) : Good m c n hn 0 m0 l0 a0 := by
  intro h q d
  obtain ⟨M, hM⟩ := floor_real
  have e0 : (m0 : Vec Ideal S16x1x512 .f32) (ix3 h (0 : Fin 1) q) = (M : EReal) := by rw [← hM]; pointwise [k0_pay1]
  have e1 : (l0 : Vec Ideal S16x1x512 .f32) (ix3 h (0 : Fin 1) q) = (0 : EReal) := by pointwise [k0_pay2]
  have e2 : (a0 : Vec Ideal S16x128x512 .f32) (ix3 h d q) = (0 : EReal) := by pointwise [k0_pay3]
  rw [e0, e1, e2]
  exact inv_zero _ _ M

/-- After each grid point: the invariant of the keys seen so far, which end with the query's own block. -/
theorem good_at (t : Fin cfg0.N) (acc : Vec Ideal S512x2048 .bf16 × Vec Ideal S16x1x512 .f32 × Vec Ideal S16x1x512 .f32 × Vec Ideal S16x128x512 .f32)
    (hacc : t.val % 8 ≠ 0 → Good m c t.val (lt128 t) (512 * (min (t.val / 8 % 8) (t.val % 8 - 1) + 1)) acc.2.1 acc.2.2.1 acc.2.2.2) :
    Good m c t.val (lt128 t) (512 * (min (t.val / 8 % 8) (t.val % 8) + 1)) (stAt0 m c t.val t.isLt acc).2.1 (stAt0 m c t.val t.isLt acc).2.2.1 (stAt0 m c t.val t.isLt acc).2.2.2 := by
  by_cases h0 : t.val % 8 = 0
  · rw [stAt0_A m c t acc h0 (by omega) (by omega)]
    dsimp only
    rw [sout0_A_0_eq, sout0_A_1_eq, sout0_A_2_eq]
    have e := good_step m c hq hk hr t (by omega) m0 l0 a0 (by rw [h0]; exact good_zero m c hq hk hr _ _)
    rw [show 512 * (min (t.val / 8 % 8) (t.val % 8) + 1) = 512 * (t.val % 8) + 512 by omega]
    exact e
  · have hI := hacc h0
    by_cases h1 : t.val % 8 ≤ t.val / 8 % 8
    · have e := good_step m c hq hk hr t h1 acc.2.1 acc.2.2.1 acc.2.2.2 (by
        rw [show 512 * (min (t.val / 8 % 8) (t.val % 8 - 1) + 1) = 512 * (t.val % 8) by omega] at hI
        exact hI)
      rw [show 512 * (min (t.val / 8 % 8) (t.val % 8) + 1) = 512 * (t.val % 8) + 512 by omega]
      by_cases h2 : t.val % 8 = 7
      · rw [stAt0_E m c t acc h0 h1 h2]
        dsimp only
        rw [sout0_E_0_eq, sout0_E_1_eq, sout0_E_2_eq]
        exact e
      · rw [stAt0_D m c t acc h0 h1 h2]
        dsimp only
        rw [sout0_D_0_eq, sout0_D_1_eq, sout0_D_2_eq]
        exact e
    · rw [show 512 * (min (t.val / 8 % 8) (t.val % 8) + 1) = 512 * (min (t.val / 8 % 8) (t.val % 8 - 1) + 1) by omega]
      by_cases h2 : t.val % 8 = 7
      · rw [stAt0_C m c t acc h0 h1 h2]
        exact hI
      · rw [stAt0_B m c t acc h0 h1 h2]
        exact hI

theorem good_all : ∀ (n : ℕ) (hn : n < cfg0.N), Good m c n (lt128 ⟨n, hn⟩) (512 * (min (n / 8 % 8) (n % 8) + 1))
    (outsAt0 m c n hn).2.1 (outsAt0 m c n hn).2.2.1 (outsAt0 m c n hn).2.2.2 := by
  intro n
  induction n with
  | zero =>
    intro hn
    rw [outsAt0_zero]
    exact good_at m c hq hk hr ⟨0, hn⟩ junk0 (fun h => absurd rfl h)
  | succ n ih =>
    intro hn
    rw [outsAt0_succ]
    refine good_at m c hq hk hr ⟨n + 1, hn⟩ _ fun h => ?_
    have hd : ∀ (n₁ : ℕ) (h₁ : n₁ < 128) (N₁ N₂ : ℕ) (xs0 xs1 : Vec Ideal S16x1x512 .f32) (xs2 : Vec Ideal S16x128x512 .f32), n₁ / 8 = (n + 1) / 8 → N₁ = N₂ →
        Good m c n₁ h₁ N₁ xs0 xs1 xs2 → Good m c (n + 1) (lt128 ⟨n + 1, hn⟩) N₂ xs0 xs1 xs2 := by
      intro n₁ h₁ N₁ N₂ xs0 xs1 xs2 e eN hG h q d
      subst eN
      have hb : bOf (n + 1) (lt128 ⟨n + 1, hn⟩) = bOf n₁ h₁ := Fin.ext (by show (n + 1) / 64 = n₁ / 64; omega)
      have ht : tOf (n + 1) q = tOf n₁ q := Fin.ext (by show 512 * ((n + 1) / 8 % 8) + q.val = 512 * (n₁ / 8 % 8) + q.val; rw [e])
      rw [hb, ht]
      exact hG h q d
    have h' : (n + 1) % 8 ≠ 0 := h
    exact hd n _ _ _ _ _ _ (by omega) (by dsimp only; omega) (ih _)

end Finite

/-- At the last block of keys the output block is the weighted sum over the sum. -/
theorem out_at (t : Fin cfg0.N) (h2 : t.val % 8 = 7) (acc : Vec Ideal S512x2048 .bf16 × Vec Ideal S16x1x512 .f32 × Vec Ideal S16x1x512 .f32 × Vec Ideal S16x128x512 .f32)
    (h : Fin 16) (q : Fin 512) (d : Fin 128) :
    (stAt0 m c t.val t.isLt acc).1 (ix2 q (⟨128 * h.val + d.val, by omega⟩ : Fin 2048)) =
      Ideal.div ((stAt0 m c t.val t.isLt acc).2.2.2 (ix3 h d q)) ((stAt0 m c t.val t.isLt acc).2.2.1 (ix3 h (0 : Fin 1) q)) := by
  have h0 : ¬t.val % 8 = 0 := by omega
  by_cases h1 : t.val % 8 ≤ t.val / 8 % 8
  · rw [stAt0_E m c t acc h0 h1 h2]
    dsimp only
    rw [out0_E_4_eq, sout0_E_1_eq, sout0_E_2_eq, gO_ix]
    unfold gA gL
    rw [stack_ix, stack_ix]
  · rw [stAt0_C m c t acc h0 h1 h2]
    dsimp only
    rw [out0_C_4_eq, gO_ix, row_apply, plane_apply]
    rfl

/-- THE KERNEL'S RESULT, element by element: the attention. -/
theorem kernel_out (hq : ∀ i, ∃ r : ℝ, Xq m c i = r) (hk : ∀ i, ∃ r : ℝ, Xk m c i = r) (hr : ∀ i, ∃ r : ℝ, Xr m c i = r) (r : Fin 8192) (j : Fin 2048) :
    G4 m c (ix2 r j) = out (Xq m c) (Xk m c) (Xv m c) (Xr m c) ⟨r.val / 4096, by omega⟩ ⟨j.val / 128, by omega⟩ ⟨r.val % 4096, by omega⟩ ⟨j.val % 128, by omega⟩ := by
  have hp : pt4Of (ix2 r j) = 8 * (r.val / 512) + 7 := by
    show 8 * (1 * (r.val / 512 - 0) + 1 * (j.val / 2048 - 0)) + 7 = _
    omega
  have hN : pt4Of (ix2 r j) < cfg0.N := by rw [hp, show cfg0.N = 128 from N_0]; omega
  unfold G4
  rw [dif_pos hN, ← outsAt0_sweep m c _ hN]
  have hgood := good_all m c hq hk hr _ hN
  have hloc : loc4Of (ix2 r j) = ix2 (⟨r.val % 512, by omega⟩ : Fin 512) (⟨128 * (j.val / 128) + j.val % 128, by omega⟩ : Fin 2048) := by
    funext a
    match a with
    | ⟨0, _⟩ => rfl
    | ⟨1, _⟩ => exact Fin.ext (by show j.val % 2048 = 128 * (j.val / 128) + j.val % 128; omega)
  rw [hloc]
  have hstep : ∃ acc, outsAt0 m c (pt4Of (ix2 r j)) hN = stAt0 m c (pt4Of (ix2 r j)) hN acc := by
    generalize pt4Of (ix2 r j) = n at hN
    cases n with
    | zero => exact ⟨_, outsAt0_zero m c hN⟩
    | succ n => exact ⟨_, outsAt0_succ m c n hN⟩
  obtain ⟨acc, hacc⟩ := hstep
  have ho := out_at m c ⟨pt4Of (ix2 r j), hN⟩ (by dsimp only; omega) acc ⟨j.val / 128, by omega⟩ ⟨r.val % 512, by omega⟩ ⟨j.val % 128, by omega⟩
  rw [hacc] at hgood ⊢
  refine ho.trans ?_
  have hI := hgood ⟨j.val / 128, by omega⟩ ⟨r.val % 512, by omega⟩ ⟨j.val % 128, by omega⟩
  have hb : bOf (pt4Of (ix2 r j)) (lt128 ⟨pt4Of (ix2 r j), hN⟩) = (⟨r.val / 4096, by omega⟩ : Fin 2) := Fin.ext (by show pt4Of (ix2 r j) / 64 = r.val / 4096; omega)
  have ht : tOf (pt4Of (ix2 r j)) ⟨r.val % 512, by omega⟩ = (⟨r.val % 4096, by omega⟩ : Fin 4096) :=
    Fin.ext (by show 512 * (pt4Of (ix2 r j) / 8 % 8) + r.val % 512 = r.val % 4096; omega)
  rw [hb, ht] at hI
  refine inv_final (N := 4096) (score_ne_top hq hk hr _ _ _) (by omega) hI (fun k hk' => ?_) 0 (by omega) (score_zero_ne_bot hq hk hr _ _ _) rfl
  unfold score
  split_ifs with h1 h2
  · exfalso
    dsimp only at h2
    omega
  · rfl
  · rfl

end Cert.KernelIdeal.Att
end
-- ==== Proof.AttPre.lean ====
module
public import proofs.«01_k».proof.Defs
public import proofs.«01_k».proof.Proof.AttHost
public import Idealize.ShloMosaic.Lib.Pointwise
@[expose] public section
set_option maxRecDepth 16384
noncomputable section
open Idealize.ShloMosaic
namespace Cert.Att

/-! # What the precondition says: the queries and the keys are real numbers -/

/-- The word of plus infinity. -/
theorem ofBits_inf : Ideal.ofBits .f32 0x7F800000#32 = ⊤ := by
  simp [Ideal.ofBits, Ideal.ieee]

/-- A number below plus infinity in absolute value is real. -/
theorem real_of_abs_lt (x : EReal) (h : Ideal.cmp .olt (max x (-x)) (Ideal.ofBits .f32 0x7F800000#32) = 1#1) : ∃ r : ℝ, x = r := by
  rw [ofBits_inf] at h
  have hlt : max x (-x) < ⊤ := by
    by_contra hn
    have e : Ideal.cmp .olt (max x (-x)) ⊤ = BitVec.ofBool (decide (max x (-x) < ⊤)) := rfl
    rw [e, decide_eq_false hn] at h
    exact absurd h (by decide)
  have h1 : x ≠ ⊤ := (lt_of_le_of_lt (le_max_left _ _) hlt).ne
  have h2 : x ≠ ⊥ := by
    rintro rfl
    exact absurd (lt_of_le_of_lt (le_max_right _ _) hlt) (by simp)
  exact ⟨x.toReal, (EReal.coe_toReal h1 h2).symm⟩

variable [hPre_finite : Cert.Pre_finite.Facts] (m : (ℓ : Loc Cert.KernelIdeal.nD Cert.KernelIdeal.τ Cert.KernelIdeal.sig) → Buf (Elt Ideal) ℓ)
  (h : Pre_KernelIdeal_finite m) (c : Dev Cert.KernelIdeal.nD)
include h

theorem real_q (i : Cert.KernelIdeal.S2x4096x16x192.Idx) :
    ∃ r : ℝ, Cert.KernelIdeal.Att.Xq m c i = (r : EReal) :=
  real_of_abs_lt _ (congrFun (h c).1 i)

theorem real_k (i : Cert.KernelIdeal.S2x4096x16x128.Idx) :
    ∃ r : ℝ, Cert.KernelIdeal.Att.Xk m c i = (r : EReal) :=
  real_of_abs_lt _ (congrFun (h c).2.1 i)

theorem real_r (i : Cert.KernelIdeal.S2x4096x64.Idx) :
    ∃ r : ℝ, Cert.KernelIdeal.Att.Xr m c i = (r : EReal) :=
  real_of_abs_lt _ (congrFun (h c).2.2 i)

end Cert.Att
end
-- ==== Proof.Layer.lean ====
module
public import Idealize.ShloMosaic.PureOps.Ideal
public import Idealize.ShloMosaic.Lib.Pointwise
@[expose] public section
noncomputable section
open Idealize.ShloMosaic
namespace Cert.Layer

/-! # Normalisation, sigmoid and the feed-forward part, for one row of 2048 numbers -/

/-- One over the root of the mean square (and a small constant). -/
def invRms (x : Fin 2048 → EReal) : EReal :=
  Ideal.rsqrt (Ideal.div (∑ j, x j * x j) (Ideal.ofBits .f32 0x45000000#32) + Ideal.ofBits .f32 0x358637BD#32)

/-- The normalised row, times its gain. -/
def normed (x g : Fin 2048 → EReal) (k : Fin 2048) : EReal := x k * invRms x * g k

/-- The sigmoid. -/
def sigmoid (z : EReal) : EReal := Ideal.div 1 (1 + Ideal.exp (-z))

/-- A row times a column. -/
def dot (x w : Fin 2048 → EReal) : EReal := ∑ k, x k * w k

/-- One hidden unit: its gate through the SiLU, times its value. -/
def hidden (x wg wu : Fin 2048 → EReal) : EReal := dot x wg * sigmoid (dot x wg) * dot x wu

/-- The per-layer embedding `p`, through the gate of a row `h`, added to the row. -/
def gated (h g : Fin 2048 → EReal) (wg : Fin 2048 → Fin 2048 → EReal) (p : Fin 256 → EReal) (wp : Fin 256 → Fin 2048 → EReal) (k : Fin 2048) : EReal :=
  h k + sigmoid (dot (normed h g) (fun x => wg x k)) * ∑ x, p x * wp x k

/-- Among the 6152 columns of the input weights eight belong to the gates, from 3072 on; this is the `n`-th of the others. -/
def abCol (n : Fin 6144) : Fin 6152 := ⟨if n.val < 3072 then n.val else n.val + 8, by split <;> omega⟩

/-- The feed-forward part's share of the first `n` hidden units in one output: `a` the units, `w` their weights. -/
def upTo (a w : ℕ → EReal) (n : ℕ) : EReal := ∑ f ∈ Finset.range n, a f * w f

/-- A block of 512 units more. -/
theorem upTo_add (a w : ℕ → EReal) (n : ℕ) : upTo a w (n + 512) = upTo a w n + ∑ f : Fin 512, a (n + f.val) * w (n + f.val) := by
  unfold upTo
  rw [Finset.sum_range_add, Finset.sum_range (fun x => a (n + x) * w (n + x))]

end Cert.Layer
end
-- ==== Proof.FfnRef.lean ====
module
public import proofs.«01_k».proof.Proof.Gen.Reference2Ideal.Read
public import proofs.«01_k».proof.Proof.Layer
@[expose] public section
set_option maxRecDepth 16384
noncomputable section
open Idealize.ShloMosaic
namespace Cert.Reference2Ideal.Ffn
open Cert.Reference2Ideal Cert.Reference2Ideal.Read Cert.Layer

/-! # The feed-forward part's reference, read at an index -/

variable (x0 : (⟨S2x4096x2048, .f32⟩ : BufTy).Contents (Elt Ideal)) (x1 : (⟨S2048, .f32⟩ : BufTy).Contents (Elt Ideal))
  (x2 x3 : (⟨S2048x5632, .f32⟩ : BufTy).Contents (Elt Ideal)) (x4 : (⟨S5632x2048, .f32⟩ : BufTy).Contents (Elt Ideal))

theorem v12_apply (b : Fin 2) (t : Fin 4096) (k : Fin 2048) :
    val_main_v12 (F := Ideal) x0 x1 (ix3 b t k) = normed (fun j => x0 (ix3 b t j)) (fun j => x1 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v16_apply (b : Fin 2) (t : Fin 4096) (f : Fin 5632) :
    val_main_v16 (F := Ideal) x0 x1 x2 x3 (ix3 b t f) =
      hidden (normed (fun j => x0 (ix3 b t j)) (fun j => x1 (ix1 j))) (fun k => x2 (ix2 k f)) (fun k => x3 (ix2 k f)) := by
  pointwise [val_main_v16, val_main_v15, val_main_v14, val_main_v13, val_main_call0_v5, val_main_call0_v4, val_main_call0_v3, val_main_call0_v2, val_main_call0_v1, val_main_call0_v0, val_main_call0_cst, val_main_call0_cst_0]
  simp only [v12_apply]
  rfl

theorem v19_apply (r : Fin 8192) (j : Fin 2048) :
    val_main_v19 (F := Ideal) x0 x1 x2 x3 x4 (ix2 r j) = x0 (ix3 (⟨r.val / 4096, by omega⟩ : Fin 2) (⟨r.val % 4096, by omega⟩ : Fin 4096) j) +
      ∑ f : Fin 5632, hidden (normed (fun k => x0 (ix3 (⟨r.val / 4096, by omega⟩ : Fin 2) (⟨r.val % 4096, by omega⟩ : Fin 4096) k)) (fun k => x1 (ix1 k))) (fun k => x2 (ix2 k f)) (fun k => x3 (ix2 k f))
        * x4 (ix2 f j) := by
  pointwise [val_main_v19, val_main_v18, val_main_v17]
  simp only [v16_apply]

end Cert.Reference2Ideal.Ffn
end
-- ==== Proof.FfnPoint.lean ====
module
public import proofs.«01_k».proof.Proof.Gen.Kernel2Ideal.Value
public import Idealize.ShloMosaic.Lib.Pipeline.ValueKit
public import proofs.«01_k».proof.Proof.Layer
@[expose] public section
set_option maxRecDepth 16384
noncomputable section
open Idealize.ShloMosaic Idealize.ShloMosaic.TcCoe Idealize.ShloMosaic.Tactic Idealize.SL.Sem
namespace Cert.Kernel2Ideal.Ffn
open Cert.Kernel2Ideal Cert.Kernel2Ideal.Gen Cert.Layer

/-! # What the feed-forward body leaves at a grid point -/

section Bodies
variable {F : FTy → Type} [FloatOps F]
variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole)
  (arg7 : Memref sig .tc .vmem S512x2048 .f32) (harg7 : arg7.IsWhole) (arg8 : Memref sig .tc .vmem S512x2048 .bf16) (harg8 : arg8.IsWhole)
  (x0 : Vec F S512x2048 .f32) (x1 : Vec F S1x2048 .f32) (x2 : Vec F S2048x512 .bf16) (x3 : Vec F S2048x512 .bf16) (x4 : Vec F S512x2048 .bf16)

/-- At the first block of hidden units the scratch takes the normalised rows. -/
theorem sout0_A_0_eq (hc0 : cond0_0 i) :
    sout0_A_0 c i arg2 harg2 arg3 harg3 arg4 harg4 arg5 harg5 arg6 harg6 arg7 harg7 arg8 harg8 hc0 x0 x1 x2 x3 x4 = k0_pay2 x0 x1 := by
  unfold sout0_A_0
  rw [View.read_writes_junk_eq_canon]
  unfold kernelRun0_A
  dsimp only
  sl_unfold_words
  simp (disch := decide) only [↓View.readCov_cons_toLoadRect, View.readAt_eq_ld, harg2.read_unread, harg3.read_unread, harg4.read_unread, harg5.read_unread, harg6.read_unread, harg7.read_unread, harg8.read_unread]
  rw [View.canon_cons_unit_zero (by decide)]
  simp (disch := decide) only [View.ld_unit_lit]

/-- At the first block of hidden units the output: the rows and the block's share. -/
theorem out0_A_5_eq (hc0 : cond0_0 i) :
    out0_A_5 c i arg2 harg2 arg3 harg3 arg4 harg4 arg5 harg5 arg6 harg6 arg7 harg7 arg8 harg8 hc0 x0 x1 x2 x3 x4 = k0_pay3 (k0_pay2 x0 x1) x2 x3 (k0_pay1 x0) x4 := by
  unfold out0_A_5
  rw [View.read_writes_junk_eq_canon]
  unfold kernelRun0_A
  dsimp only
  sl_unfold_words
  simp (disch := decide) only [↓View.readCov_cons_toLoadRect, View.readAt_eq_ld, harg2.read_unread, harg3.read_unread, harg4.read_unread, harg5.read_unread, harg6.read_unread, harg7.read_unread, harg8.read_unread]
  rw [View.canon_cons_unit_zero (by decide)]
  simp (disch := decide) only [View.ld_unit_lit]

/-- At a later block: the output so far and the block's share. -/
theorem out0_B_5_eq (hc0 : ¬cond0_0 i) (xo5 : Vec F S512x2048 .f32) (xs0 : Vec F S512x2048 .bf16) :
    out0_B_5 c i arg2 harg2 arg3 harg3 arg4 harg4 arg5 harg5 arg6 harg6 arg7 harg7 arg8 harg8 hc0 x0 x1 x2 x3 x4 xo5 xs0 = k0_pay3 xs0 x2 x3 xo5 x4 := by
  unfold out0_B_5
  rw [View.read_writes_junk_eq_canon]
  unfold kernelRun0_B
  dsimp only
  sl_unfold_words
  simp (disch := decide) only [↓View.readCov_cons_toLoadRect, View.readAt_eq_ld, harg2.read_unread, harg3.read_unread, harg4.read_unread, harg5.read_unread, harg6.read_unread, harg7.read_unread, harg8.read_unread]
  rw [View.canon_cons_unit_zero (by decide)]
  simp (disch := decide) only [View.ld_unit_lit]
end Bodies

/-- The normalised rows, read at an index. -/
theorem pay2_apply (x0 : Vec Ideal S512x2048 .f32) (x1 : Vec Ideal S1x2048 .f32) (q : Fin 512) (k : Fin 2048) :
    k0_pay2 x0 x1 (ix2 q k) = normed (fun j => x0 (ix2 q j)) (fun j => x1 (ix2 (0 : Fin 1) j)) k := by
  pointwise [k0_pay2, k0_pay1]
  rfl

/-- The output so far and a block's share, read at an index. -/
theorem pay3_apply (xs : Vec Ideal S512x2048 .bf16) (x2 x3 : Vec Ideal S2048x512 .bf16) (xo : Vec Ideal S512x2048 .f32) (x4 : Vec Ideal S512x2048 .bf16) (q : Fin 512) (j : Fin 2048) :
    k0_pay3 xs x2 x3 xo x4 (ix2 q j) = xo (ix2 q j) +
      ∑ f : Fin 512, hidden (fun k => xs (ix2 q k)) (fun k => x2 (ix2 k f)) (fun k => x3 (ix2 k f)) * x4 (ix2 f j) := by
  pointwise [k0_pay3]
  simp only [sub_eq_add_neg, zero_add]
  rfl

theorem pay1_apply (x0 : Vec Ideal S512x2048 .f32) (q : Fin 512) (k : Fin 2048) : k0_pay1 x0 (ix2 q k) = x0 (ix2 q k) := by
  pointwise [k0_pay1]

end Cert.Kernel2Ideal.Ffn
end
-- ==== Proof.FfnHost.lean ====
module
public import proofs.«01_k».proof.Proof.Gen.Kernel2Ideal.Frame
public import Idealize.ShloMosaic.Lib.Pointwise
public import Idealize.ShloMosaic.Lib.StableHlo.ReadAt
@[expose] public section
set_option maxRecDepth 16384
noncomputable section
open Idealize.ShloMosaic Idealize.ShloMosaic.TcCoe Idealize.ShloMosaic.Tactic Idealize.SL.Sem
namespace Cert.Kernel2Ideal.Ffn
open Cert.Kernel2Ideal Cert.Kernel2Ideal.Gen

/-! # The arrays the feed-forward part is given, and the blocks of them a grid point holds -/

variable (m : (ℓ : Loc nD τ sig) → Buf (Elt Ideal) ℓ) (c : Dev nD)

/-- The rows, the gain and the three weights. -/
abbrev Xh : S2x4096x2048.Idx → EReal := m ((c.tc : Thread nD τ).loc main_arg0)
abbrev Xg : S2048.Idx → EReal := m ((c.tc : Thread nD τ).loc main_arg1)
abbrev Wg : S2048x5632.Idx → EReal := m ((c.tc : Thread nD τ).loc main_arg2)
abbrev Wu : S2048x5632.Idx → EReal := m ((c.tc : Thread nD τ).loc main_arg3)
abbrev Wd : S5632x2048.Idx → EReal := m ((c.tc : Thread nD τ).loc main_arg4)

theorem v0_apply (r : Fin 8192) (k : Fin 2048) :
    V m c main_v0 (ix2 r k) = Xh m c (ix3 (⟨r.val / 4096, by omega⟩ : Fin 2) (⟨r.val % 4096, by omega⟩ : Fin 4096) k) := by
  unfold V
  after_reads_at

theorem v4_apply (k : Fin 2048) : V m c main_v4 (ix2 (0 : Fin 1) k) = Xg m c (ix1 k) := by
  unfold V
  after_reads_at

theorem v1_apply (k : Fin 2048) (f : Fin 5632) : V m c main_v1 (ix2 k f) = Wg m c (ix2 k f) := by
  unfold V
  after_reads_at

theorem v2_apply (k : Fin 2048) (f : Fin 5632) : V m c main_v2 (ix2 k f) = Wu m c (ix2 k f) := by
  unfold V
  after_reads_at

theorem v3_apply (f : Fin 5632) (j : Fin 2048) : V m c main_v3 (ix2 f j) = Wd m c (ix2 f j) := by
  unfold V
  after_reads_at

/-! ## Where the blocks lie -/

theorem idx0 : ∀ t : Fin cfg0.N, win0_0.index t (0 : Fin 2) = t.val / 11 ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = 0 ∧ win0_2.index t (1 : Fin 2) = t.val % 11 := by decide +kernel
theorem idx3 : ∀ t : Fin cfg0.N, win0_3.index t (0 : Fin 2) = 0 ∧ win0_3.index t (1 : Fin 2) = t.val % 11 := by decide +kernel
theorem idx4 : ∀ t : Fin cfg0.N, win0_4.index t (0 : Fin 2) = t.val % 11 ∧ win0_4.index t (1 : Fin 2) = 0 := by decide +kernel

theorem blk0 (t : Fin cfg0.N) (q : Fin 512) (k : Fin 2048) (r : Fin 8192) (hr : r.val = 512 * (t.val / 11) + q.val) :
    iblk m c 0 t (ix2 q k) = V m c main_v0 (ix2 r k) := by
  show V m c main_v0 _ = V m c main_v0 _
  congr 1
  funext a
  apply Fin.ext
  match a with
  | ⟨0, _⟩ => show win0_0.index t (0 : Fin 2) * 512 + 1 * q.val = r.val
              rw [(idx0 t).1]; omega
  | ⟨1, _⟩ => show win0_0.index t (1 : Fin 2) * 2048 + 1 * k.val = k.val
              rw [(idx0 t).2]; omega

theorem blk1 (t : Fin cfg0.N) (k : Fin 2048) : iblk m c 1 t (ix2 (0 : Fin 1) k) = V m c main_v4 (ix2 (0 : Fin 1) k) := by
  show V m c main_v4 _ = V m c main_v4 _
  congr 1
  funext a
  apply Fin.ext
  match a with
  | ⟨0, _⟩ => show win0_1.index t (0 : Fin 2) * 1 + 1 * 0 = 0
              rw [(idx1 t).1]
  | ⟨1, _⟩ => show win0_1.index t (1 : Fin 2) * 2048 + 1 * k.val = k.val
              rw [(idx1 t).2]; omega

theorem blk2 (t : Fin cfg0.N) (k : Fin 2048) (f : Fin 512) (g : Fin 5632) (hg : g.val = 512 * (t.val % 11) + f.val) :
    iblk m c 2 t (ix2 k f) = V m c main_v1 (ix2 k g) := by
  show V m c main_v1 _ = V m c main_v1 _
  congr 1
  funext a
  apply Fin.ext
  match a with
  | ⟨0, _⟩ => show win0_2.index t (0 : Fin 2) * 2048 + 1 * k.val = k.val
              rw [(idx2 t).1]; omega
  | ⟨1, _⟩ => show win0_2.index t (1 : Fin 2) * 512 + 1 * f.val = g.val
              rw [(idx2 t).2]; omega

theorem blk3 (t : Fin cfg0.N) (k : Fin 2048) (f : Fin 512) (g : Fin 5632) (hg : g.val = 512 * (t.val % 11) + f.val) :
    iblk m c 3 t (ix2 k f) = V m c main_v2 (ix2 k g) := by
  show V m c main_v2 _ = V m c main_v2 _
  congr 1
  funext a
  apply Fin.ext
  match a with
  | ⟨0, _⟩ => show win0_3.index t (0 : Fin 2) * 2048 + 1 * k.val = k.val
              rw [(idx3 t).1]; omega
  | ⟨1, _⟩ => show win0_3.index t (1 : Fin 2) * 512 + 1 * f.val = g.val
              rw [(idx3 t).2]; omega

theorem blk4 (t : Fin cfg0.N) (f : Fin 512) (j : Fin 2048) (g : Fin 5632) (hg : g.val = 512 * (t.val % 11) + f.val) :
    iblk m c 4 t (ix2 f j) = V m c main_v3 (ix2 g j) := by
  show V m c main_v3 _ = V m c main_v3 _
  congr 1
  funext a
  apply Fin.ext
  match a with
  | ⟨0, _⟩ => show win0_4.index t (0 : Fin 2) * 512 + 1 * f.val = g.val
              rw [(idx4 t).1]; omega
  | ⟨1, _⟩ => show win0_4.index t (1 : Fin 2) * 2048 + 1 * j.val = j.val
              rw [(idx4 t).2]; omega

end Cert.Kernel2Ideal.Ffn
end
-- ==== Proof.FfnRun.lean ====
module
public import proofs.«01_k».proof.Proof.FfnPoint
public import proofs.«01_k».proof.Proof.FfnHost
@[expose] public section
set_option maxRecDepth 16384
noncomputable section
open Idealize.ShloMosaic Idealize.ShloMosaic.TcCoe Idealize.ShloMosaic.Tactic Idealize.SL.Sem
namespace Cert.Kernel2Ideal.Ffn
open Cert.Kernel2Ideal Cert.Kernel2Ideal.Gen Cert.Kernel2Ideal.Value Cert.Layer

/-! # The feed-forward part's grid, run through: after each block of hidden units the sum so far -/

variable (m : (ℓ : Loc nD τ sig) → Buf (Elt Ideal) ℓ) (c : Dev nD)

theorem lt176 (t : Fin cfg0.N) : t.val < 176 := lt_of_lt_of_eq t.isLt (show cfg0.N = 176 from N_0)

/-- Row `q` of the row block of point `n`, normalised. -/
def nrow (n : ℕ) (hn : n < 176) (q : Fin 512) : Fin 2048 → EReal :=
  normed (fun j => Xh m c (ix3 (⟨(512 * (n / 11) + q.val) / 4096, by omega⟩ : Fin 2) (⟨(512 * (n / 11) + q.val) % 4096, by omega⟩ : Fin 4096) j)) (fun j => Xg m c (ix1 j))

/-- Hidden unit `f` of a normalised row, and its weight in output `j`. -/
def act (x : Fin 2048 → EReal) (f : ℕ) : EReal :=
  if h : f < 5632 then hidden x (fun k => Wg m c (ix2 k (⟨f, h⟩ : Fin 5632))) (fun k => Wu m c (ix2 k (⟨f, h⟩ : Fin 5632))) else 0
def wgt (j : Fin 2048) (f : ℕ) : EReal := if h : f < 5632 then Wd m c (ix2 (⟨f, h⟩ : Fin 5632) j) else 0

/-- What is held after point `n`, once `N` hidden units are in. -/
def Good (n : ℕ) (hn : n < 176) (N : ℕ) (xo : Vec Ideal S512x2048 .f32) (xs : Vec Ideal S512x2048 .bf16) : Prop :=
  ∀ q : Fin 512, (∀ k : Fin 2048, xs (ix2 q k) = nrow m c n hn q k) ∧
    ∀ j : Fin 2048, xo (ix2 q j) = Xh m c (ix3 (⟨(512 * (n / 11) + q.val) / 4096, by omega⟩ : Fin 2) (⟨(512 * (n / 11) + q.val) % 4096, by omega⟩ : Fin 4096) j) +
      upTo (act m c (nrow m c n hn q)) (wgt m c j) N

/-- The row block at a point. -/
theorem blk_h (t : Fin cfg0.N) (q : Fin 512) (k : Fin 2048) : iblk m c 0 t (ix2 q k) =
    Xh m c (ix3 (⟨(512 * (t.val / 11) + q.val) / 4096, by have := lt176 t; omega⟩ : Fin 2) (⟨(512 * (t.val / 11) + q.val) % 4096, by omega⟩ : Fin 4096) k) :=
  (blk0 m c t q k ⟨512 * (t.val / 11) + q.val, by have := lt176 t; omega⟩ rfl).trans (v0_apply m c _ k)

theorem blk_g (t : Fin cfg0.N) (k : Fin 2048) : iblk m c 1 t (ix2 (0 : Fin 1) k) = Xg m c (ix1 k) := (blk1 m c t k).trans (v4_apply m c k)

/-- One block of hidden units more. -/
theorem good_step (t : Fin cfg0.N) (xo : Vec Ideal S512x2048 .f32) (xs : Vec Ideal S512x2048 .bf16) (hI : Good m c t.val (lt176 t) (512 * (t.val % 11)) xo xs) :
    Good m c t.val (lt176 t) (512 * (t.val % 11) + 512) (k0_pay3 xs (iblk m c 2 t) (iblk m c 3 t) xo (iblk m c 4 t)) xs := by
  intro q
  refine ⟨(hI q).1, fun j => ?_⟩
  rw [pay3_apply, (hI q).2 j, upTo_add, add_assoc]
  refine congrArg₂ (· + ·) rfl (congrArg₂ (· + ·) rfl (Finset.sum_congr rfl fun f _ => ?_))
  have hf : 512 * (t.val % 11) + f.val < 5632 := by omega
  unfold act wgt
  rw [dif_pos hf, dif_pos hf]
  have e2 : ∀ k : Fin 2048, iblk m c 2 t (ix2 k f) = Wg m c (ix2 k (⟨512 * (t.val % 11) + f.val, hf⟩ : Fin 5632)) := fun k => (blk2 m c t k f ⟨_, hf⟩ rfl).trans (v1_apply m c k _)
  have e3 : ∀ k : Fin 2048, iblk m c 3 t (ix2 k f) = Wu m c (ix2 k (⟨512 * (t.val % 11) + f.val, hf⟩ : Fin 5632)) := fun k => (blk3 m c t k f ⟨_, hf⟩ rfl).trans (v2_apply m c k _)
  have e4 : iblk m c 4 t (ix2 f j) = Wd m c (ix2 (⟨512 * (t.val % 11) + f.val, hf⟩ : Fin 5632) j) := (blk4 m c t f j ⟨_, hf⟩ rfl).trans (v3_apply m c _ j)
  have es : (fun k => xs (ix2 q k)) = nrow m c t.val (lt176 t) q := funext (hI q).1
  rw [e4, es]
  simp only [e2, e3]

/-- Before the first block: the rows themselves. -/
theorem good_start (t : Fin cfg0.N) : Good m c t.val (lt176 t) 0 (k0_pay1 (iblk m c 0 t)) (k0_pay2 (iblk m c 0 t) (iblk m c 1 t)) := by
  intro q
  refine ⟨fun k => ?_, fun j => ?_⟩
  · rw [pay2_apply]
    unfold nrow
    simp only [blk_h, blk_g]
  · rw [pay1_apply, blk_h]
    unfold upTo
    rw [Finset.sum_range_zero, add_zero]

theorem good_at (t : Fin cfg0.N) (acc : Vec Ideal S512x2048 .f32 × Vec Ideal S512x2048 .bf16)
    (hacc : t.val % 11 ≠ 0 → Good m c t.val (lt176 t) (512 * (t.val % 11)) acc.1 acc.2) :
    Good m c t.val (lt176 t) (512 * (t.val % 11) + 512) (stAt0 m c t.val t.isLt acc).1 (stAt0 m c t.val t.isLt acc).2 := by
  by_cases h0 : t.val % 11 = 0
  · rw [stAt0_A m c t acc h0]
    dsimp only
    rw [out0_A_5_eq, sout0_A_0_eq]
    exact good_step m c t _ _ (by rw [h0]; exact good_start m c t)
  · rw [stAt0_B m c t acc h0]
    dsimp only
    rw [out0_B_5_eq]
    exact good_step m c t _ _ (hacc h0)

theorem good_all : ∀ (n : ℕ) (hn : n < cfg0.N), Good m c n (lt176 ⟨n, hn⟩) (512 * (n % 11) + 512) (outsAt0 m c n hn).1 (outsAt0 m c n hn).2 := by
  intro n
  induction n with
  | zero =>
    intro hn
    rw [outsAt0_zero]
    exact good_at m c ⟨0, hn⟩ junk0 (fun h => absurd rfl h)
  | succ n ih =>
    intro hn
    rw [outsAt0_succ]
    refine good_at m c ⟨n + 1, hn⟩ _ fun h => ?_
    have h' : (n + 1) % 11 ≠ 0 := h
    have hd : ∀ (n₁ : ℕ) (h₁ : n₁ < 176) (N₁ N₂ : ℕ) (xo : Vec Ideal S512x2048 .f32) (xs : Vec Ideal S512x2048 .bf16), n₁ / 11 = (n + 1) / 11 → N₁ = N₂ →
        Good m c n₁ h₁ N₁ xo xs → Good m c (n + 1) (lt176 ⟨n + 1, hn⟩) N₂ xo xs := by
      intro n₁ h₁ N₁ N₂ xo xs e eN hG q
      subst eN
      have hr : nrow m c (n + 1) (lt176 ⟨n + 1, hn⟩) q = nrow m c n₁ h₁ q := by unfold nrow; simp only [e]
      have hG' := hG q
      rw [hr]
      simp only [e] at hG'
      exact hG'
    exact hd n _ _ _ _ _ (by omega) (by dsimp only; omega) (ih _)

/-- All 5632 hidden units. -/
theorem upTo_all (x : Fin 2048 → EReal) (j : Fin 2048) : upTo (act m c x) (wgt m c j) 5632 =
    ∑ f : Fin 5632, hidden x (fun k => Wg m c (ix2 k f)) (fun k => Wu m c (ix2 k f)) * Wd m c (ix2 f j) := by
  unfold upTo
  rw [Finset.sum_range]
  refine Finset.sum_congr rfl fun f _ => ?_
  unfold act wgt
  rw [dif_pos f.isLt, dif_pos f.isLt]

/-- THE KERNEL'S RESULT, element by element: the feed-forward part. -/
theorem kernel_out (r : Fin 8192) (j : Fin 2048) :
    G5 m c (ix2 r j) = Xh m c (ix3 (⟨r.val / 4096, by omega⟩ : Fin 2) (⟨r.val % 4096, by omega⟩ : Fin 4096) j) +
      ∑ f : Fin 5632, hidden (normed (fun k => Xh m c (ix3 (⟨r.val / 4096, by omega⟩ : Fin 2) (⟨r.val % 4096, by omega⟩ : Fin 4096) k)) (fun k => Xg m c (ix1 k)))
        (fun k => Wg m c (ix2 k f)) (fun k => Wu m c (ix2 k f)) * Wd m c (ix2 f j) := by
  have hp : pt5Of (ix2 r j) = 11 * (r.val / 512) + 10 := by
    show 11 * (1 * (r.val / 512 - 0) + 1 * (j.val / 2048 - 0)) + 10 = _
    omega
  have hN : pt5Of (ix2 r j) < cfg0.N := by rw [hp, show cfg0.N = 176 from N_0]; omega
  unfold G5
  rw [dif_pos hN, ← outsAt0_sweep m c _ hN]
  have hloc : loc5Of (ix2 r j) = ix2 (⟨r.val % 512, by omega⟩ : Fin 512) j := by
    funext a
    match a with
    | ⟨0, _⟩ => rfl
    | ⟨1, _⟩ => exact Fin.ext (by show j.val % 2048 = j.val; omega)
  rw [hloc]
  have hg := ((good_all m c _ hN) ⟨r.val % 512, by omega⟩).2 j
  refine hg.trans ?_
  rw [show 512 * (pt5Of (ix2 r j) % 11) + 512 = 5632 by omega, upTo_all]
  have e : 512 * (pt5Of (ix2 r j) / 11) + r.val % 512 = r.val := by omega
  unfold nrow
  simp only [e]

end Cert.Kernel2Ideal.Ffn
end
-- ==== Proof.PlePrompt.lean ====
module
public import proofs.«01_k».proof.Proof.Gen.Kernel3Ideal.Value
public import proofs.«01_k».proof.Proof.Gen.Reference3Ideal.Read
public import Idealize.ShloMosaic.Lib.Pipeline.ValueKit
public import Idealize.ShloMosaic.Lib.StableHlo.ReadAt
public import proofs.«01_k».proof.Proof.Layer
@[expose] public section
set_option maxRecDepth 16384
noncomputable section
open Idealize.ShloMosaic Idealize.ShloMosaic.TcCoe Idealize.ShloMosaic.Tactic Idealize.SL.Sem

/-! # The last layer's embedding and the final normalisation, at the prompt's shape -/

namespace Cert.Reference3Ideal.Ple
open Cert.Reference3Ideal Cert.Reference3Ideal.Read Cert.Layer

/-! ## The reference, read at an index -/

variable (x0 : (⟨S2x4096x2048, .f32⟩ : BufTy).Contents (Elt Ideal)) (x1 : (⟨S2x4096x256, .f32⟩ : BufTy).Contents (Elt Ideal)) (x2 : (⟨S2048, .f32⟩ : BufTy).Contents (Elt Ideal))
  (x3 : (⟨S2048x2048, .f32⟩ : BufTy).Contents (Elt Ideal)) (x4 : (⟨S256x2048, .f32⟩ : BufTy).Contents (Elt Ideal)) (x5 : (⟨S2048, .f32⟩ : BufTy).Contents (Elt Ideal))

theorem v12_apply (b : Fin 2) (t : Fin 4096) (k : Fin 2048) :
    val_main_v12 (F := Ideal) x0 x2 (ix3 b t k) = normed (fun j => x0 (ix3 b t j)) (fun j => x2 (ix1 j)) k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v22_apply (b : Fin 2) (t : Fin 4096) (k : Fin 2048) :
    val_main_v22 (F := Ideal) x0 x1 x2 x3 x4 (ix3 b t k) =
      gated (fun j => x0 (ix3 b t j)) (fun j => x2 (ix1 j)) (fun x y => x3 (ix2 x y)) (fun x => x1 (ix3 b t x)) (fun x y => x4 (ix2 x y)) k := by
  pointwise [val_main_v22, val_main_v21, val_main_v20, val_main_v19, val_main_v18, val_main_v17, val_main_v16, val_main_v15, val_main_v14, val_main_v13, val_main_cst_2, val_main_cst_3]
  simp only [v12_apply]
  rfl

theorem v35_apply (b : Fin 2) (t : Fin 4096) (k : Fin 2048) :
    val_main_v35 (F := Ideal) x0 x1 x2 x3 x4 x5 (ix3 b t k) =
      normed (gated (fun j => x0 (ix3 b t j)) (fun j => x2 (ix1 j)) (fun x y => x3 (ix2 x y)) (fun x => x1 (ix3 b t x)) (fun x y => x4 (ix2 x y))) (fun j => x5 (ix1 j)) k := by
  pointwise [val_main_v35, val_main_v34, val_main_v33, val_main_v32, val_main_v31, val_main_v30, val_main_v29, val_main_v28, val_main_v27, val_main_v26, val_main_v25, val_main_v24, val_main_v23, val_main_cst_4, val_main_cst_5, val_main_cst_6]
  simp only [v22_apply]
  rfl

theorem v36_apply (r : Fin 8192) (j : Fin 2048) :
    val_main_v36 (F := Ideal) x0 x1 x2 x3 x4 x5 (ix2 r j) =
      normed (gated (fun j => x0 (ix3 (⟨r.val / 4096, by omega⟩ : Fin 2) (⟨r.val % 4096, by omega⟩ : Fin 4096) j)) (fun j => x2 (ix1 j)) (fun x y => x3 (ix2 x y)) (fun x => x1 (ix3 (⟨r.val / 4096, by omega⟩ : Fin 2) (⟨r.val % 4096, by omega⟩ : Fin 4096) x)) (fun x y => x4 (ix2 x y))) (fun j => x5 (ix1 j)) j := by
  rw [← v35_apply]
  pointwise [val_main_v36]

end Cert.Reference3Ideal.Ple

namespace Cert.Kernel3Ideal.Ple
open Cert.Kernel3Ideal Cert.Kernel3Ideal.Gen Cert.Layer

/-! ## What the body leaves at a grid point -/

theorem pay2_apply (v0 : Vec Ideal S512x2048 .f32) (v2 : Vec Ideal S1x2048 .f32) (v17 : Vec Ideal S2048x2048 .bf16) (v27 : Vec Ideal S512x256 .f32) (v30 : Vec Ideal S256x2048 .bf16) (q : Fin 512) (k : Fin 2048) :
    k0_pay2 v0 v2 v17 v27 v30 (ix2 q k) =
      gated (fun j => v0 (ix2 q j)) (fun j => v2 (ix2 (0 : Fin 1) j)) (fun x y => v17 (ix2 x y)) (fun x => v27 (ix2 q x)) (fun x y => v30 (ix2 x y)) k := by
  pointwise [k0_pay2]
  simp only [sub_eq_add_neg, zero_add]
  rfl

theorem pay1_apply (v0 : Vec Ideal S512x2048 .f32) (v2 : Vec Ideal S1x2048 .f32) (v17 : Vec Ideal S2048x2048 .bf16) (v27 : Vec Ideal S512x256 .f32) (v30 : Vec Ideal S256x2048 .bf16) (v35 : Vec Ideal S1x2048 .f32) (q : Fin 512) (k : Fin 2048) :
    k0_pay1 (k0_pay2 v0 v2 v17 v27 v30) (k0_pay3 v35) (k0_pay4 v0 v2 v17 v27 v30) (ix2 q k) =
      normed (gated (fun j => v0 (ix2 q j)) (fun j => v2 (ix2 (0 : Fin 1) j)) (fun x y => v17 (ix2 x y)) (fun x => v27 (ix2 q x)) (fun x y => v30 (ix2 x y))) (fun j => v35 (ix2 (0 : Fin 1) j)) k := by
  pointwise [k0_pay1, k0_pay3, k0_pay4]
  simp only [pay2_apply]
  rfl

theorem out_eq {F : FTy → Type} [FloatOps F] (x0 : Vec F S512x2048 .f32) (x1 : Vec F S512x256 .f32) (x2 : Vec F S1x2048 .f32) (x3 : Vec F S2048x2048 .bf16) (x4 : Vec F S256x2048 .bf16) (x5 : Vec F S1x2048 .f32) :
    out0_6 x0 x1 x2 x3 x4 x5 = k0_pay1 (k0_pay2 x0 x2 x3 x1 x4) (k0_pay3 x5) (k0_pay4 x0 x2 x3 x1 x4) := by
  unfold out0_6
  rw [View.canon_unit_zero (by decide)]
  simp (disch := decide) only [View.ld_unit_lit]

/-! ## The arrays, and the blocks of them a grid point holds -/

variable (m : (ℓ : Loc nD τ sig) → Buf (Elt Ideal) ℓ) (c : Dev nD)

/-- The rows, the embeddings, the gate's gain and weights, the embedding's weights and the final gain. -/
abbrev Xh : S2x4096x2048.Idx → EReal := m ((c.tc : Thread nD τ).loc main_arg0)
abbrev Xp : S2x4096x256.Idx → EReal := m ((c.tc : Thread nD τ).loc main_arg1)
abbrev Xg : S2048.Idx → EReal := m ((c.tc : Thread nD τ).loc main_arg2)
abbrev Wg : S2048x2048.Idx → EReal := m ((c.tc : Thread nD τ).loc main_arg3)
abbrev Wp : S256x2048.Idx → EReal := m ((c.tc : Thread nD τ).loc main_arg4)
abbrev Xf : S2048.Idx → EReal := m ((c.tc : Thread nD τ).loc main_arg5)

theorem v0_apply (r : Fin 8192) (k : Fin 2048) : V m c main_v0 (ix2 r k) = Xh m c (ix3 (⟨r.val / 4096, by omega⟩ : Fin 2) (⟨r.val % 4096, by omega⟩ : Fin 4096) k) := by
  unfold V
  after_reads_at

theorem v1_apply (r : Fin 8192) (k : Fin 256) : V m c main_v1 (ix2 r k) = Xp m c (ix3 (⟨r.val / 4096, by omega⟩ : Fin 2) (⟨r.val % 4096, by omega⟩ : Fin 4096) k) := by
  unfold V
  after_reads_at

theorem v2_apply (k j : Fin 2048) : V m c main_v2 (ix2 k j) = Wg m c (ix2 k j) := by
  unfold V
  after_reads_at

theorem v3_apply (k : Fin 256) (j : Fin 2048) : V m c main_v3 (ix2 k j) = Wp m c (ix2 k j) := by
  unfold V
  after_reads_at

theorem v4_apply (k : Fin 2048) : V m c main_v4 (ix2 (0 : Fin 1) k) = Xg m c (ix1 k) := by
  unfold V
  after_reads_at

theorem v5_apply (k : Fin 2048) : V m c main_v5 (ix2 (0 : Fin 1) k) = Xf m c (ix1 k) := by
  unfold V
  after_reads_at

theorem idx0 : ∀ t : Fin cfg0.N, win0_0.index t (0 : Fin 2) = t.val ∧ win0_0.index t (1 : Fin 2) = 0 := by decide +kernel
theorem idx1 : ∀ t : Fin cfg0.N, win0_1.index t (0 : Fin 2) = t.val ∧ win0_1.index t (1 : Fin 2) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = t.val ∧ win0_6.index t (1 : Fin 2) = 0 := by decide +kernel
theorem flush6 : ∀ t : Fin cfg0.N, (cfg0.win 6).flush t = true := by decide +kernel

theorem ltN (t : Fin cfg0.N) : t.val < 16 := lt_of_lt_of_eq t.isLt (show cfg0.N = 16 from N_0)

theorem blk0 (t : Fin cfg0.N) (q : Fin 512) (k : Fin 2048) (r : Fin 8192) (hr : r.val = 512 * t.val + q.val) : iblk m c 0 t (ix2 q k) = V m c main_v0 (ix2 r k) := by
  show V m c main_v0 _ = V m c main_v0 _
  congr 1
  funext a
  apply Fin.ext
  match a with
  | ⟨0, _⟩ => show win0_0.index t (0 : Fin 2) * 512 + 1 * q.val = r.val
              rw [(idx0 t).1]; omega
  | ⟨1, _⟩ => show win0_0.index t (1 : Fin 2) * 2048 + 1 * k.val = k.val
              rw [(idx0 t).2]; omega

theorem blk1 (t : Fin cfg0.N) (q : Fin 512) (k : Fin 256) (r : Fin 8192) (hr : r.val = 512 * t.val + q.val) : iblk m c 1 t (ix2 q k) = V m c main_v1 (ix2 r k) := by
  show V m c main_v1 _ = V m c main_v1 _
  congr 1
  funext a
  apply Fin.ext
  match a with
  | ⟨0, _⟩ => show win0_1.index t (0 : Fin 2) * 512 + 1 * q.val = r.val
              rw [(idx1 t).1]; omega
  | ⟨1, _⟩ => show win0_1.index t (1 : Fin 2) * 256 + 1 * k.val = k.val
              rw [(idx1 t).2]; omega

theorem blk2 (t : Fin cfg0.N) (k : Fin 2048) : iblk m c 2 t (ix2 (0 : Fin 1) k) = V m c main_v4 (ix2 (0 : Fin 1) k) := by
  show V m c main_v4 _ = V m c main_v4 _
  congr 1
  funext a
  apply Fin.ext
  match a with
  | ⟨0, _⟩ => show win0_2.index t (0 : Fin 2) * 1 + 1 * 0 = 0
              rw [(idx2 t).1]
  | ⟨1, _⟩ => show win0_2.index t (1 : Fin 2) * 2048 + 1 * k.val = k.val
              rw [(idx2 t).2]; omega

theorem blk3 (t : Fin cfg0.N) (k j : Fin 2048) : iblk m c 3 t (ix2 k j) = V m c main_v2 (ix2 k j) := by
  show V m c main_v2 _ = V m c main_v2 _
  congr 1
  funext a
  apply Fin.ext
  match a with
  | ⟨0, _⟩ => show win0_3.index t (0 : Fin 2) * 2048 + 1 * k.val = k.val
              rw [(idx3 t).1]; omega
  | ⟨1, _⟩ => show win0_3.index t (1 : Fin 2) * 2048 + 1 * j.val = j.val
              rw [(idx3 t).2]; omega

theorem blk4 (t : Fin cfg0.N) (k : Fin 256) (j : Fin 2048) : iblk m c 4 t (ix2 k j) = V m c main_v3 (ix2 k j) := by
  show V m c main_v3 _ = V m c main_v3 _
  congr 1
  funext a
  apply Fin.ext
  match a with
  | ⟨0, _⟩ => show win0_4.index t (0 : Fin 2) * 256 + 1 * k.val = k.val
              rw [(idx4 t).1]; omega
  | ⟨1, _⟩ => show win0_4.index t (1 : Fin 2) * 2048 + 1 * j.val = j.val
              rw [(idx4 t).2]; omega

theorem blk5 (t : Fin cfg0.N) (k : Fin 2048) : iblk m c 5 t (ix2 (0 : Fin 1) k) = V m c main_v5 (ix2 (0 : Fin 1) k) := by
  show V m c main_v5 _ = V m c main_v5 _
  congr 1
  funext a
  apply Fin.ext
  match a with
  | ⟨0, _⟩ => show win0_5.index t (0 : Fin 2) * 1 + 1 * 0 = 0
              rw [(idx5 t).1]
  | ⟨1, _⟩ => show win0_5.index t (1 : Fin 2) * 2048 + 1 * k.val = k.val
              rw [(idx5 t).2]; omega

/-! ## The array after the run -/

/-- What the output holds: in each row, the gated embedding added and the whole normalised. -/
def out (r : Fin 8192) (j : Fin 2048) : EReal :=
  normed (gated (fun j => Xh m c (ix3 (⟨r.val / 4096, by omega⟩ : Fin 2) (⟨r.val % 4096, by omega⟩ : Fin 4096) j)) (fun j => Xg m c (ix1 j)) (fun x y => Wg m c (ix2 x y)) (fun x => Xp m c (ix3 (⟨r.val / 4096, by omega⟩ : Fin 2) (⟨r.val % 4096, by omega⟩ : Fin 4096) x)) (fun x y => Wp m c (ix2 x y))) (fun j => Xf m c (ix1 j)) j

def Out : S8192x2048.Idx → EReal := fun i => out m c (i 0) (i 1)

theorem at_point (t : Fin cfg0.N) (q : Fin 512) (j : Fin 2048) (r : Fin 8192) (hr : r.val = 512 * t.val + q.val) :
    out0_6 (iblk m c 0 t) (iblk m c 1 t) (iblk m c 2 t) (iblk m c 3 t) (iblk m c 4 t) (iblk m c 5 t) (ix2 q j) = out m c r j := by
  rw [out_eq, pay1_apply]
  have e0 : ∀ k, iblk m c 0 t (ix2 q k) = _ := fun k => (blk0 m c t q k r hr).trans (v0_apply m c r k)
  have e1 : ∀ k, iblk m c 1 t (ix2 q k) = _ := fun k => (blk1 m c t q k r hr).trans (v1_apply m c r k)
  have e2 : ∀ k, iblk m c 2 t (ix2 (0 : Fin 1) k) = _ := fun k => (blk2 m c t k).trans (v4_apply m c k)
  have e3 : ∀ k j, iblk m c 3 t (ix2 k j) = _ := fun k j => (blk3 m c t k j).trans (v2_apply m c k j)
  have e4 : ∀ k j, iblk m c 4 t (ix2 k j) = _ := fun k j => (blk4 m c t k j).trans (v3_apply m c k j)
  have e5 : ∀ k, iblk m c 5 t (ix2 (0 : Fin 1) k) = _ := fun k => (blk5 m c t k).trans (v5_apply m c k)
  unfold out
  simp only [e0, e1, e2, e3, e4, e5]

theorem flushed_eq (t : Fin cfg0.N) : (dats m 0 c).flushed 6 t = ((cfg0.win 6).blk t).view.read (Elt Ideal) (Out m c) := by
  show (cfg0.win 6).cut (grid0.coords t) ((dats m 0 c).after 6 t) = _
  rw [after0_6]
  funext y
  have hy0 : (y 0).val < 512 := (y 0).isLt
  have hy1 : (y 1).val < 2048 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  rw [(idx6 t).1] at hb0
  rw [(idx6 t).2] at hb1
  have hx : (cfg0.win 6).xinj (grid0.coords t) y = ix2 (⟨(y 0).val, hy0⟩ : Fin 512) (⟨(y 1).val, hy1⟩ : Fin 2048) := by
    funext a
    match a with
    | ⟨0, _⟩ => rfl
    | ⟨1, _⟩ => rfl
  show out0_6 (iblk m c 0 t) (iblk m c 1 t) (iblk m c 2 t) (iblk m c 3 t) (iblk m c 4 t) (iblk m c 5 t) ((cfg0.win 6).xinj (grid0.coords t) y) = Out m c (((cfg0.win 6).blk t).view.emb y)
  rw [hx]
  unfold Out
  have e1 : ((cfg0.win 6).blk t).view.emb y 1 = (⟨(y 1).val, hy1⟩ : Fin 2048) := Fin.ext (by rw [hb1]; dsimp only; omega)
  rw [e1]
  exact at_point m c t _ _ _ (by rw [hb0]; dsimp only; omega)

theorem mem_blk (t : Fin cfg0.N) (i : S8192x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v6).slice (win0_6.rect t)).set ↔ _
  rw [View.set_slice_whole, Rect.mem_set_unit]
  exact Iff.rfl

theorem covered (i : S8192x2048.Idx) : ∃ t : Fin cfg0.N, (cfg0.win 6).flush t = true ∧ i ∈ ((cfg0.win 6).blk t).view.set := by
  have hi0 : (i 0).val < 8192 := (i 0).isLt
  have hi1 : (i 1).val < 2048 := (i 1).isLt
  refine ⟨⟨(i 0).val / 512, by rw [show cfg0.N = 16 from N_0]; omega⟩, flush6 _, ?_⟩
  rw [mem_blk]
  intro a
  match a with
  | ⟨0, _⟩ => show win0_6.index _ (0 : Fin 2) * 512 ≤ (i 0).val ∧ (i 0).val < win0_6.index _ (0 : Fin 2) * 512 + 512
              rw [(idx6 _).1]; dsimp only; omega
  | ⟨1, _⟩ => show win0_6.index _ (1 : Fin 2) * 2048 ≤ (i 1).val ∧ (i 1).val < win0_6.index _ (1 : Fin 2) * 2048 + 2048
              rw [(idx6 _).2]; omega

/-- THE KERNEL'S RESULT. -/
theorem final (m : (ℓ : Loc nD τ sig) → Buf (Elt Ideal) ℓ) (c : Dev nD) : (dats m 0 c).arrAt 6 cfg0.N = Out m c :=
  (dats m 0 c).arrAt_eq_of_cover 6 _ (fun t _ => flushed_eq m c t) (covered)

end Cert.Kernel3Ideal.Ple
end
-- ==== Proof.ProjPrompt.lean ====
module
public import proofs.«01_k».proof.Proof.Gen.Kernel4Ideal.Frame
public import proofs.«01_k».proof.Proof.Gen.Reference4Ideal.Read
public import Idealize.ShloMosaic.Lib.Pipeline.ValueKit
public import Idealize.ShloMosaic.Lib.StableHlo.ReadAt
public import proofs.«01_k».proof.Proof.Layer
@[expose] public section
set_option maxRecDepth 16384
noncomputable section
open Idealize.ShloMosaic Idealize.ShloMosaic.TcCoe Idealize.ShloMosaic.Tactic Idealize.SL.Sem

/-! # The first mixer's projection of the normalised rows, at the prompt's shape -/

namespace Cert.Reference4Ideal.Proj
open Cert.Reference4Ideal Cert.Reference4Ideal.Read Cert.Layer

/-! ## The reference, read at an index -/

variable (x0 : (⟨S2x4096x2048, .f32⟩ : BufTy).Contents (Elt Ideal)) (x1 : (⟨S2x2048, .f32⟩ : BufTy).Contents (Elt Ideal)) (x2 : (⟨S1x2048x6152, .f32⟩ : BufTy).Contents (Elt Ideal))

theorem v14_apply (b : Fin 2) (t : Fin 4096) (k : Fin 2048) :
    val_main_v14 (F := Ideal) x0 x1 (ix3 b t k) = normed (fun j => x0 (ix3 b t j)) (fun j => x1 (ix2 (0 : Fin 2) j)) k := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v16_apply (b : Fin 2) (t : Fin 4096) (n : Fin 6152) :
    val_main_v16 (F := Ideal) x0 x1 x2 (ix3 b t n) = dot (normed (fun j => x0 (ix3 b t j)) (fun j => x1 (ix2 (0 : Fin 2) j))) (fun k => x2 (ix3 (0 : Fin 1) k n)) := by
  pointwise [val_main_v16, val_main_v15]
  simp only [v14_apply]
  rfl

/-- The keys. -/
theorem v22_apply (z : Fin 1) (b : Fin 2) (t : Fin 4096) (h : Fin 8) (d : Fin 128) :
    val_main_v22 (F := Ideal) x0 x1 x2 (ix5 z b t h d) =
      dot (normed (fun j => x0 (ix3 b t j)) (fun j => x1 (ix2 (0 : Fin 2) j))) (fun k => x2 (ix3 (0 : Fin 1) k (abCol ⟨4096 + (128 * h.val + d.val), by omega⟩))) := by
  rw [← v16_apply]
  pointwise [val_main_v22, val_main_v17]
  refine congrArg (val_main_v16 (F := Ideal) x0 x1 x2) ?_
  congr 1 <;> exact Fin.ext (by simp only [abCol]; split_ifs <;> omega)

/-- The values. -/
theorem v23_apply (z : Fin 1) (b : Fin 2) (t : Fin 4096) (h : Fin 8) (d : Fin 128) :
    val_main_v23 (F := Ideal) x0 x1 x2 (ix5 z b t h d) =
      dot (normed (fun j => x0 (ix3 b t j)) (fun j => x1 (ix2 (0 : Fin 2) j))) (fun k => x2 (ix3 (0 : Fin 1) k (abCol ⟨5120 + (128 * h.val + d.val), by omega⟩))) := by
  rw [← v16_apply]
  pointwise [val_main_v23, val_main_v18]
  refine congrArg (val_main_v16 (F := Ideal) x0 x1 x2) ?_
  congr 1 <;> exact Fin.ext (by simp only [abCol]; split_ifs <;> omega)

/-- All columns but the gates'. -/
theorem v24_apply (r : Fin 8192) (n : Fin 6144) :
    val_main_v24 (F := Ideal) x0 x1 x2 (ix2 r n) =
      dot (normed (fun j => x0 (ix3 (⟨r.val / 4096, by omega⟩ : Fin 2) (⟨r.val % 4096, by omega⟩ : Fin 4096) j)) (fun j => x1 (ix2 (0 : Fin 2) j))) (fun k => x2 (ix3 (0 : Fin 1) k (abCol n))) := by
  rw [← v16_apply]
  pointwise [val_main_v24, val_main_v21, val_main_v20, val_main_v19]
  by_cases hn : n.val < 3072
  · rw [dif_pos hn]
    refine congrArg (val_main_v16 (F := Ideal) x0 x1 x2) ?_
    congr 1 <;> exact Fin.ext (by simp only [abCol]; split_ifs <;> omega)
  · rw [dif_neg hn]
    refine congrArg (val_main_v16 (F := Ideal) x0 x1 x2) ?_
    congr 1 <;> exact Fin.ext (by simp only [abCol]; split_ifs <;> omega)

end Cert.Reference4Ideal.Proj

namespace Cert.Kernel4Ideal.Proj
open Cert.Kernel4Ideal Cert.Kernel4Ideal.Gen Cert.Layer

/-! ## What the body leaves at a grid point -/

section Bodies
variable {F : FTy → Type} [FloatOps F]
variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x1664 .bf16) (harg4 : arg4.IsWhole) (arg5 : Memref sig .tc .vmem S512x1664 .f32) (harg5 : arg5.IsWhole) (arg6 : Memref sig .tc .vmem S512x2048 .bf16) (harg6 : arg6.IsWhole)
  (x0 : Vec F S512x2048 .f32) (x1 : Vec F S1x2048 .f32) (x2 : Vec F S2048x1664 .bf16)

/-- At the first block of columns the scratch takes the normalised rows. -/
theorem sout0_A_0_eq (hc0 : cond0_0 i) :
    sout0_A_0 c i arg2 harg2 arg3 harg3 arg4 harg4 arg5 harg5 arg6 harg6 hc0 x0 x1 x2 = k0_pay1 x0 x1 := by
  unfold sout0_A_0
  rw [View.read_writes_junk_eq_canon]
  unfold kernelRun0_A
  dsimp only
  sl_unfold_words
  simp (disch := decide) only [↓View.readCov_cons_toLoadRect, View.readAt_eq_ld, harg2.read_unread, harg3.read_unread, harg4.read_unread, harg5.read_unread, harg6.read_unread]
  rw [View.canon_cons_unit_zero (by decide)]
  simp (disch := decide) only [View.ld_unit_lit]

/-- At the first block of columns the output: their products with the rows just normalised. -/
theorem out0_A_3_eq (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_junk_eq_canon]
  unfold kernelRun0_A
  dsimp only
  sl_unfold_words
  simp (disch := decide) only [↓View.readCov_cons_toLoadRect, View.readAt_eq_ld, harg2.read_unread, harg3.read_unread, harg4.read_unread, harg5.read_unread, harg6.read_unread]
  rw [View.canon_cons_unit_zero (by decide)]
  simp (disch := decide) only [View.ld_unit_lit]

/-- At a later block: their products with the rows the scratch holds. -/
theorem out0_B_3_eq (hc0 : ¬cond0_0 i) (xs0 : Vec F S512x2048 .bf16) :
    out0_B_3 c i arg2 harg2 arg3 harg3 arg4 harg4 arg5 harg5 arg6 harg6 hc0 x0 x1 x2 xs0 = k0_pay2 xs0 x2 := by
  unfold out0_B_3
  rw [View.read_writes_junk_eq_canon]
  unfold kernelRun0_B
  dsimp only
  sl_unfold_words
  simp (disch := decide) only [↓View.readCov_cons_toLoadRect, View.readAt_eq_ld, harg2.read_unread, harg3.read_unread, harg4.read_unread, harg5.read_unread, harg6.read_unread]
  rw [View.canon_cons_unit_zero (by decide)]
  simp (disch := decide) only [View.ld_unit_lit]
end Bodies

theorem pay1_apply (v8 : Vec Ideal S512x2048 .f32) (v10 : Vec Ideal S1x2048 .f32) (q : Fin 512) (k : Fin 2048) :
    k0_pay1 v8 v10 (ix2 q k) = normed (fun j => v8 (ix2 q j)) (fun j => v10 (ix2 (0 : Fin 1) j)) k := by
  pointwise [k0_pay1]
  rfl

theorem pay2_apply (v3 : Vec Ideal S512x2048 .bf16) (v4 : Vec Ideal S2048x1664 .bf16) (q : Fin 512) (n : Fin 1664) :
    k0_pay2 v3 v4 (ix2 q n) = dot (fun k => v3 (ix2 q k)) (fun k => v4 (ix2 k n)) := by
  pointwise [k0_pay2]
  rfl

/-! ## The arrays, and the blocks of them a grid point holds -/

variable (m : (ℓ : Loc nD τ sig) → Buf (Elt Ideal) ℓ) (c : Dev nD)

/-- The rows, the gains of the two mixers and the input weights. -/
abbrev Xx : S2x4096x2048.Idx → EReal := m ((c.tc : Thread nD τ).loc main_arg0)
abbrev Xn : S2x2048.Idx → EReal := m ((c.tc : Thread nD τ).loc main_arg1)
abbrev Ww : S1x2048x6152.Idx → EReal := m ((c.tc : Thread nD τ).loc main_arg2)

theorem v0_apply (r : Fin 8192) (k : Fin 2048) : V m c main_v0 (ix2 r k) = Xx m c (ix3 (⟨r.val / 4096, by omega⟩ : Fin 2) (⟨r.val % 4096, by omega⟩ : Fin 4096) k) := by
  unfold V
  after_reads_at

theorem v22_apply (k : Fin 2048) : V m c main_v22 (ix2 (0 : Fin 1) k) = Xn m c (ix2 (0 : Fin 2) k) := by
  unfold V
  after_reads_at

theorem col_congr (W : S1x2048x6152.Idx → EReal) (k : Fin 2048) (a b : Fin 6152) (h : a.val = b.val) : W (ix3 (0 : Fin 1) k a) = W (ix3 (0 : Fin 1) k b) := by
  rw [Fin.ext h]

/-- The columns regrouped: before the padded gates stand the others, in order. -/
theorem v21_apply (k : Fin 2048) (n : Fin 6144) : V m c main_v21 (ix2 k (⟨n.val, by omega⟩ : Fin 6656)) = Ww m c (ix3 (0 : Fin 1) k (abCol n)) := by
  unfold V
  after_reads_at
  by_cases h1 : n.val < 512
  · rw [dif_pos (by omega)]
    after_reads_at
    exact col_congr (Ww m c) k _ _ (by simp only [abCol]; split_ifs <;> omega)
  by_cases h2 : n.val < 1024
  · rw [dif_neg (by omega), dif_pos (by omega)]
    after_reads_at
    exact col_congr (Ww m c) k _ _ (by simp only [abCol]; split_ifs <;> omega)
  by_cases h3 : n.val < 2048
  · rw [dif_neg (by omega), dif_neg (by omega), dif_pos (by omega)]
    after_reads_at
    exact col_congr (Ww m c) k _ _ (by simp only [abCol]; split_ifs <;> omega)
  by_cases h4 : n.val < 3072
  · rw [dif_neg (by omega), dif_neg (by omega), dif_neg (by omega), dif_pos (by omega)]
    after_reads_at
    exact col_congr (Ww m c) k _ _ (by simp only [abCol]; split_ifs <;> omega)
  by_cases h5 : n.val < 4096
  · rw [dif_neg (by omega), dif_neg (by omega), dif_neg (by omega), dif_neg (by omega), dif_pos (by omega)]
    after_reads_at
    exact col_congr (Ww m c) k _ _ (by simp only [abCol]; split_ifs <;> omega)
  by_cases h6 : n.val < 5120
  · rw [dif_neg (by omega), dif_neg (by omega), dif_neg (by omega), dif_neg (by omega), dif_neg (by omega), dif_pos (by omega)]
    after_reads_at
    exact col_congr (Ww m c) k _ _ (by simp only [abCol]; split_ifs <;> omega)
  · rw [dif_neg (by omega), dif_neg (by omega), dif_neg (by omega), dif_neg (by omega), dif_neg (by omega), dif_neg (by omega), dif_pos (by omega)]
    after_reads_at
    exact col_congr (Ww m c) k _ _ (by simp only [abCol]; split_ifs <;> omega)

theorem idx0 : ∀ t : Fin cfg0.N, win0_0.index t (0 : Fin 2) = t.val / 4 ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = 0 ∧ win0_2.index t (1 : Fin 2) = t.val % 4 := by decide +kernel
theorem idx3 : ∀ t : Fin cfg0.N, win0_3.index t (0 : Fin 2) = t.val / 4 ∧ win0_3.index t (1 : Fin 2) = t.val % 4 := by decide +kernel
theorem flush3 : ∀ t : Fin cfg0.N, (cfg0.win 3).flush t = true := by decide +kernel

theorem ltN (t : Fin cfg0.N) : t.val < 64 := lt_of_lt_of_eq t.isLt (show cfg0.N = 64 from N_0)

theorem blk0 (t : Fin cfg0.N) (q : Fin 512) (k : Fin 2048) (r : Fin 8192) (hr : r.val = 512 * (t.val / 4) + q.val) : iblk m c 0 t (ix2 q k) = V m c main_v0 (ix2 r k) := by
  show V m c main_v0 _ = V m c main_v0 _
  congr 1
  funext a
  apply Fin.ext
  match a with
  | ⟨0, _⟩ => show win0_0.index t (0 : Fin 2) * 512 + 1 * q.val = r.val
              rw [(idx0 t).1]; omega
  | ⟨1, _⟩ => show win0_0.index t (1 : Fin 2) * 2048 + 1 * k.val = k.val
              rw [(idx0 t).2]; omega

theorem blk1 (t : Fin cfg0.N) (k : Fin 2048) : iblk m c 1 t (ix2 (0 : Fin 1) k) = V m c main_v22 (ix2 (0 : Fin 1) k) := by
  show V m c main_v22 _ = V m c main_v22 _
  congr 1
  funext a
  apply Fin.ext
  match a with
  | ⟨0, _⟩ => show win0_1.index t (0 : Fin 2) * 1 + 1 * 0 = 0
              rw [(idx1 t).1]
  | ⟨1, _⟩ => show win0_1.index t (1 : Fin 2) * 2048 + 1 * k.val = k.val
              rw [(idx1 t).2]; omega

theorem blk2 (t : Fin cfg0.N) (k : Fin 2048) (j : Fin 1664) (n : Fin 6656) (hn : n.val = 1664 * (t.val % 4) + j.val) : iblk m c 2 t (ix2 k j) = V m c main_v21 (ix2 k n) := by
  show V m c main_v21 _ = V m c main_v21 _
  congr 1
  funext a
  apply Fin.ext
  match a with
  | ⟨0, _⟩ => show win0_2.index t (0 : Fin 2) * 2048 + 1 * k.val = k.val
              rw [(idx2 t).1]; omega
  | ⟨1, _⟩ => show win0_2.index t (1 : Fin 2) * 1664 + 1 * j.val = n.val
              rw [(idx2 t).2]; omega

/-! ## What is held after each point -/

/-- Row `r`, normalised. -/
def nrow (r : Fin 8192) : Fin 2048 → EReal :=
  normed (fun j => Xx m c (ix3 (⟨r.val / 4096, by omega⟩ : Fin 2) (⟨r.val % 4096, by omega⟩ : Fin 4096) j)) (fun j => Xn m c (ix2 (0 : Fin 2) j))

/-- Past the first block of columns a point leaves the scratch as it found it. -/
theorem carried (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only [sout0_B_0]

/-- After every point the scratch holds the normalised rows of the point's block of rows: the first block of columns
    puts them there, the later ones leave them. -/
theorem scratch (q : Fin 512) (k : Fin 2048) (r : Fin 8192) (n : ℕ) : ∀ (hn : n < cfg0.N) (hr : r.val = 512 * (n / 4) + q.val),
    (outsAt0 m c n hn).2 (ix2 q k) = nrow m c r k := by
  induction n using Nat.strong_induction_on with
  | _ n ih =>
    intro hn hr
    by_cases h0 : n % 4 = 0
    · rw [show outsAt0 m c n hn = _ from outsAt0_A m c ⟨n, hn⟩ h0]
      dsimp only
      rw [sout0_A_0_eq, pay1_apply]
      have e0 : ∀ k, iblk m c 0 ⟨n, hn⟩ (ix2 q k) = _ := fun k => (blk0 m c ⟨n, hn⟩ q k r hr).trans (v0_apply m c r k)
      have e1 : ∀ k, iblk m c 1 ⟨n, hn⟩ (ix2 (0 : Fin 1) k) = _ := fun k => (blk1 m c ⟨n, hn⟩ k).trans (v22_apply m c k)
      unfold nrow
      simp only [e0, e1]
    · have e := carried m c ⟨n, hn⟩ h0
      dsimp only at e
      rw [e]
      exact ih (n - 1) (by omega) _ (by omega)

/-- What the output's array ends holding: the products of the normalised rows with the regrouped columns. -/
def out (r : Fin 8192) (n : Fin 6656) : EReal := dot (nrow m c r) (fun k => V m c main_v21 (ix2 k n))

def Out : S8192x6656.Idx → EReal := fun i => out m c (i 0) (i 1)

theorem at_point (t : Fin cfg0.N) (q : Fin 512) (j : Fin 1664) (r : Fin 8192) (hr : r.val = 512 * (t.val / 4) + q.val) (n : Fin 6656) (hn : n.val = 1664 * (t.val % 4) + j.val) :
    (outsAt0 m c t.val t.isLt).1 (ix2 q j) = out m c r n := by
  have e2 : ∀ k, iblk m c 2 t (ix2 k j) = _ := fun k => blk2 m c t k j n hn
  by_cases h0 : t.val % 4 = 0
  · have hs : ∀ k, (outsAt0 m c t.val t.isLt).2 (ix2 q k) = nrow m c r k := fun k => scratch m c q k r t.val t.isLt hr
    rw [outsAt0_A m c t h0] at hs ⊢
    dsimp only at hs ⊢
    rw [out0_A_3_eq, pay2_apply]
    rw [sout0_A_0_eq] at hs
    unfold out
    simp only [hs, e2]
  · have hs : ∀ k, (outsAt0 m c (t.val - 1) (Nat.lt_of_le_of_lt (Nat.sub_le _ _) t.isLt)).2 (ix2 q k) = nrow m c r k := fun k => scratch m c q k r _ _ (by omega)
    rw [outsAt0_B m c t h0]
    dsimp only
    rw [out0_B_3_eq, pay2_apply]
    unfold out
    simp only [hs, e2]

/-! ## The array after the run -/

theorem flushed_eq (t : Fin cfg0.N) : (dats m 0 c).flushed 3 t = ((cfg0.win 3).blk t).view.read (Elt Ideal) (Out m c) := by
  show (cfg0.win 3).cut (grid0.coords t) ((dats m 0 c).after 3 t) = _
  rw [after0_3]
  funext y
  have hy0 : (y 0).val < 512 := (y 0).isLt
  have hy1 : (y 1).val < 1664 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 1664 + 1 * (y 1).val := rfl
  rw [(idx3 t).1] at hb0
  rw [(idx3 t).2] at hb1
  have hx : (cfg0.win 3).xinj (grid0.coords t) y = ix2 (⟨(y 0).val, hy0⟩ : Fin 512) (⟨(y 1).val, hy1⟩ : Fin 1664) := by
    funext a
    match a with
    | ⟨0, _⟩ => rfl
    | ⟨1, _⟩ => rfl
  show (outsAt0 m c t.val t.isLt).1 ((cfg0.win 3).xinj (grid0.coords t) y) = Out m c (((cfg0.win 3).blk t).view.emb y)
  rw [hx]
  exact at_point m c t _ _ _ (by rw [hb0]; dsimp only; omega) _ (by rw [hb1]; dsimp only; omega)

theorem mem_blk (t : Fin cfg0.N) (i : S8192x6656.Idx) :
    i ∈ ((cfg0.win 3).blk t).view.set ↔ ∀ a : Fin 2, win0_3.index t a * S512x1664.size a ≤ (i a).val ∧ (i a).val < win0_3.index t a * S512x1664.size a + S512x1664.size a := by
  show i ∈ ((View.whole main_v23).slice (win0_3.rect t)).set ↔ _
  rw [View.set_slice_whole, Rect.mem_set_unit]
  exact Iff.rfl

theorem covered (i : S8192x6656.Idx) : ∃ t : Fin cfg0.N, (cfg0.win 3).flush t = true ∧ i ∈ ((cfg0.win 3).blk t).view.set := by
  have hi0 : (i 0).val < 8192 := (i 0).isLt
  have hi1 : (i 1).val < 6656 := (i 1).isLt
  refine ⟨⟨4 * ((i 0).val / 512) + (i 1).val / 1664, by rw [show cfg0.N = 64 from N_0]; omega⟩, flush3 _, ?_⟩
  rw [mem_blk]
  intro a
  match a with
  | ⟨0, _⟩ => show win0_3.index _ (0 : Fin 2) * 512 ≤ (i 0).val ∧ (i 0).val < win0_3.index _ (0 : Fin 2) * 512 + 512
              rw [(idx3 _).1]; dsimp only; omega
  | ⟨1, _⟩ => show win0_3.index _ (1 : Fin 2) * 1664 ≤ (i 1).val ∧ (i 1).val < win0_3.index _ (1 : Fin 2) * 1664 + 1664
              rw [(idx3 _).2]; dsimp only; omega

theorem final (m : (ℓ : Loc nD τ sig) → Buf (Elt Ideal) ℓ) (c : Dev nD) : (dats m 0 c).arrAt 3 cfg0.N = Out m c :=
  (dats m 0 c).arrAt_eq_of_cover 3 _ (fun t _ => flushed_eq m c t) (covered)

/-! ## The host lines after it -/

theorem tail26 (W : Valuation τ sig (Elt Ideal)) (z : Fin 1) (b : Fin 2) (t : Fin 4096) (h : Fin 8) (d : Fin 128) (r : Fin 8192) (hr : r.val = 4096 * b.val + t.val) :
    (StableHlo.after (hostOps1 (F := Ideal)) W (Proc.devRef .tc main_v26) : S1x2x4096x8x128.Idx → EReal) (ix5 z b t h d) =
      (W (Proc.devRef .tc main_v23) : S8192x6656.Idx → EReal) (ix2 r (⟨4096 + (128 * h.val + d.val), by omega⟩ : Fin 6656)) := by
  after_reads_at
  refine congrArg (W (Proc.devRef .tc main_v23) : S8192x6656.Idx → EReal) ?_
  congr 1 <;> exact Fin.ext (by first | omega | (dsimp only; omega))

theorem tail27 (W : Valuation τ sig (Elt Ideal)) (z : Fin 1) (b : Fin 2) (t : Fin 4096) (h : Fin 8) (d : Fin 128) (r : Fin 8192) (hr : r.val = 4096 * b.val + t.val) :
    (StableHlo.after (hostOps1 (F := Ideal)) W (Proc.devRef .tc main_v27) : S1x2x4096x8x128.Idx → EReal) (ix5 z b t h d) =
      (W (Proc.devRef .tc main_v23) : S8192x6656.Idx → EReal) (ix2 r (⟨5120 + (128 * h.val + d.val), by omega⟩ : Fin 6656)) := by
  after_reads_at
  refine congrArg (W (Proc.devRef .tc main_v23) : S8192x6656.Idx → EReal) ?_
  congr 1 <;> exact Fin.ext (by first | omega | (dsimp only; omega))

theorem tail28 (W : Valuation τ sig (Elt Ideal)) (r : Fin 8192) (n : Fin 6144) :
    (StableHlo.after (hostOps1 (F := Ideal)) W (Proc.devRef .tc main_v28) : S8192x6144.Idx → EReal) (ix2 r n) =
      (W (Proc.devRef .tc main_v23) : S8192x6656.Idx → EReal) (ix2 r (⟨n.val, by omega⟩ : Fin 6656)) := by
  after_reads_at

/-- What the region leaves, under the lines after it. -/
theorem exit23 : (Pipeline.withArrays (cfgs 0).spec c (V0 m c) (fun w => (dats m 0 c).arrAt w (cfgs 0).N)) (Proc.devRef .tc main_v23) = Out m c :=
  (Pipeline.withArrays_arr (cfgs 0).spec (by decide) c (V0 m c) (fun w => (dats m 0 c).arrAt w (cfgs 0).N) 3).trans (final m c)

/-- The product of row `r` with column `n` of the regrouped weights is that with the column of `w_in` it comes from. -/
theorem out_col (r : Fin 8192) (n : Fin 6144) : out m c r ⟨n.val, by omega⟩ = dot (nrow m c r) (fun k => Ww m c (ix3 (0 : Fin 1) k (abCol n))) := by
  unfold out
  exact congrArg (dot _) (funext fun k => v21_apply m c k n)

variable (ρ : Dev nD → PrngReg)

/-- THE KERNEL'S RUN: its three results, and its arguments unchanged. -/
theorem run : θ_run defs (onTc (τ := τ) (main (F := Ideal))) ⟨m, fun _ => 0, ρ⟩ (fun r => ∀ c : Dev nD,
    (∀ (z : Fin 1) (b : Fin 2) (t : Fin 4096) (h : Fin 8) (d : Fin 128), (r.2.mem ((c.tc : Thread nD τ).loc main_v26) : S1x2x4096x8x128.Idx → EReal) (ix5 z b t h d) =
      dot (normed (fun j => Xx m c (ix3 b t j)) (fun j => Xn m c (ix2 (0 : Fin 2) j))) (fun k => Ww m c (ix3 (0 : Fin 1) k (abCol ⟨4096 + (128 * h.val + d.val), by omega⟩))))
    ∧ (∀ (z : Fin 1) (b : Fin 2) (t : Fin 4096) (h : Fin 8) (d : Fin 128), (r.2.mem ((c.tc : Thread nD τ).loc main_v27) : S1x2x4096x8x128.Idx → EReal) (ix5 z b t h d) =
      dot (normed (fun j => Xx m c (ix3 b t j)) (fun j => Xn m c (ix2 (0 : Fin 2) j))) (fun k => Ww m c (ix3 (0 : Fin 1) k (abCol ⟨5120 + (128 * h.val + d.val), by omega⟩))))
    ∧ (∀ (i : Fin 8192) (n : Fin 6144), (r.2.mem ((c.tc : Thread nD τ).loc main_v28) : S8192x6144.Idx → EReal) (ix2 i n) = dot (nrow m c i) (fun k => Ww m c (ix3 (0 : Fin 1) k (abCol n))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (θ_run_and (run_main (F := Ideal) m ρ) (unchanged (F := Ideal) m ρ))
  obtain ⟨h1, h2⟩ := h
  refine ⟨fun z b t hh d => ?_, fun z b t hh d => ?_, fun i n => ?_, h2 c⟩
  · rw [(h1 c).2 main_v26 (Pipeline.mem_restRefs_of main_v26 (by decide) (by decide))]
    have hr : 4096 * b.val + t.val < 8192 := by omega
    have e1 : (⟨(4096 * b.val + t.val) / 4096, by omega⟩ : Fin 2) = b := Fin.ext (by dsimp only; omega)
    have e2 : (⟨(4096 * b.val + t.val) % 4096, by omega⟩ : Fin 4096) = t := Fin.ext (by dsimp only; omega)
    refine (tail26 _ z b t hh d ⟨4096 * b.val + t.val, hr⟩ rfl).trans ?_
    rw [exit23]
    refine (out_col m c ⟨4096 * b.val + t.val, hr⟩ ⟨4096 + (128 * hh.val + d.val), by omega⟩).trans ?_
    unfold nrow
    simp only [e1, e2]
  · rw [(h1 c).2 main_v27 (Pipeline.mem_restRefs_of main_v27 (by decide) (by decide))]
    have hr : 4096 * b.val + t.val < 8192 := by omega
    have e1 : (⟨(4096 * b.val + t.val) / 4096, by omega⟩ : Fin 2) = b := Fin.ext (by dsimp only; omega)
    have e2 : (⟨(4096 * b.val + t.val) % 4096, by omega⟩ : Fin 4096) = t := Fin.ext (by dsimp only; omega)
    refine (tail27 _ z b t hh d ⟨4096 * b.val + t.val, hr⟩ rfl).trans ?_
    rw [exit23]
    refine (out_col m c ⟨4096 * b.val + t.val, hr⟩ ⟨5120 + (128 * hh.val + d.val), by omega⟩).trans ?_
    unfold nrow
    simp only [e1, e2]
  · rw [(h1 c).2 main_v28 (Pipeline.mem_restRefs_of main_v28 (by decide) (by decide))]
    refine (tail28 _ i n).trans ?_
    rw [exit23]
    exact out_col m c i n

end Cert.Kernel4Ideal.Proj
end
-- ==== Proof.PleSample.lean ====
module
public import proofs.«01_k».proof.Proof.Gen.Kernel5Ideal.Value
public import proofs.«01_k».proof.Proof.Gen.Reference5Ideal.Read
public import Idealize.ShloMosaic.Lib.Pipeline.ValueKit
public import Idealize.ShloMosaic.Lib.StableHlo.ReadAt
public import proofs.«01_k».proof.Proof.Layer
@[expose] public section
set_option maxRecDepth 16384
noncomputable section
open Idealize.ShloMosaic Idealize.ShloMosaic.TcCoe Idealize.ShloMosaic.Tactic Idealize.SL.Sem

/-! # The last layer's embedding and the final normalisation, at the sample's shape -/

namespace Cert.Reference5Ideal.Ple
open Cert.Reference5Ideal Cert.Reference5Ideal.Read Cert.Layer

/-! ## The reference, read at an index -/

variable (x0 : (⟨S128x1x2048, .f32⟩ : BufTy).Contents (Elt Ideal)) (x1 : (⟨S128x1x256, .f32⟩ : BufTy).Contents (Elt Ideal)) (x2 : (⟨S2048, .f32⟩ : BufTy).Contents (Elt Ideal))
  (x3 : (⟨S2048x2048, .f32⟩ : BufTy).Contents (Elt Ideal)) (x4 : (⟨S256x2048, .f32⟩ : BufTy).Contents (Elt Ideal)) (x5 : (⟨S2048, .f32⟩ : BufTy).Contents (Elt Ideal))

theorem v12_apply (b : Fin 128) (t : Fin 1) (k : Fin 2048) :
    val_main_v12 (F := Ideal) x0 x2 (ix3 b t k) = normed (fun j => x0 (ix3 b t j)) (fun j => x2 (ix1 j)) k := by
  obtain rfl : t = 0 := Subsingleton.elim _ _
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v22_apply (b : Fin 128) (t : Fin 1) (k : Fin 2048) :
    val_main_v22 (F := Ideal) x0 x1 x2 x3 x4 (ix3 b t k) =
      gated (fun j => x0 (ix3 b t j)) (fun j => x2 (ix1 j)) (fun x y => x3 (ix2 x y)) (fun x => x1 (ix3 b t x)) (fun x y => x4 (ix2 x y)) k := by
  obtain rfl : t = 0 := Subsingleton.elim _ _
  pointwise [val_main_v22, val_main_v21, val_main_v20, val_main_v19, val_main_v18, val_main_v17, val_main_v16, val_main_v15, val_main_v14, val_main_v13, val_main_cst_2, val_main_cst_3]
  simp only [v12_apply]
  rfl

theorem v35_apply (b : Fin 128) (t : Fin 1) (k : Fin 2048) :
    val_main_v35 (F := Ideal) x0 x1 x2 x3 x4 x5 (ix3 b t k) =
      normed (gated (fun j => x0 (ix3 b t j)) (fun j => x2 (ix1 j)) (fun x y => x3 (ix2 x y)) (fun x => x1 (ix3 b t x)) (fun x y => x4 (ix2 x y))) (fun j => x5 (ix1 j)) k := by
  obtain rfl : t = 0 := Subsingleton.elim _ _
  pointwise [val_main_v35, val_main_v34, val_main_v33, val_main_v32, val_main_v31, val_main_v30, val_main_v29, val_main_v28, val_main_v27, val_main_v26, val_main_v25, val_main_v24, val_main_v23, val_main_cst_4, val_main_cst_5, val_main_cst_6]
  simp only [v22_apply]
  rfl

theorem v36_apply (r : Fin 128) (j : Fin 2048) :
    val_main_v36 (F := Ideal) x0 x1 x2 x3 x4 x5 (ix2 r j) =
      normed (gated (fun j => x0 (ix3 r (0 : Fin 1) j)) (fun j => x2 (ix1 j)) (fun x y => x3 (ix2 x y)) (fun x => x1 (ix3 r (0 : Fin 1) x)) (fun x y => x4 (ix2 x y))) (fun j => x5 (ix1 j)) j := by
  rw [← v35_apply]
  pointwise [val_main_v36]

end Cert.Reference5Ideal.Ple

namespace Cert.Kernel5Ideal.Ple
open Cert.Kernel5Ideal Cert.Kernel5Ideal.Gen Cert.Layer

/-! ## What the body leaves at a grid point -/

theorem pay2_apply (v0 : Vec Ideal S128x2048 .f32) (v2 : Vec Ideal S1x2048 .f32) (v17 : Vec Ideal S2048x2048 .bf16) (v27 : Vec Ideal S128x256 .f32) (v30 : Vec Ideal S256x2048 .bf16) (q : Fin 128) (k : Fin 2048) :
    k0_pay2 v0 v2 v17 v27 v30 (ix2 q k) =
      gated (fun j => v0 (ix2 q j)) (fun j => v2 (ix2 (0 : Fin 1) j)) (fun x y => v17 (ix2 x y)) (fun x => v27 (ix2 q x)) (fun x y => v30 (ix2 x y)) k := by
  pointwise [k0_pay2]
  simp only [sub_eq_add_neg, zero_add]
  rfl

theorem pay1_apply (v0 : Vec Ideal S128x2048 .f32) (v2 : Vec Ideal S1x2048 .f32) (v17 : Vec Ideal S2048x2048 .bf16) (v27 : Vec Ideal S128x256 .f32) (v30 : Vec Ideal S256x2048 .bf16) (v35 : Vec Ideal S1x2048 .f32) (q : Fin 128) (k : Fin 2048) :
    k0_pay1 (k0_pay2 v0 v2 v17 v27 v30) (k0_pay3 v35) (k0_pay4 v0 v2 v17 v27 v30) (ix2 q k) =
      normed (gated (fun j => v0 (ix2 q j)) (fun j => v2 (ix2 (0 : Fin 1) j)) (fun x y => v17 (ix2 x y)) (fun x => v27 (ix2 q x)) (fun x y => v30 (ix2 x y))) (fun j => v35 (ix2 (0 : Fin 1) j)) k := by
  pointwise [k0_pay1, k0_pay3, k0_pay4]
  simp only [pay2_apply]
  rfl

theorem out_eq {F : FTy → Type} [FloatOps F] (x0 : Vec F S128x2048 .f32) (x1 : Vec F S128x256 .f32) (x2 : Vec F S1x2048 .f32) (x3 : Vec F S2048x2048 .bf16) (x4 : Vec F S256x2048 .bf16) (x5 : Vec F S1x2048 .f32) :
    out0_6 x0 x1 x2 x3 x4 x5 = k0_pay1 (k0_pay2 x0 x2 x3 x1 x4) (k0_pay3 x5) (k0_pay4 x0 x2 x3 x1 x4) := by
  unfold out0_6
  rw [View.canon_unit_zero (by decide)]
  simp (disch := decide) only [View.ld_unit_lit]

/-! ## The arrays, and the blocks of them a grid point holds -/

variable (m : (ℓ : Loc nD τ sig) → Buf (Elt Ideal) ℓ) (c : Dev nD)

/-- The rows, the embeddings, the gate's gain and weights, the embedding's weights and the final gain. -/
abbrev Xh : S128x1x2048.Idx → EReal := m ((c.tc : Thread nD τ).loc main_arg0)
abbrev Xp : S128x1x256.Idx → EReal := m ((c.tc : Thread nD τ).loc main_arg1)
abbrev Xg : S2048.Idx → EReal := m ((c.tc : Thread nD τ).loc main_arg2)
abbrev Wg : S2048x2048.Idx → EReal := m ((c.tc : Thread nD τ).loc main_arg3)
abbrev Wp : S256x2048.Idx → EReal := m ((c.tc : Thread nD τ).loc main_arg4)
abbrev Xf : S2048.Idx → EReal := m ((c.tc : Thread nD τ).loc main_arg5)

theorem v0_apply (r : Fin 128) (k : Fin 2048) : V m c main_v0 (ix2 r k) = Xh m c (ix3 r (0 : Fin 1) k) := by
  unfold V
  after_reads_at

theorem v1_apply (r : Fin 128) (k : Fin 256) : V m c main_v1 (ix2 r k) = Xp m c (ix3 r (0 : Fin 1) k) := by
  unfold V
  after_reads_at

theorem v2_apply (k j : Fin 2048) : V m c main_v2 (ix2 k j) = Wg m c (ix2 k j) := by
  unfold V
  after_reads_at

theorem v3_apply (k : Fin 256) (j : Fin 2048) : V m c main_v3 (ix2 k j) = Wp m c (ix2 k j) := by
  unfold V
  after_reads_at

theorem v4_apply (k : Fin 2048) : V m c main_v4 (ix2 (0 : Fin 1) k) = Xg m c (ix1 k) := by
  unfold V
  after_reads_at

theorem v5_apply (k : Fin 2048) : V m c main_v5 (ix2 (0 : Fin 1) k) = Xf m c (ix1 k) := by
  unfold V
  after_reads_at

theorem idx0 : ∀ t : Fin cfg0.N, win0_0.index t (0 : Fin 2) = t.val ∧ win0_0.index t (1 : Fin 2) = 0 := by decide +kernel
theorem idx1 : ∀ t : Fin cfg0.N, win0_1.index t (0 : Fin 2) = t.val ∧ win0_1.index t (1 : Fin 2) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = t.val ∧ win0_6.index t (1 : Fin 2) = 0 := by decide +kernel
theorem flush6 : ∀ t : Fin cfg0.N, (cfg0.win 6).flush t = true := by decide +kernel

theorem ltN (t : Fin cfg0.N) : t.val < 1 := lt_of_lt_of_eq t.isLt (show cfg0.N = 1 from N_0)

theorem blk0 (t : Fin cfg0.N) (q : Fin 128) (k : Fin 2048) (r : Fin 128) (hr : r.val = 128 * t.val + q.val) : iblk m c 0 t (ix2 q k) = V m c main_v0 (ix2 r k) := by
  show V m c main_v0 _ = V m c main_v0 _
  congr 1
  funext a
  apply Fin.ext
  match a with
  | ⟨0, _⟩ => show win0_0.index t (0 : Fin 2) * 128 + 1 * q.val = r.val
              rw [(idx0 t).1]; omega
  | ⟨1, _⟩ => show win0_0.index t (1 : Fin 2) * 2048 + 1 * k.val = k.val
              rw [(idx0 t).2]; omega

theorem blk1 (t : Fin cfg0.N) (q : Fin 128) (k : Fin 256) (r : Fin 128) (hr : r.val = 128 * t.val + q.val) : iblk m c 1 t (ix2 q k) = V m c main_v1 (ix2 r k) := by
  show V m c main_v1 _ = V m c main_v1 _
  congr 1
  funext a
  apply Fin.ext
  match a with
  | ⟨0, _⟩ => show win0_1.index t (0 : Fin 2) * 128 + 1 * q.val = r.val
              rw [(idx1 t).1]; omega
  | ⟨1, _⟩ => show win0_1.index t (1 : Fin 2) * 256 + 1 * k.val = k.val
              rw [(idx1 t).2]; omega

theorem blk2 (t : Fin cfg0.N) (k : Fin 2048) : iblk m c 2 t (ix2 (0 : Fin 1) k) = V m c main_v4 (ix2 (0 : Fin 1) k) := by
  show V m c main_v4 _ = V m c main_v4 _
  congr 1
  funext a
  apply Fin.ext
  match a with
  | ⟨0, _⟩ => show win0_2.index t (0 : Fin 2) * 1 + 1 * 0 = 0
              rw [(idx2 t).1]
  | ⟨1, _⟩ => show win0_2.index t (1 : Fin 2) * 2048 + 1 * k.val = k.val
              rw [(idx2 t).2]; omega

theorem blk3 (t : Fin cfg0.N) (k j : Fin 2048) : iblk m c 3 t (ix2 k j) = V m c main_v2 (ix2 k j) := by
  show V m c main_v2 _ = V m c main_v2 _
  congr 1
  funext a
  apply Fin.ext
  match a with
  | ⟨0, _⟩ => show win0_3.index t (0 : Fin 2) * 2048 + 1 * k.val = k.val
              rw [(idx3 t).1]; omega
  | ⟨1, _⟩ => show win0_3.index t (1 : Fin 2) * 2048 + 1 * j.val = j.val
              rw [(idx3 t).2]; omega

theorem blk4 (t : Fin cfg0.N) (k : Fin 256) (j : Fin 2048) : iblk m c 4 t (ix2 k j) = V m c main_v3 (ix2 k j) := by
  show V m c main_v3 _ = V m c main_v3 _
  congr 1
  funext a
  apply Fin.ext
  match a with
  | ⟨0, _⟩ => show win0_4.index t (0 : Fin 2) * 256 + 1 * k.val = k.val
              rw [(idx4 t).1]; omega
  | ⟨1, _⟩ => show win0_4.index t (1 : Fin 2) * 2048 + 1 * j.val = j.val
              rw [(idx4 t).2]; omega

theorem blk5 (t : Fin cfg0.N) (k : Fin 2048) : iblk m c 5 t (ix2 (0 : Fin 1) k) = V m c main_v5 (ix2 (0 : Fin 1) k) := by
  show V m c main_v5 _ = V m c main_v5 _
  congr 1
  funext a
  apply Fin.ext
  match a with
  | ⟨0, _⟩ => show win0_5.index t (0 : Fin 2) * 1 + 1 * 0 = 0
              rw [(idx5 t).1]
  | ⟨1, _⟩ => show win0_5.index t (1 : Fin 2) * 2048 + 1 * k.val = k.val
              rw [(idx5 t).2]; omega

/-! ## The array after the run -/

/-- What the output holds: in each row, the gated embedding added and the whole normalised. -/
def out (r : Fin 128) (j : Fin 2048) : EReal :=
  normed (gated (fun j => Xh m c (ix3 r (0 : Fin 1) j)) (fun j => Xg m c (ix1 j)) (fun x y => Wg m c (ix2 x y)) (fun x => Xp m c (ix3 r (0 : Fin 1) x)) (fun x y => Wp m c (ix2 x y))) (fun j => Xf m c (ix1 j)) j

def Out : S128x2048.Idx → EReal := fun i => out m c (i 0) (i 1)

theorem at_point (t : Fin cfg0.N) (q : Fin 128) (j : Fin 2048) (r : Fin 128) (hr : r.val = 128 * t.val + q.val) :
    out0_6 (iblk m c 0 t) (iblk m c 1 t) (iblk m c 2 t) (iblk m c 3 t) (iblk m c 4 t) (iblk m c 5 t) (ix2 q j) = out m c r j := by
  rw [out_eq, pay1_apply]
  have e0 : ∀ k, iblk m c 0 t (ix2 q k) = _ := fun k => (blk0 m c t q k r hr).trans (v0_apply m c r k)
  have e1 : ∀ k, iblk m c 1 t (ix2 q k) = _ := fun k => (blk1 m c t q k r hr).trans (v1_apply m c r k)
  have e2 : ∀ k, iblk m c 2 t (ix2 (0 : Fin 1) k) = _ := fun k => (blk2 m c t k).trans (v4_apply m c k)
  have e3 : ∀ k j, iblk m c 3 t (ix2 k j) = _ := fun k j => (blk3 m c t k j).trans (v2_apply m c k j)
  have e4 : ∀ k j, iblk m c 4 t (ix2 k j) = _ := fun k j => (blk4 m c t k j).trans (v3_apply m c k j)
  have e5 : ∀ k, iblk m c 5 t (ix2 (0 : Fin 1) k) = _ := fun k => (blk5 m c t k).trans (v5_apply m c k)
  unfold out
  simp only [e0, e1, e2, e3, e4, e5]

theorem flushed_eq (t : Fin cfg0.N) : (dats m 0 c).flushed 6 t = ((cfg0.win 6).blk t).view.read (Elt Ideal) (Out m c) := by
  show (cfg0.win 6).cut (grid0.coords t) ((dats m 0 c).after 6 t) = _
  rw [after0_6]
  funext y
  have hy0 : (y 0).val < 128 := (y 0).isLt
  have hy1 : (y 1).val < 2048 := (y 1).isLt
  have hb0 : (((cfg0.win 6).blk t).view.emb y 0).val = win0_6.index t (0 : Fin 2) * 128 + 1 * (y 0).val := rfl
  have hb1 : (((cfg0.win 6).blk t).view.emb y 1).val = win0_6.index t (1 : Fin 2) * 2048 + 1 * (y 1).val := rfl
  rw [(idx6 t).1] at hb0
  rw [(idx6 t).2] at hb1
  have hx : (cfg0.win 6).xinj (grid0.coords t) y = ix2 (⟨(y 0).val, hy0⟩ : Fin 128) (⟨(y 1).val, hy1⟩ : Fin 2048) := by
    funext a
    match a with
    | ⟨0, _⟩ => rfl
    | ⟨1, _⟩ => rfl
  show out0_6 (iblk m c 0 t) (iblk m c 1 t) (iblk m c 2 t) (iblk m c 3 t) (iblk m c 4 t) (iblk m c 5 t) ((cfg0.win 6).xinj (grid0.coords t) y) = Out m c (((cfg0.win 6).blk t).view.emb y)
  rw [hx]
  unfold Out
  have e1 : ((cfg0.win 6).blk t).view.emb y 1 = (⟨(y 1).val, hy1⟩ : Fin 2048) := Fin.ext (by rw [hb1]; dsimp only; omega)
  rw [e1]
  exact at_point m c t _ _ _ (by rw [hb0]; dsimp only; omega)

theorem mem_blk (t : Fin cfg0.N) (i : S128x2048.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v6).slice (win0_6.rect t)).set ↔ _
  rw [View.set_slice_whole, Rect.mem_set_unit]
  exact Iff.rfl

theorem covered (i : S128x2048.Idx) : ∃ t : Fin cfg0.N, (cfg0.win 6).flush t = true ∧ i ∈ ((cfg0.win 6).blk t).view.set := by
  have hi0 : (i 0).val < 128 := (i 0).isLt
  have hi1 : (i 1).val < 2048 := (i 1).isLt
  refine ⟨⟨(i 0).val / 128, by rw [show cfg0.N = 1 from N_0]; omega⟩, flush6 _, ?_⟩
  rw [mem_blk]
  intro a
  match a with
  | ⟨0, _⟩ => show win0_6.index _ (0 : Fin 2) * 128 ≤ (i 0).val ∧ (i 0).val < win0_6.index _ (0 : Fin 2) * 128 + 128
              rw [(idx6 _).1]; dsimp only; omega
  | ⟨1, _⟩ => show win0_6.index _ (1 : Fin 2) * 2048 ≤ (i 1).val ∧ (i 1).val < win0_6.index _ (1 : Fin 2) * 2048 + 2048
              rw [(idx6 _).2]; omega

/-- THE KERNEL'S RESULT. -/
theorem final (m : (ℓ : Loc nD τ sig) → Buf (Elt Ideal) ℓ) (c : Dev nD) : (dats m 0 c).arrAt 6 cfg0.N = Out m c :=
  (dats m 0 c).arrAt_eq_of_cover 6 _ (fun t _ => flushed_eq m c t) (covered)

end Cert.Kernel5Ideal.Ple
end
-- ==== Proof.ProjSample.lean ====
module
public import proofs.«01_k».proof.Proof.Gen.Kernel6Ideal.Frame
public import proofs.«01_k».proof.Proof.Gen.Reference6Ideal.Read
public import Idealize.ShloMosaic.Lib.Pipeline.ValueKit
public import Idealize.ShloMosaic.Lib.StableHlo.ReadAt
public import proofs.«01_k».proof.Proof.Layer
@[expose] public section
set_option maxRecDepth 16384
noncomputable section
open Idealize.ShloMosaic Idealize.ShloMosaic.TcCoe Idealize.ShloMosaic.Tactic Idealize.SL.Sem

/-! # The first mixer's projection of the normalised rows, at the sample's shape -/

namespace Cert.Reference6Ideal.Proj
open Cert.Reference6Ideal Cert.Reference6Ideal.Read Cert.Layer

/-! ## The reference, read at an index -/

variable (x0 : (⟨S128x1x2048, .f32⟩ : BufTy).Contents (Elt Ideal)) (x1 : (⟨S2x2048, .f32⟩ : BufTy).Contents (Elt Ideal)) (x2 : (⟨S1x2048x6152, .f32⟩ : BufTy).Contents (Elt Ideal))

theorem v14_apply (b : Fin 128) (t : Fin 1) (k : Fin 2048) :
    val_main_v14 (F := Ideal) x0 x1 (ix3 b t k) = normed (fun j => x0 (ix3 b t j)) (fun j => x1 (ix2 (0 : Fin 2) j)) k := by
  obtain rfl : t = 0 := Subsingleton.elim _ _
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v16_apply (b : Fin 128) (t : Fin 1) (n : Fin 6152) :
    val_main_v16 (F := Ideal) x0 x1 x2 (ix3 b t n) = dot (normed (fun j => x0 (ix3 b t j)) (fun j => x1 (ix2 (0 : Fin 2) j))) (fun k => x2 (ix3 (0 : Fin 1) k n)) := by
  pointwise [val_main_v16, val_main_v15]
  simp only [v14_apply]
  rfl

/-- The keys. -/
theorem v22_apply (z : Fin 1) (b : Fin 128) (t : Fin 1) (h : Fin 8) (d : Fin 128) :
    val_main_v22 (F := Ideal) x0 x1 x2 (ix5 z b t h d) =
      dot (normed (fun j => x0 (ix3 b t j)) (fun j => x1 (ix2 (0 : Fin 2) j))) (fun k => x2 (ix3 (0 : Fin 1) k (abCol ⟨4096 + (128 * h.val + d.val), by omega⟩))) := by
  rw [← v16_apply]
  obtain rfl : t = 0 := Subsingleton.elim _ _
  pointwise [val_main_v22, val_main_v17]
  refine congrArg (val_main_v16 (F := Ideal) x0 x1 x2) ?_
  congr 1 <;> exact Fin.ext (by simp only [abCol]; split_ifs <;> omega)

/-- The values. -/
theorem v23_apply (z : Fin 1) (b : Fin 128) (t : Fin 1) (h : Fin 8) (d : Fin 128) :
    val_main_v23 (F := Ideal) x0 x1 x2 (ix5 z b t h d) =
      dot (normed (fun j => x0 (ix3 b t j)) (fun j => x1 (ix2 (0 : Fin 2) j))) (fun k => x2 (ix3 (0 : Fin 1) k (abCol ⟨5120 + (128 * h.val + d.val), by omega⟩))) := by
  rw [← v16_apply]
  obtain rfl : t = 0 := Subsingleton.elim _ _
  pointwise [val_main_v23, val_main_v18]
  refine congrArg (val_main_v16 (F := Ideal) x0 x1 x2) ?_
  congr 1 <;> exact Fin.ext (by simp only [abCol]; split_ifs <;> omega)

/-- All columns but the gates'. -/
theorem v24_apply (r : Fin 128) (n : Fin 6144) :
    val_main_v24 (F := Ideal) x0 x1 x2 (ix2 r n) =
      dot (normed (fun j => x0 (ix3 r (0 : Fin 1) j)) (fun j => x1 (ix2 (0 : Fin 2) j))) (fun k => x2 (ix3 (0 : Fin 1) k (abCol n))) := by
  rw [← v16_apply]
  pointwise [val_main_v24, val_main_v21, val_main_v20, val_main_v19]
  by_cases hn : n.val < 3072
  · rw [dif_pos hn]
    refine congrArg (val_main_v16 (F := Ideal) x0 x1 x2) ?_
    congr 1 <;> exact Fin.ext (by simp only [abCol]; split_ifs <;> omega)
  · rw [dif_neg hn]
    refine congrArg (val_main_v16 (F := Ideal) x0 x1 x2) ?_
    congr 1 <;> exact Fin.ext (by simp only [abCol]; split_ifs <;> omega)

end Cert.Reference6Ideal.Proj

namespace Cert.Kernel6Ideal.Proj
open Cert.Kernel6Ideal Cert.Kernel6Ideal.Gen Cert.Layer

/-! ## What the body leaves at a grid point -/

section Bodies
variable {F : FTy → Type} [FloatOps F]
variable (c : Dev nD) (i : grid0.Coords) (arg2 : Memref sig .tc .vmem S128x2048 .f32) (harg2 : arg2.IsWhole) (arg3 : Memref sig .tc .vmem S1x2048 .f32) (harg3 : arg3.IsWhole)
  (arg4 : Memref sig .tc .vmem S2048x1664 .bf16) (harg4 : arg4.IsWhole) (arg5 : Memref sig .tc .vmem S128x1664 .f32) (harg5 : arg5.IsWhole) (arg6 : Memref sig .tc .vmem S128x2048 .bf16) (harg6 : arg6.IsWhole)
  (x0 : Vec F S128x2048 .f32) (x1 : Vec F S1x2048 .f32) (x2 : Vec F S2048x1664 .bf16)

/-- At the first block of columns the scratch takes the normalised rows. -/
theorem sout0_A_0_eq (hc0 : cond0_0 i) :
    sout0_A_0 c i arg2 harg2 arg3 harg3 arg4 harg4 arg5 harg5 arg6 harg6 hc0 x0 x1 x2 = k0_pay1 x0 x1 := by
  unfold sout0_A_0
  rw [View.read_writes_junk_eq_canon]
  unfold kernelRun0_A
  dsimp only
  sl_unfold_words
  simp (disch := decide) only [↓View.readCov_cons_toLoadRect, View.readAt_eq_ld, harg2.read_unread, harg3.read_unread, harg4.read_unread, harg5.read_unread, harg6.read_unread]
  rw [View.canon_cons_unit_zero (by decide)]
  simp (disch := decide) only [View.ld_unit_lit]

/-- At the first block of columns the output: their products with the rows just normalised. -/
theorem out0_A_3_eq (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_junk_eq_canon]
  unfold kernelRun0_A
  dsimp only
  sl_unfold_words
  simp (disch := decide) only [↓View.readCov_cons_toLoadRect, View.readAt_eq_ld, harg2.read_unread, harg3.read_unread, harg4.read_unread, harg5.read_unread, harg6.read_unread]
  rw [View.canon_cons_unit_zero (by decide)]
  simp (disch := decide) only [View.ld_unit_lit]

/-- At a later block: their products with the rows the scratch holds. -/
theorem out0_B_3_eq (hc0 : ¬cond0_0 i) (xs0 : Vec F S128x2048 .bf16) :
    out0_B_3 c i arg2 harg2 arg3 harg3 arg4 harg4 arg5 harg5 arg6 harg6 hc0 x0 x1 x2 xs0 = k0_pay2 xs0 x2 := by
  unfold out0_B_3
  rw [View.read_writes_junk_eq_canon]
  unfold kernelRun0_B
  dsimp only
  sl_unfold_words
  simp (disch := decide) only [↓View.readCov_cons_toLoadRect, View.readAt_eq_ld, harg2.read_unread, harg3.read_unread, harg4.read_unread, harg5.read_unread, harg6.read_unread]
  rw [View.canon_cons_unit_zero (by decide)]
  simp (disch := decide) only [View.ld_unit_lit]
end Bodies

theorem pay1_apply (v8 : Vec Ideal S128x2048 .f32) (v10 : Vec Ideal S1x2048 .f32) (q : Fin 128) (k : Fin 2048) :
    k0_pay1 v8 v10 (ix2 q k) = normed (fun j => v8 (ix2 q j)) (fun j => v10 (ix2 (0 : Fin 1) j)) k := by
  pointwise [k0_pay1]
  rfl

theorem pay2_apply (v3 : Vec Ideal S128x2048 .bf16) (v4 : Vec Ideal S2048x1664 .bf16) (q : Fin 128) (n : Fin 1664) :
    k0_pay2 v3 v4 (ix2 q n) = dot (fun k => v3 (ix2 q k)) (fun k => v4 (ix2 k n)) := by
  pointwise [k0_pay2]
  rfl

/-! ## The arrays, and the blocks of them a grid point holds -/

variable (m : (ℓ : Loc nD τ sig) → Buf (Elt Ideal) ℓ) (c : Dev nD)

/-- The rows, the gains of the two mixers and the input weights. -/
abbrev Xx : S128x1x2048.Idx → EReal := m ((c.tc : Thread nD τ).loc main_arg0)
abbrev Xn : S2x2048.Idx → EReal := m ((c.tc : Thread nD τ).loc main_arg1)
abbrev Ww : S1x2048x6152.Idx → EReal := m ((c.tc : Thread nD τ).loc main_arg2)

theorem v0_apply (r : Fin 128) (k : Fin 2048) : V m c main_v0 (ix2 r k) = Xx m c (ix3 r (0 : Fin 1) k) := by
  unfold V
  after_reads_at

theorem v22_apply (k : Fin 2048) : V m c main_v22 (ix2 (0 : Fin 1) k) = Xn m c (ix2 (0 : Fin 2) k) := by
  unfold V
  after_reads_at

theorem col_congr (W : S1x2048x6152.Idx → EReal) (k : Fin 2048) (a b : Fin 6152) (h : a.val = b.val) : W (ix3 (0 : Fin 1) k a) = W (ix3 (0 : Fin 1) k b) := by
  rw [Fin.ext h]

/-- The columns regrouped: before the padded gates stand the others, in order. -/
theorem v21_apply (k : Fin 2048) (n : Fin 6144) : V m c main_v21 (ix2 k (⟨n.val, by omega⟩ : Fin 6656)) = Ww m c (ix3 (0 : Fin 1) k (abCol n)) := by
  unfold V
  after_reads_at
  by_cases h1 : n.val < 512
  · rw [dif_pos (by omega)]
    after_reads_at
    exact col_congr (Ww m c) k _ _ (by simp only [abCol]; split_ifs <;> omega)
  by_cases h2 : n.val < 1024
  · rw [dif_neg (by omega), dif_pos (by omega)]
    after_reads_at
    exact col_congr (Ww m c) k _ _ (by simp only [abCol]; split_ifs <;> omega)
  by_cases h3 : n.val < 2048
  · rw [dif_neg (by omega), dif_neg (by omega), dif_pos (by omega)]
    after_reads_at
    exact col_congr (Ww m c) k _ _ (by simp only [abCol]; split_ifs <;> omega)
  by_cases h4 : n.val < 3072
  · rw [dif_neg (by omega), dif_neg (by omega), dif_neg (by omega), dif_pos (by omega)]
    after_reads_at
    exact col_congr (Ww m c) k _ _ (by simp only [abCol]; split_ifs <;> omega)
  by_cases h5 : n.val < 4096
  · rw [dif_neg (by omega), dif_neg (by omega), dif_neg (by omega), dif_neg (by omega), dif_pos (by omega)]
    after_reads_at
    exact col_congr (Ww m c) k _ _ (by simp only [abCol]; split_ifs <;> omega)
  by_cases h6 : n.val < 5120
  · rw [dif_neg (by omega), dif_neg (by omega), dif_neg (by omega), dif_neg (by omega), dif_neg (by omega), dif_pos (by omega)]
    after_reads_at
    exact col_congr (Ww m c) k _ _ (by simp only [abCol]; split_ifs <;> omega)
  · rw [dif_neg (by omega), dif_neg (by omega), dif_neg (by omega), dif_neg (by omega), dif_neg (by omega), dif_neg (by omega), dif_pos (by omega)]
    after_reads_at
    exact col_congr (Ww m c) k _ _ (by simp only [abCol]; split_ifs <;> omega)

theorem idx0 : ∀ t : Fin cfg0.N, win0_0.index t (0 : Fin 2) = t.val / 4 ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = 0 ∧ win0_2.index t (1 : Fin 2) = t.val % 4 := by decide +kernel
theorem idx3 : ∀ t : Fin cfg0.N, win0_3.index t (0 : Fin 2) = t.val / 4 ∧ win0_3.index t (1 : Fin 2) = t.val % 4 := by decide +kernel
theorem flush3 : ∀ t : Fin cfg0.N, (cfg0.win 3).flush t = true := by decide +kernel

theorem ltN (t : Fin cfg0.N) : t.val < 4 := lt_of_lt_of_eq t.isLt (show cfg0.N = 4 from N_0)

theorem blk0 (t : Fin cfg0.N) (q : Fin 128) (k : Fin 2048) (r : Fin 128) (hr : r.val = 128 * (t.val / 4) + q.val) : iblk m c 0 t (ix2 q k) = V m c main_v0 (ix2 r k) := by
  show V m c main_v0 _ = V m c main_v0 _
  congr 1
  funext a
  apply Fin.ext
  match a with
  | ⟨0, _⟩ => show win0_0.index t (0 : Fin 2) * 128 + 1 * q.val = r.val
              rw [(idx0 t).1]; omega
  | ⟨1, _⟩ => show win0_0.index t (1 : Fin 2) * 2048 + 1 * k.val = k.val
              rw [(idx0 t).2]; omega

theorem blk1 (t : Fin cfg0.N) (k : Fin 2048) : iblk m c 1 t (ix2 (0 : Fin 1) k) = V m c main_v22 (ix2 (0 : Fin 1) k) := by
  show V m c main_v22 _ = V m c main_v22 _
  congr 1
  funext a
  apply Fin.ext
  match a with
  | ⟨0, _⟩ => show win0_1.index t (0 : Fin 2) * 1 + 1 * 0 = 0
              rw [(idx1 t).1]
  | ⟨1, _⟩ => show win0_1.index t (1 : Fin 2) * 2048 + 1 * k.val = k.val
              rw [(idx1 t).2]; omega

theorem blk2 (t : Fin cfg0.N) (k : Fin 2048) (j : Fin 1664) (n : Fin 6656) (hn : n.val = 1664 * (t.val % 4) + j.val) : iblk m c 2 t (ix2 k j) = V m c main_v21 (ix2 k n) := by
  show V m c main_v21 _ = V m c main_v21 _
  congr 1
  funext a
  apply Fin.ext
  match a with
  | ⟨0, _⟩ => show win0_2.index t (0 : Fin 2) * 2048 + 1 * k.val = k.val
              rw [(idx2 t).1]; omega
  | ⟨1, _⟩ => show win0_2.index t (1 : Fin 2) * 1664 + 1 * j.val = n.val
              rw [(idx2 t).2]; omega

/-! ## What is held after each point -/

/-- Row `r`, normalised. -/
def nrow (r : Fin 128) : Fin 2048 → EReal :=
  normed (fun j => Xx m c (ix3 r (0 : Fin 1) j)) (fun j => Xn m c (ix2 (0 : Fin 2) j))

/-- Past the first block of columns a point leaves the scratch as it found it. -/
theorem carried (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only [sout0_B_0]

/-- After every point the scratch holds the normalised rows of the point's block of rows: the first block of columns
    puts them there, the later ones leave them. -/
theorem scratch (q : Fin 128) (k : Fin 2048) (r : Fin 128) (n : ℕ) : ∀ (hn : n < cfg0.N) (hr : r.val = 128 * (n / 4) + q.val),
    (outsAt0 m c n hn).2 (ix2 q k) = nrow m c r k := by
  induction n using Nat.strong_induction_on with
  | _ n ih =>
    intro hn hr
    by_cases h0 : n % 4 = 0
    · rw [show outsAt0 m c n hn = _ from outsAt0_A m c ⟨n, hn⟩ h0]
      dsimp only
      rw [sout0_A_0_eq, pay1_apply]
      have e0 : ∀ k, iblk m c 0 ⟨n, hn⟩ (ix2 q k) = _ := fun k => (blk0 m c ⟨n, hn⟩ q k r hr).trans (v0_apply m c r k)
      have e1 : ∀ k, iblk m c 1 ⟨n, hn⟩ (ix2 (0 : Fin 1) k) = _ := fun k => (blk1 m c ⟨n, hn⟩ k).trans (v22_apply m c k)
      unfold nrow
      simp only [e0, e1]
    · have e := carried m c ⟨n, hn⟩ h0
      dsimp only at e
      rw [e]
      exact ih (n - 1) (by omega) _ (by omega)

/-- What the output's array ends holding: the products of the normalised rows with the regrouped columns. -/
def out (r : Fin 128) (n : Fin 6656) : EReal := dot (nrow m c r) (fun k => V m c main_v21 (ix2 k n))

def Out : S128x6656.Idx → EReal := fun i => out m c (i 0) (i 1)

theorem at_point (t : Fin cfg0.N) (q : Fin 128) (j : Fin 1664) (r : Fin 128) (hr : r.val = 128 * (t.val / 4) + q.val) (n : Fin 6656) (hn : n.val = 1664 * (t.val % 4) + j.val) :
    (outsAt0 m c t.val t.isLt).1 (ix2 q j) = out m c r n := by
  have e2 : ∀ k, iblk m c 2 t (ix2 k j) = _ := fun k => blk2 m c t k j n hn
  by_cases h0 : t.val % 4 = 0
  · have hs : ∀ k, (outsAt0 m c t.val t.isLt).2 (ix2 q k) = nrow m c r k := fun k => scratch m c q k r t.val t.isLt hr
    rw [outsAt0_A m c t h0] at hs ⊢
    dsimp only at hs ⊢
    rw [out0_A_3_eq, pay2_apply]
    rw [sout0_A_0_eq] at hs
    unfold out
    simp only [hs, e2]
  · have hs : ∀ k, (outsAt0 m c (t.val - 1) (Nat.lt_of_le_of_lt (Nat.sub_le _ _) t.isLt)).2 (ix2 q k) = nrow m c r k := fun k => scratch m c q k r _ _ (by omega)
    rw [outsAt0_B m c t h0]
    dsimp only
    rw [out0_B_3_eq, pay2_apply]
    unfold out
    simp only [hs, e2]

/-! ## The array after the run -/

theorem flushed_eq (t : Fin cfg0.N) : (dats m 0 c).flushed 3 t = ((cfg0.win 3).blk t).view.read (Elt Ideal) (Out m c) := by
  show (cfg0.win 3).cut (grid0.coords t) ((dats m 0 c).after 3 t) = _
  rw [after0_3]
  funext y
  have hy0 : (y 0).val < 128 := (y 0).isLt
  have hy1 : (y 1).val < 1664 := (y 1).isLt
  have hb0 : (((cfg0.win 3).blk t).view.emb y 0).val = win0_3.index t (0 : Fin 2) * 128 + 1 * (y 0).val := rfl
  have hb1 : (((cfg0.win 3).blk t).view.emb y 1).val = win0_3.index t (1 : Fin 2) * 1664 + 1 * (y 1).val := rfl
  rw [(idx3 t).1] at hb0
  rw [(idx3 t).2] at hb1
  have hx : (cfg0.win 3).xinj (grid0.coords t) y = ix2 (⟨(y 0).val, hy0⟩ : Fin 128) (⟨(y 1).val, hy1⟩ : Fin 1664) := by
    funext a
    match a with
    | ⟨0, _⟩ => rfl
    | ⟨1, _⟩ => rfl
  show (outsAt0 m c t.val t.isLt).1 ((cfg0.win 3).xinj (grid0.coords t) y) = Out m c (((cfg0.win 3).blk t).view.emb y)
  rw [hx]
  exact at_point m c t _ _ _ (by rw [hb0]; dsimp only; omega) _ (by rw [hb1]; dsimp only; omega)

theorem mem_blk (t : Fin cfg0.N) (i : S128x6656.Idx) :
    i ∈ ((cfg0.win 3).blk t).view.set ↔ ∀ a : Fin 2, win0_3.index t a * S128x1664.size a ≤ (i a).val ∧ (i a).val < win0_3.index t a * S128x1664.size a + S128x1664.size a := by
  show i ∈ ((View.whole main_v23).slice (win0_3.rect t)).set ↔ _
  rw [View.set_slice_whole, Rect.mem_set_unit]
  exact Iff.rfl

theorem covered (i : S128x6656.Idx) : ∃ t : Fin cfg0.N, (cfg0.win 3).flush t = true ∧ i ∈ ((cfg0.win 3).blk t).view.set := by
  have hi0 : (i 0).val < 128 := (i 0).isLt
  have hi1 : (i 1).val < 6656 := (i 1).isLt
  refine ⟨⟨4 * ((i 0).val / 128) + (i 1).val / 1664, by rw [show cfg0.N = 4 from N_0]; omega⟩, flush3 _, ?_⟩
  rw [mem_blk]
  intro a
  match a with
  | ⟨0, _⟩ => show win0_3.index _ (0 : Fin 2) * 128 ≤ (i 0).val ∧ (i 0).val < win0_3.index _ (0 : Fin 2) * 128 + 128
              rw [(idx3 _).1]; dsimp only; omega
  | ⟨1, _⟩ => show win0_3.index _ (1 : Fin 2) * 1664 ≤ (i 1).val ∧ (i 1).val < win0_3.index _ (1 : Fin 2) * 1664 + 1664
              rw [(idx3 _).2]; dsimp only; omega

theorem final (m : (ℓ : Loc nD τ sig) → Buf (Elt Ideal) ℓ) (c : Dev nD) : (dats m 0 c).arrAt 3 cfg0.N = Out m c :=
  (dats m 0 c).arrAt_eq_of_cover 3 _ (fun t _ => flushed_eq m c t) (covered)

/-! ## The host lines after it -/

theorem tail26 (W : Valuation τ sig (Elt Ideal)) (z : Fin 1) (b : Fin 128) (t : Fin 1) (h : Fin 8) (d : Fin 128) (r : Fin 128) (hr : r.val = 1 * b.val + t.val) :
    (StableHlo.after (hostOps1 (F := Ideal)) W (Proc.devRef .tc main_v26) : S1x128x1x8x128.Idx → EReal) (ix5 z b t h d) =
      (W (Proc.devRef .tc main_v23) : S128x6656.Idx → EReal) (ix2 r (⟨4096 + (128 * h.val + d.val), by omega⟩ : Fin 6656)) := by
  after_reads_at
  refine congrArg (W (Proc.devRef .tc main_v23) : S128x6656.Idx → EReal) ?_
  congr 1 <;> exact Fin.ext (by first | omega | (dsimp only; omega))

theorem tail27 (W : Valuation τ sig (Elt Ideal)) (z : Fin 1) (b : Fin 128) (t : Fin 1) (h : Fin 8) (d : Fin 128) (r : Fin 128) (hr : r.val = 1 * b.val + t.val) :
    (StableHlo.after (hostOps1 (F := Ideal)) W (Proc.devRef .tc main_v27) : S1x128x1x8x128.Idx → EReal) (ix5 z b t h d) =
      (W (Proc.devRef .tc main_v23) : S128x6656.Idx → EReal) (ix2 r (⟨5120 + (128 * h.val + d.val), by omega⟩ : Fin 6656)) := by
  after_reads_at
  refine congrArg (W (Proc.devRef .tc main_v23) : S128x6656.Idx → EReal) ?_
  congr 1 <;> exact Fin.ext (by first | omega | (dsimp only; omega))

theorem tail28 (W : Valuation τ sig (Elt Ideal)) (r : Fin 128) (n : Fin 6144) :
    (StableHlo.after (hostOps1 (F := Ideal)) W (Proc.devRef .tc main_v28) : S128x6144.Idx → EReal) (ix2 r n) =
      (W (Proc.devRef .tc main_v23) : S128x6656.Idx → EReal) (ix2 r (⟨n.val, by omega⟩ : Fin 6656)) := by
  after_reads_at

/-- What the region leaves, under the lines after it. -/
theorem exit23 : (Pipeline.withArrays (cfgs 0).spec c (V0 m c) (fun w => (dats m 0 c).arrAt w (cfgs 0).N)) (Proc.devRef .tc main_v23) = Out m c :=
  (Pipeline.withArrays_arr (cfgs 0).spec (by decide) c (V0 m c) (fun w => (dats m 0 c).arrAt w (cfgs 0).N) 3).trans (final m c)

/-- The product of row `r` with column `n` of the regrouped weights is that with the column of `w_in` it comes from. -/
theorem out_col (r : Fin 128) (n : Fin 6144) : out m c r ⟨n.val, by omega⟩ = dot (nrow m c r) (fun k => Ww m c (ix3 (0 : Fin 1) k (abCol n))) := by
  unfold out
  exact congrArg (dot _) (funext fun k => v21_apply m c k n)

variable (ρ : Dev nD → PrngReg)

/-- THE KERNEL'S RUN: its three results, and its arguments unchanged. -/
theorem run : θ_run defs (onTc (τ := τ) (main (F := Ideal))) ⟨m, fun _ => 0, ρ⟩ (fun r => ∀ c : Dev nD,
    (∀ (z : Fin 1) (b : Fin 128) (t : Fin 1) (h : Fin 8) (d : Fin 128), (r.2.mem ((c.tc : Thread nD τ).loc main_v26) : S1x128x1x8x128.Idx → EReal) (ix5 z b t h d) =
      dot (normed (fun j => Xx m c (ix3 b t j)) (fun j => Xn m c (ix2 (0 : Fin 2) j))) (fun k => Ww m c (ix3 (0 : Fin 1) k (abCol ⟨4096 + (128 * h.val + d.val), by omega⟩))))
    ∧ (∀ (z : Fin 1) (b : Fin 128) (t : Fin 1) (h : Fin 8) (d : Fin 128), (r.2.mem ((c.tc : Thread nD τ).loc main_v27) : S1x128x1x8x128.Idx → EReal) (ix5 z b t h d) =
      dot (normed (fun j => Xx m c (ix3 b t j)) (fun j => Xn m c (ix2 (0 : Fin 2) j))) (fun k => Ww m c (ix3 (0 : Fin 1) k (abCol ⟨5120 + (128 * h.val + d.val), by omega⟩))))
    ∧ (∀ (i : Fin 128) (n : Fin 6144), (r.2.mem ((c.tc : Thread nD τ).loc main_v28) : S128x6144.Idx → EReal) (ix2 i n) = dot (nrow m c i) (fun k => Ww m c (ix3 (0 : Fin 1) k (abCol n))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (θ_run_and (run_main (F := Ideal) m ρ) (unchanged (F := Ideal) m ρ))
  obtain ⟨h1, h2⟩ := h
  refine ⟨fun z b t hh d => ?_, fun z b t hh d => ?_, fun i n => ?_, h2 c⟩
  · rw [(h1 c).2 main_v26 (Pipeline.mem_restRefs_of main_v26 (by decide) (by decide))]
    have hr : 1 * b.val + t.val < 128 := by omega
    have e1 : (⟨(1 * b.val + t.val) / 1, by omega⟩ : Fin 128) = b := Fin.ext (by dsimp only; omega)
    have e2 : (⟨(1 * b.val + t.val) % 1, by omega⟩ : Fin 1) = t := Fin.ext (by dsimp only; omega)
    refine (tail26 _ z b t hh d ⟨1 * b.val + t.val, hr⟩ rfl).trans ?_
    rw [exit23]
    refine (out_col m c ⟨1 * b.val + t.val, hr⟩ ⟨4096 + (128 * hh.val + d.val), by omega⟩).trans ?_
    unfold nrow
    obtain rfl : t = 0 := Subsingleton.elim _ _
    have e3 : (⟨1 * b.val + (0 : Fin 1).val, hr⟩ : Fin 128) = b := Fin.ext (by simp)
    simp only [e3]
  · rw [(h1 c).2 main_v27 (Pipeline.mem_restRefs_of main_v27 (by decide) (by decide))]
    have hr : 1 * b.val + t.val < 128 := by omega
    have e1 : (⟨(1 * b.val + t.val) / 1, by omega⟩ : Fin 128) = b := Fin.ext (by dsimp only; omega)
    have e2 : (⟨(1 * b.val + t.val) % 1, by omega⟩ : Fin 1) = t := Fin.ext (by dsimp only; omega)
    refine (tail27 _ z b t hh d ⟨1 * b.val + t.val, hr⟩ rfl).trans ?_
    rw [exit23]
    refine (out_col m c ⟨1 * b.val + t.val, hr⟩ ⟨5120 + (128 * hh.val + d.val), by omega⟩).trans ?_
    unfold nrow
    obtain rfl : t = 0 := Subsingleton.elim _ _
    have e3 : (⟨1 * b.val + (0 : Fin 1).val, hr⟩ : Fin 128) = b := Fin.ext (by simp)
    simp only [e3]
  · rw [(h1 c).2 main_v28 (Pipeline.mem_restRefs_of main_v28 (by decide) (by decide))]
    refine (tail28 _ i n).trans ?_
    rw [exit23]
    exact out_col m c i n

end Cert.Kernel6Ideal.Proj
end
-- ==== Proof.Latent.lean ====
module
public import Idealize.ShloMosaic.PureOps.Ideal
public import Idealize.ShloMosaic.Lib.Pointwise
@[expose] public section
noncomputable section
open Idealize.ShloMosaic
namespace Cert.Latent

/-! # The latent keys of one row: their normalisation, and the turning of the key with position -/

/-- One over the root of the mean square (and a small constant) of 512 numbers. -/
def invRms (x : Fin 512 → EReal) : EReal :=
  Ideal.rsqrt (Ideal.div (∑ j, x j * x j) (Ideal.ofBits .f32 0x44000000#32) + Ideal.ofBits .f32 0x358637BD#32)

/-- The normalised latent key, times its gain. -/
def latent (x g : Fin 512 → EReal) (k : Fin 512) : EReal := x k * invRms x * g k

/-- A latent key times a column. -/
def dot (x w : Fin 512 → EReal) : EReal := ∑ k, x k * w k

/-- The angle of the `j`-th pair at position `p`: the position times the `j`-th power of a falling geometric sequence. -/
def angle (p : BitVec 32) (j : Fin 32) : EReal :=
  FloatOps.sitofp (F := Ideal) .f32 p *
    Ideal.pow (Ideal.ofBits .f32 0x461C4000#32) (Ideal.div (-FloatOps.sitofp (F := Ideal) .f32 (BitVec.ofNat 32 j.val)) (Ideal.ofBits .f32 0x42000000#32))

/-- A key of 64 numbers, its halves turned by the angles `a`. -/
def rope (x : Fin 64 → EReal) (a : Fin 32 → EReal) (d : Fin 64) : EReal :=
  if h : d.val < 32 then x d * Ideal.cos (a ⟨d.val, h⟩) - x ⟨32 + d.val, by omega⟩ * Ideal.sin (a ⟨d.val, h⟩)
  else x ⟨d.val - 32, by omega⟩ * Ideal.sin (a ⟨d.val - 32, by omega⟩) + x ⟨32 + (d.val - 32), by omega⟩ * Ideal.cos (a ⟨d.val - 32, by omega⟩)

end Cert.Latent
end
-- ==== Proof.UpPrompt.lean ====
module
public import proofs.«01_k».proof.Proof.Gen.Kernel7Ideal.Frame
public import proofs.«01_k».proof.Proof.Gen.Reference7Ideal.Read
public import Idealize.ShloMosaic.Lib.Pipeline.ValueKit
public import Idealize.ShloMosaic.Lib.StableHlo.ReadAt
public import proofs.«01_k».proof.Proof.Latent
@[expose] public section
set_option maxRecDepth 16384
noncomputable section
open Idealize.ShloMosaic Idealize.ShloMosaic.TcCoe Idealize.ShloMosaic.Tactic Idealize.SL.Sem

/-! # The latent keys and what is made of them, at the prompt's shape -/

namespace Cert.Reference7Ideal.Up
open Cert.Reference7Ideal Cert.Reference7Ideal.Read Cert.Latent

/-! ## The reference, read at an index -/

variable (x0 : (⟨S2x4096x1088, .f32⟩ : BufTy).Contents (Elt Ideal)) (x2 : (⟨S1x512, .f32⟩ : BufTy).Contents (Elt Ideal)) (x4 : (⟨S1x512x4096, .f32⟩ : BufTy).Contents (Elt Ideal))

theorem v15_apply (b : Fin 2) (t : Fin 4096) (k : Fin 512) :
    val_main_v15 (F := Ideal) x0 x2 (ix3 b t k) = latent (fun j => x0 (ix3 b t (⟨512 + j.val, by omega⟩ : Fin 1088))) (fun j => x2 (ix2 (0 : Fin 1) j)) k := by
  pointwise [val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1]
  rfl

theorem v54_apply (z : Fin 1) (b : Fin 2) (t : Fin 4096) (k : Fin 512) :
    val_main_v54 (F := Ideal) x0 x2 (ix4 z b t k) = latent (fun j => x0 (ix3 b t (⟨512 + j.val, by omega⟩ : Fin 1088))) (fun j => x2 (ix2 (0 : Fin 1) j)) k := by
  rw [← v15_apply]
  pointwise [val_main_v54]

theorem v29_apply (t : Fin 4096) (j : Fin 32) : val_main_v29 (F := Ideal) (ix2 t j) = angle (BitVec.ofNat 32 t.val) j := by
  pointwise [val_main_v29, val_main_v28, val_main_v27, val_main_v26, val_main_v25, val_main_v24, val_main_v23, val_main_v22, val_main_v21, val_main_v20, val_main_v19, val_main_v18, val_main_v0, val_main_cst_2, val_main_cst_3]
  rfl

theorem v55_apply (z : Fin 1) (b : Fin 2) (t : Fin 4096) (d : Fin 64) :
    val_main_v55 (F := Ideal) x0 (ix4 z b t d) = rope (fun j => x0 (ix3 b t (⟨1024 + j.val, by omega⟩ : Fin 1088))) (angle (BitVec.ofNat 32 t.val)) d := by
  pointwise [val_main_v55, val_main_v47, val_main_v46]
  unfold rope
  by_cases h : d.val < 32
  · rw [dif_pos h, dif_pos h]
    pointwise [val_main_v40, val_main_v39, val_main_v38, val_main_v37, val_main_v36, val_main_v35, val_main_v34, val_main_v33, val_main_v32, val_main_v31, val_main_v30, val_main_v17, val_main_v16]
    simp only [v29_apply]
  · rw [dif_neg h, dif_neg h]
    pointwise [val_main_v45, val_main_v44, val_main_v43, val_main_v42, val_main_v41, val_main_v36, val_main_v35, val_main_v34, val_main_v33, val_main_v32, val_main_v31, val_main_v30, val_main_v17, val_main_v16]
    simp only [v29_apply]

theorem v51_apply (b : Fin 2) (t : Fin 4096) (h : Fin 16) (d : Fin 128) :
    val_main_v51 (F := Ideal) x0 x2 x4 (ix4 b t h d) =
      dot (latent (fun j => x0 (ix3 b t (⟨512 + j.val, by omega⟩ : Fin 1088))) (fun j => x2 (ix2 (0 : Fin 1) j))) (fun k => x4 (ix3 (0 : Fin 1) k (⟨256 * h.val + d.val, by omega⟩ : Fin 4096))) := by
  pointwise [val_main_v51, val_main_v50, val_main_v49, val_main_v48]
  simp only [v15_apply, Nat.mul_comm _ 256]
  rfl

theorem v53_apply (b : Fin 2) (t : Fin 4096) (h : Fin 16) (d : Fin 128) :
    val_main_v53 (F := Ideal) x0 x2 x4 (ix4 b t h d) =
      dot (latent (fun j => x0 (ix3 b t (⟨512 + j.val, by omega⟩ : Fin 1088))) (fun j => x2 (ix2 (0 : Fin 1) j))) (fun k => x4 (ix3 (0 : Fin 1) k (⟨256 * h.val + (128 + d.val), by omega⟩ : Fin 4096))) := by
  pointwise [val_main_v53, val_main_v52, val_main_v49, val_main_v48]
  simp only [v15_apply, Nat.mul_comm _ 256]
  rfl

theorem v57_apply (b : Fin 2) (t : Fin 4096) (h : Fin 16) (d : Fin 128) (r : Fin 8192) (hr : r.val = 4096 * b.val + t.val) (n : Fin 2048) (hn : n.val = 128 * h.val + d.val) :
    val_main_v57 (F := Ideal) x0 x2 x4 (ix2 r n) = val_main_v51 (F := Ideal) x0 x2 x4 (ix4 b t h d) := by
  pointwise [val_main_v57, val_main_v56]
  refine congrArg (val_main_v51 (F := Ideal) x0 x2 x4) ?_
  congr 1 <;> exact Fin.ext (by first | omega | (dsimp only; omega))

theorem v60_apply (b : Fin 2) (t : Fin 4096) (h : Fin 16) (d : Fin 128) (r : Fin 8192) (hr : r.val = 4096 * b.val + t.val) (n : Fin 2048) (hn : n.val = 128 * h.val + d.val) :
    val_main_v60 (F := Ideal) x0 x2 x4 (ix2 n r) = val_main_v53 (F := Ideal) x0 x2 x4 (ix4 b t h d) := by
  pointwise [val_main_v60, val_main_v59, val_main_v58]
  refine congrArg (val_main_v53 (F := Ideal) x0 x2 x4) ?_
  congr 1 <;> exact Fin.ext (by first | omega | (dsimp only; omega))

end Cert.Reference7Ideal.Up

namespace Cert.Kernel7Ideal.Up
open Cert.Kernel7Ideal Cert.Kernel7Ideal.Gen Cert.Latent
/-! ## The arrays the call is given -/

variable (m : (ℓ : Loc nD τ sig) → Buf (Elt Ideal) ℓ) (c : Dev nD)

/-- The first 1088 columns of the projection, the latent keys' gain and the weights up from them. -/
abbrev Xp : S2x4096x1088.Idx → EReal := m ((c.tc : Thread nD τ).loc main_arg0)
abbrev Xg : S1x512.Idx → EReal := m ((c.tc : Thread nD τ).loc main_arg2)
abbrev Ww : S1x512x4096.Idx → EReal := m ((c.tc : Thread nD τ).loc main_arg4)

theorem proj_congr (W : S2x4096x1088.Idx → EReal) (b : Fin 2) (t : Fin 4096) (i j : Fin 1088) (h : i.val = j.val) : W (ix3 b t i) = W (ix3 b t j) := by
  rw [Fin.ext h]

theorem v14_congr (r : Fin 8192) (i j : Fin 1280) (h : i.val = j.val) : V m c main_v14 (ix2 r i) = V m c main_v14 (ix2 r j) := by
  rw [Fin.ext h]

theorem v14_ckv (r : Fin 8192) (k : Fin 512) : V m c main_v14 (ix2 r (⟨512 + k.val, by omega⟩ : Fin 1280)) =
    Xp m c (ix3 (⟨r.val / 4096, by omega⟩ : Fin 2) (⟨r.val % 4096, by omega⟩ : Fin 4096) (⟨512 + k.val, by omega⟩ : Fin 1088)) := by
  unfold V
  after_reads_at
  rw [dif_pos (by omega)]
  after_reads_at

theorem v14_kpe (r : Fin 8192) (d : Fin 64) : V m c main_v14 (ix2 r (⟨1024 + d.val, by omega⟩ : Fin 1280)) =
    Xp m c (ix3 (⟨r.val / 4096, by omega⟩ : Fin 2) (⟨r.val % 4096, by omega⟩ : Fin 4096) (⟨1024 + d.val, by omega⟩ : Fin 1088)) := by
  unfold V
  after_reads_at
  after_reads_at

theorem v14_rot_lo (r : Fin 8192) (d : Fin 32) : V m c main_v14 (ix2 r (⟨1152 + d.val, by omega⟩ : Fin 1280)) =
    -Xp m c (ix3 (⟨r.val / 4096, by omega⟩ : Fin 2) (⟨r.val % 4096, by omega⟩ : Fin 4096) (⟨1056 + d.val, by omega⟩ : Fin 1088)) := by
  unfold V
  after_reads_at
  rw [dif_neg (by omega), dif_neg (by omega), dif_neg (by omega), dif_pos (by omega)]
  after_reads_at
  rw [dif_pos (by omega)]
  after_reads_at
  exact congrArg (-·) (proj_congr (Xp m c) _ _ _ _ (by dsimp only; omega))

theorem v14_rot_hi (r : Fin 8192) (d : Fin 32) : V m c main_v14 (ix2 r (⟨1184 + d.val, by omega⟩ : Fin 1280)) =
    Xp m c (ix3 (⟨r.val / 4096, by omega⟩ : Fin 2) (⟨r.val % 4096, by omega⟩ : Fin 4096) (⟨1024 + d.val, by omega⟩ : Fin 1088)) := by
  unfold V
  after_reads_at
  rw [dif_neg (by omega), dif_neg (by omega), dif_neg (by omega), dif_pos (by omega)]
  after_reads_at
  rw [dif_neg (by omega)]
  after_reads_at
  exact proj_congr (Xp m c) _ _ _ _ (by dsimp only; omega)

theorem up_congr (W : S1x512x4096.Idx → EReal) (k : Fin 512) (i j : Fin 4096) (h : i.val = j.val) : W (ix3 (0 : Fin 1) k i) = W (ix3 (0 : Fin 1) k j) := by
  rw [Fin.ext h]

theorem v72_apply (k : Fin 512) : V m c main_v72 (ix2 (0 : Fin 1) k) = Xg m c (ix2 (0 : Fin 1) k) := by
  unfold V
  after_reads_at

theorem v65_apply (r : Fin 8192) (j : Fin 128) : V m c main_v65 (ix2 r j) = Ideal.cos (angle (BitVec.ofNat 32 (r.val % 4096)) (⟨j.val % 32, by omega⟩ : Fin 32)) := by
  unfold V
  after_reads_at
  rfl

theorem v68_apply (r : Fin 8192) (j : Fin 128) : V m c main_v68 (ix2 r j) = Ideal.sin (angle (BitVec.ofNat 32 (r.val % 4096)) (⟨j.val % 32, by omega⟩ : Fin 32)) := by
  unfold V
  after_reads_at
  rfl

theorem v38_apply (k : Fin 512) (h : Fin 16) (d : Fin 128) : V m c main_v38 (ix2 k (⟨128 * h.val + d.val, by omega⟩ : Fin 2048)) = Ww m c (ix3 (0 : Fin 1) k (⟨256 * h.val + d.val, by omega⟩ : Fin 4096)) := by
  unfold V
  after_reads_at
  exact up_congr (Ww m c) k _ _ (by dsimp only; omega)

theorem v41_apply (k : Fin 512) (h : Fin 16) (d : Fin 128) : V m c main_v41 (ix2 (⟨128 * h.val + d.val, by omega⟩ : Fin 2048) k) = Ww m c (ix3 (0 : Fin 1) k (⟨256 * h.val + (128 + d.val), by omega⟩ : Fin 4096)) := by
  unfold V
  after_reads_at
  exact up_congr (Ww m c) k _ _ (by dsimp only; omega)

/-! ## What the body leaves at a grid point -/

section Bodies
variable {F : FTy → Type} [FloatOps F]
variable
  (c : Dev nD) (i : grid0.Coords)
  (arg1 : Memref sig .tc .vmem S256x1280 .f32) (harg1 : arg1.IsWhole) (arg2 : Memref sig .tc .vmem S1x512 .f32) (harg2 : arg2.IsWhole) (arg3 : Memref sig .tc .vmem S1x512 .f32) (harg3 : arg3.IsWhole)
  (arg4 : Memref sig .tc .vmem S512x4096 .bf16) (harg4 : arg4.IsWhole) (arg5 : Memref sig .tc .vmem S512x2048 .bf16) (harg5 : arg5.IsWhole) (arg6 : Memref sig .tc .vmem S2048x512 .bf16) (harg6 : arg6.IsWhole)
  (arg7 : Memref sig .tc .vmem S256x128 .f32) (harg7 : arg7.IsWhole) (arg8 : Memref sig .tc .vmem S256x128 .f32) (harg8 : arg8.IsWhole) (arg9 : Memref sig .tc .vmem S256x3072 .bf16) (harg9 : arg9.IsWhole)
  (arg10 : Memref sig .tc .vmem S256x512 .f32) (harg10 : arg10.IsWhole) (arg11 : Memref sig .tc .vmem S256x128 .f32) (harg11 : arg11.IsWhole) (arg12 : Memref sig .tc .vmem S256x2048 .bf16) (harg12 : arg12.IsWhole)
  (arg13 : Memref sig .tc .vmem S2048x256 .bf16) (harg13 : arg13.IsWhole)
  (x0 : Vec F S256x1280 .f32) (x1 : Vec F S1x512 .f32) (x2 : Vec F S1x512 .f32) (x3 : Vec F S512x4096 .bf16) (x4 : Vec F S512x2048 .bf16) (x5 : Vec F S2048x512 .bf16) (x6 : Vec F S256x128 .f32) (x7 : Vec F S256x128 .f32)

/-- The latent keys' columns of a block. -/
def ckvOf : Vec F S256x512 .f32 := View.ld x0 (Rect.unit (s := S256x1280) ![0, 512] S256x512.size inb_S256x1280_S256x512_0_512)
/-- The positioned keys' columns, twice over. -/
def kpeOf : Vec F S256x128 .f32 := View.ld x0 (Rect.unit (s := S256x1280) ![0, 1024] S256x128.size inb_S256x1280_S256x128_0_1024)
/-- The same, their halves exchanged and the first negated. -/
def rotOf : Vec F S256x128 .f32 := View.ld x0 (Rect.unit (s := S256x1280) ![0, 1152] S256x128.size inb_S256x1280_S256x128_0_1152)

/-- The normalised latent keys. -/
theorem out0_A_9_eq : out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay5 (ckvOf x0) x2 := by
  unfold out0_A_9
  rw [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.canon_cons_unit_zero (by decide)]
  simp (disch := decide) only [View.ld_unit_lit]
  rfl

/-- The turned keys. -/
theorem out0_A_10_eq : out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay6 (k0_pay2 x6) (k0_pay3 x7) (kpeOf x0) (rotOf x0) := by
  unfold out0_A_10
  rw [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.canon_cons_unit_zero (by decide)]
  simp (disch := decide) only [View.ld_unit_lit]
  rfl

/-- The keys without position. -/
theorem out0_A_11_eq : out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay20 (k0_pay5 (ckvOf x0) x2) x4 := by
  unfold out0_A_11
  rw [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.canon_cons_unit_zero (by decide)]
  simp (disch := decide) only [View.ld_unit_lit]
  rfl

/-- The values, transposed. -/
theorem out0_A_12_eq : out0_A_12 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 = k0_pay1 (k0_pay19 (k0_pay5 (ckvOf x0) x2)) x5 := by
  unfold out0_A_12
  rw [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread]
  rw [View.canon_cons_unit_zero (by decide)]
  simp (disch := decide) only [View.ld_unit_lit]
  rfl

end Bodies

theorem ckvOf_apply (x0 : Vec Ideal S256x1280 .f32) (q : Fin 256) (k : Fin 512) : ckvOf x0 (ix2 q k) = x0 (ix2 q (⟨512 + k.val, by omega⟩ : Fin 1280)) := by
  unfold ckvOf
  refine View.ld_unit_apply_of x0 _ _ _ (ix2 q k) _ (fun a => ?_)
  match a with
  | ⟨0, _⟩ => exact (Nat.zero_add _).symm
  | ⟨1, _⟩ => rfl

theorem kpeOf_apply (x0 : Vec Ideal S256x1280 .f32) (q : Fin 256) (k : Fin 128) : kpeOf x0 (ix2 q k) = x0 (ix2 q (⟨1024 + k.val, by omega⟩ : Fin 1280)) := by
  unfold kpeOf
  refine View.ld_unit_apply_of x0 _ _ _ (ix2 q k) _ (fun a => ?_)
  match a with
  | ⟨0, _⟩ => exact (Nat.zero_add _).symm
  | ⟨1, _⟩ => rfl

theorem rotOf_apply (x0 : Vec Ideal S256x1280 .f32) (q : Fin 256) (k : Fin 128) : rotOf x0 (ix2 q k) = x0 (ix2 q (⟨1152 + k.val, by omega⟩ : Fin 1280)) := by
  unfold rotOf
  refine View.ld_unit_apply_of x0 _ _ _ (ix2 q k) _ (fun a => ?_)
  match a with
  | ⟨0, _⟩ => exact (Nat.zero_add _).symm
  | ⟨1, _⟩ => rfl

theorem pay5_apply (v : Vec Ideal S256x512 .f32) (g : Vec Ideal S1x512 .f32) (q : Fin 256) (k : Fin 512) :
    k0_pay5 v g (ix2 q k) = latent (fun j => v (ix2 q j)) (fun j => g (ix2 (0 : Fin 1) j)) k := by
  pointwise [k0_pay5]
  rfl

theorem pay6_apply (a b : Vec Ideal S256x128 .f32) (x y : Vec Ideal S256x128 .f32) (q : Fin 256) (k : Fin 128) :
    k0_pay6 (k0_pay2 a) (k0_pay3 b) x y (ix2 q k) = x (ix2 q k) * a (ix2 q k) + y (ix2 q k) * b (ix2 q k) := by
  pointwise [k0_pay6, k0_pay2, k0_pay3]

theorem pay20_apply (v : Vec Ideal S256x512 .f32) (w : Vec Ideal S512x2048 .bf16) (q : Fin 256) (n : Fin 2048) :
    k0_pay20 v w (ix2 q n) = dot (fun k => v (ix2 q k)) (fun k => w (ix2 k n)) := by
  pointwise [k0_pay20, k0_pay19]
  rfl

theorem pay1_apply (v : Vec Ideal S256x512 .f32) (w : Vec Ideal S2048x512 .bf16) (q : Fin 256) (n : Fin 2048) :
    k0_pay1 (k0_pay19 v) w (ix2 n q) = dot (fun k => v (ix2 q k)) (fun k => w (ix2 n k)) := by
  pointwise [k0_pay1, k0_pay19]
  exact Finset.sum_congr rfl fun k _ => mul_comm _ _

/-! ## The blocks a grid point holds -/

theorem idx0 : ∀ t : Fin cfg0.N, win0_0.index t (0 : Fin 2) = t.val ∧ win0_0.index t (1 : Fin 2) = 0 := by decide +kernel
theorem idx6 : ∀ t : Fin cfg0.N, win0_6.index t (0 : Fin 2) = t.val ∧ win0_6.index t (1 : Fin 2) = 0 := by decide +kernel
theorem idx7 : ∀ t : Fin cfg0.N, win0_7.index t (0 : Fin 2) = t.val ∧ win0_7.index t (1 : Fin 2) = 0 := by decide +kernel
theorem idx9 : ∀ t : Fin cfg0.N, win0_9.index t (0 : Fin 2) = t.val ∧ win0_9.index t (1 : Fin 2) = 0 := by decide +kernel
theorem idx10 : ∀ t : Fin cfg0.N, win0_10.index t (0 : Fin 2) = t.val ∧ win0_10.index t (1 : Fin 2) = 0 := by decide +kernel
theorem idx11 : ∀ t : Fin cfg0.N, win0_11.index t (0 : Fin 2) = t.val ∧ win0_11.index t (1 : Fin 2) = 0 := by decide +kernel
theorem idx2 : ∀ t : Fin cfg0.N, win0_2.index t (0 : Fin 2) = 0 ∧ win0_2.index t (1 : Fin 2) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx12 : ∀ t : Fin cfg0.N, win0_12.index t (0 : Fin 2) = 0 ∧ win0_12.index t (1 : Fin 2) = t.val := by decide +kernel
theorem flush9 : ∀ t : Fin cfg0.N, (cfg0.win 9).flush t = true := by decide +kernel
theorem flush10 : ∀ t : Fin cfg0.N, (cfg0.win 10).flush t = true := by decide +kernel
theorem flush11 : ∀ t : Fin cfg0.N, (cfg0.win 11).flush t = true := by decide +kernel
theorem flush12 : ∀ t : Fin cfg0.N, (cfg0.win 12).flush t = true := by decide +kernel

theorem ltN (t : Fin cfg0.N) : t.val < 32 := lt_of_lt_of_eq t.isLt (show cfg0.N = 32 from N_0)

theorem blk0 (t : Fin cfg0.N) (q : Fin 256) (k : Fin 1280) (r : Fin 8192) (hr : r.val = 256 * t.val + q.val) : iblk m c 0 t (ix2 q k) = V m c main_v14 (ix2 r k) := by
  show V m c main_v14 _ = V m c main_v14 _
  congr 1
  funext a
  apply Fin.ext
  match a with
  | ⟨0, _⟩ => show win0_0.index t (0 : Fin 2) * 256 + 1 * q.val = r.val
              rw [(idx0 t).1]; omega
  | ⟨1, _⟩ => show win0_0.index t (1 : Fin 2) * 1280 + 1 * k.val = k.val
              rw [(idx0 t).2]; omega

theorem blk2 (t : Fin cfg0.N) (q : Fin 1) (k : Fin 512) : iblk m c 2 t (ix2 q k) = V m c main_v72 (ix2 q k) := by
  show V m c main_v72 _ = V m c main_v72 _
  congr 1
  funext a
  apply Fin.ext
  match a with
  | ⟨0, _⟩ => show win0_2.index t (0 : Fin 2) * 1 + 1 * q.val = q.val
              rw [(idx2 t).1]; omega
  | ⟨1, _⟩ => show win0_2.index t (1 : Fin 2) * 512 + 1 * k.val = k.val
              rw [(idx2 t).2]; omega

theorem blk4 (t : Fin cfg0.N) (q : Fin 512) (k : Fin 2048) : iblk m c 4 t (ix2 q k) = V m c main_v38 (ix2 q k) := by
  show V m c main_v38 _ = V m c main_v38 _
  congr 1
  funext a
  apply Fin.ext
  match a with
  | ⟨0, _⟩ => show win0_4.index t (0 : Fin 2) * 512 + 1 * q.val = q.val
              rw [(idx4 t).1]; omega
  | ⟨1, _⟩ => show win0_4.index t (1 : Fin 2) * 2048 + 1 * k.val = k.val
              rw [(idx4 t).2]; omega

theorem blk5 (t : Fin cfg0.N) (q : Fin 2048) (k : Fin 512) : iblk m c 5 t (ix2 q k) = V m c main_v41 (ix2 q k) := by
  show V m c main_v41 _ = V m c main_v41 _
  congr 1
  funext a
  apply Fin.ext
  match a with
  | ⟨0, _⟩ => show win0_5.index t (0 : Fin 2) * 2048 + 1 * q.val = q.val
              rw [(idx5 t).1]; omega
  | ⟨1, _⟩ => show win0_5.index t (1 : Fin 2) * 512 + 1 * k.val = k.val
              rw [(idx5 t).2]; omega

theorem blk6 (t : Fin cfg0.N) (q : Fin 256) (k : Fin 128) (r : Fin 8192) (hr : r.val = 256 * t.val + q.val) : iblk m c 6 t (ix2 q k) = V m c main_v65 (ix2 r k) := by
  show V m c main_v65 _ = V m c main_v65 _
  congr 1
  funext a
  apply Fin.ext
  match a with
  | ⟨0, _⟩ => show win0_6.index t (0 : Fin 2) * 256 + 1 * q.val = r.val
              rw [(idx6 t).1]; omega
  | ⟨1, _⟩ => show win0_6.index t (1 : Fin 2) * 128 + 1 * k.val = k.val
              rw [(idx6 t).2]; omega

theorem blk7 (t : Fin cfg0.N) (q : Fin 256) (k : Fin 128) (r : Fin 8192) (hr : r.val = 256 * t.val + q.val) : iblk m c 7 t (ix2 q k) = V m c main_v68 (ix2 r k) := by
  show V m c main_v68 _ = V m c main_v68 _
  congr 1
  funext a
  apply Fin.ext
  match a with
  | ⟨0, _⟩ => show win0_7.index t (0 : Fin 2) * 256 + 1 * q.val = r.val
              rw [(idx7 t).1]; omega
  | ⟨1, _⟩ => show win0_7.index t (1 : Fin 2) * 128 + 1 * k.val = k.val
              rw [(idx7 t).2]; omega

/-! ## The arrays after the run -/

/-- Row `r`'s latent key, normalised. -/
def lat (r : Fin 8192) : Fin 512 → EReal := latent (fun j => V m c main_v14 (ix2 r (⟨512 + j.val, by omega⟩ : Fin 1280))) (fun j => V m c main_v72 (ix2 (0 : Fin 1) j))

/-- The operand and the two tables, as functions. -/
abbrev cols : S8192x1280.Idx → EReal := V m c main_v14
abbrev cosT : S8192x128.Idx → EReal := V m c main_v65
abbrev sinT : S8192x128.Idx → EReal := V m c main_v68

/-- Row `r`'s turned key, twice over. -/
def turned (r : Fin 8192) (k : Fin 128) : EReal :=
  cols m c (ix2 r (⟨1024 + k.val, by omega⟩ : Fin 1280)) * cosT m c (ix2 r k) + cols m c (ix2 r (⟨1152 + k.val, by omega⟩ : Fin 1280)) * sinT m c (ix2 r k)

def Out9 : S8192x512.Idx → EReal := fun i => lat m c (i 0) (i 1)
def Out10 : S8192x128.Idx → EReal := fun i => turned m c (i 0) (i 1)
def Out11 : S8192x2048.Idx → EReal := fun i => dot (lat m c (i 0)) (fun k => V m c main_v38 (ix2 k (i 1)))
def Out12 : S2048x8192.Idx → EReal := fun i => dot (lat m c (i 1)) (fun k => V m c main_v41 (ix2 (i 0) k))

theorem lat_at (t : Fin cfg0.N) (q : Fin 256) (r : Fin 8192) (hr : r.val = 256 * t.val + q.val) (k : Fin 512) : k0_pay5 (ckvOf (iblk m c 0 t)) (iblk m c 2 t) (ix2 q k) = lat m c r k := by
  rw [pay5_apply]
  have e0 : ∀ k, iblk m c 0 t (ix2 q k) = _ := fun k => blk0 m c t q k r hr
  have e2 : ∀ k, iblk m c 2 t (ix2 (0 : Fin 1) k) = _ := fun k => blk2 m c t 0 k
  unfold lat
  simp only [ckvOf_apply, e0, e2]

theorem at9 (t : Fin cfg0.N) (q : Fin 256) (r : Fin 8192) (hr : r.val = 256 * t.val + q.val) (k : Fin 512) : (outsAt0 m c t).2.1 (ix2 q k) = lat m c r k := by
  unfold outsAt0
  dsimp only
  rw [out0_A_9_eq]
  exact lat_at m c t q r hr k

theorem at10 (t : Fin cfg0.N) (q : Fin 256) (r : Fin 8192) (hr : r.val = 256 * t.val + q.val) (k : Fin 128) : (outsAt0 m c t).2.2.1 (ix2 q k) = turned m c r k := by
  unfold outsAt0
  dsimp only
  rw [out0_A_10_eq, pay6_apply, kpeOf_apply, rotOf_apply]
  have e0 : ∀ k, iblk m c 0 t (ix2 q k) = _ := fun k => blk0 m c t q k r hr
  have e6 : iblk m c 6 t (ix2 q k) = _ := blk6 m c t q k r hr
  have e7 : iblk m c 7 t (ix2 q k) = _ := blk7 m c t q k r hr
  unfold turned cols cosT sinT
  rw [e0, e0, e6, e7]

theorem at11 (t : Fin cfg0.N) (q : Fin 256) (r : Fin 8192) (hr : r.val = 256 * t.val + q.val) (n : Fin 2048) : (outsAt0 m c t).2.2.2.1 (ix2 q n) = dot (lat m c r) (fun k => V m c main_v38 (ix2 k n)) := by
  unfold outsAt0
  dsimp only
  rw [out0_A_11_eq, pay20_apply]
  have e4 : ∀ k, iblk m c 4 t (ix2 k n) = _ := fun k => blk4 m c t k n
  simp only [lat_at m c t q r hr, e4]

theorem at12 (t : Fin cfg0.N) (q : Fin 256) (r : Fin 8192) (hr : r.val = 256 * t.val + q.val) (n : Fin 2048) : (outsAt0 m c t).2.2.2.2 (ix2 n q) = dot (lat m c r) (fun k => V m c main_v41 (ix2 n k)) := by
  unfold outsAt0
  dsimp only
  rw [out0_A_12_eq, pay1_apply]
  have e5 : ∀ k, iblk m c 5 t (ix2 n k) = _ := fun k => blk5 m c t n k
  simp only [lat_at m c t q r hr, e5]

theorem flushed9 (t : Fin cfg0.N) : (dats m 0 c).flushed 9 t = ((cfg0.win 9).blk t).view.read (Elt Ideal) (Out9 m c) := by
  show (cfg0.win 9).cut (grid0.coords t) ((dats m 0 c).after 9 t) = _
  rw [after0_9]
  funext y
  have hy0 : (y 0).val < 256 := (y 0).isLt
  have hy1 : (y 1).val < 512 := (y 1).isLt
  have hb0 : (((cfg0.win 9).blk t).view.emb y 0).val = win0_9.index t (0 : Fin 2) * 256 + 1 * (y 0).val := rfl
  have hb1 : (((cfg0.win 9).blk t).view.emb y 1).val = win0_9.index t (1 : Fin 2) * 512 + 1 * (y 1).val := rfl
  rw [(idx9 t).1] at hb0
  rw [(idx9 t).2] at hb1
  have hx : (cfg0.win 9).xinj (grid0.coords t) y = ix2 (⟨(y 0).val, hy0⟩ : Fin 256) (⟨(y 1).val, hy1⟩ : Fin 512) := by
    funext a
    match a with
    | ⟨0, _⟩ => rfl
    | ⟨1, _⟩ => rfl
  show (outsAt0 m c t).2.1 ((cfg0.win 9).xinj (grid0.coords t) y) = Out9 m c (((cfg0.win 9).blk t).view.emb y)
  rw [hx]
  unfold Out9
  have e1 : ((cfg0.win 9).blk t).view.emb y 1 = (⟨(y 1).val, hy1⟩ : Fin 512) := Fin.ext (by rw [hb1]; dsimp only; omega)
  rw [e1]
  exact at9 m c t _ _ (by rw [hb0]; dsimp only; omega) _

theorem mem_blk9 (t : Fin cfg0.N) (i : S8192x512.Idx) :
    i ∈ ((cfg0.win 9).blk t).view.set ↔ ∀ a : Fin 2, win0_9.index t a * S256x512.size a ≤ (i a).val ∧ (i a).val < win0_9.index t a * S256x512.size a + S256x512.size a := by
  show i ∈ ((View.whole main_v73_1).slice (win0_9.rect t)).set ↔ _
  rw [View.set_slice_whole, Rect.mem_set_unit]
  exact Iff.rfl

theorem covered9 (i : S8192x512.Idx) : ∃ t : Fin cfg0.N, (cfg0.win 9).flush t = true ∧ i ∈ ((cfg0.win 9).blk t).view.set := by
  have hi0 : (i 0).val < 8192 := (i 0).isLt
  have hi1 : (i 1).val < 512 := (i 1).isLt
  refine ⟨⟨(i 0).val / 256, by rw [show cfg0.N = 32 from N_0]; omega⟩, flush9 _, ?_⟩
  rw [mem_blk9]
  intro a
  match a with
  | ⟨0, _⟩ => show win0_9.index _ (0 : Fin 2) * 256 ≤ (i 0).val ∧ (i 0).val < win0_9.index _ (0 : Fin 2) * 256 + 256
              rw [(idx9 _).1]; dsimp only; omega
  | ⟨1, _⟩ => show win0_9.index _ (1 : Fin 2) * 512 ≤ (i 1).val ∧ (i 1).val < win0_9.index _ (1 : Fin 2) * 512 + 512
              rw [(idx9 _).2]; omega

theorem final9 : (dats m 0 c).arrAt 9 cfg0.N = Out9 m c :=
  (dats m 0 c).arrAt_eq_of_cover 9 _ (fun t _ => flushed9 m c t) (covered9)

theorem flushed10 (t : Fin cfg0.N) : (dats m 0 c).flushed 10 t = ((cfg0.win 10).blk t).view.read (Elt Ideal) (Out10 m c) := by
  show (cfg0.win 10).cut (grid0.coords t) ((dats m 0 c).after 10 t) = _
  rw [after0_10]
  funext y
  have hy0 : (y 0).val < 256 := (y 0).isLt
  have hy1 : (y 1).val < 128 := (y 1).isLt
  have hb0 : (((cfg0.win 10).blk t).view.emb y 0).val = win0_10.index t (0 : Fin 2) * 256 + 1 * (y 0).val := rfl
  have hb1 : (((cfg0.win 10).blk t).view.emb y 1).val = win0_10.index t (1 : Fin 2) * 128 + 1 * (y 1).val := rfl
  rw [(idx10 t).1] at hb0
  rw [(idx10 t).2] at hb1
  have hx : (cfg0.win 10).xinj (grid0.coords t) y = ix2 (⟨(y 0).val, hy0⟩ : Fin 256) (⟨(y 1).val, hy1⟩ : Fin 128) := by
    funext a
    match a with
    | ⟨0, _⟩ => rfl
    | ⟨1, _⟩ => rfl
  show (outsAt0 m c t).2.2.1 ((cfg0.win 10).xinj (grid0.coords t) y) = Out10 m c (((cfg0.win 10).blk t).view.emb y)
  rw [hx]
  unfold Out10
  have e1 : ((cfg0.win 10).blk t).view.emb y 1 = (⟨(y 1).val, hy1⟩ : Fin 128) := Fin.ext (by rw [hb1]; dsimp only; omega)
  rw [e1]
  exact at10 m c t _ _ (by rw [hb0]; dsimp only; omega) _

theorem mem_blk10 (t : Fin cfg0.N) (i : S8192x128.Idx) :
    i ∈ ((cfg0.win 10).blk t).view.set ↔ ∀ a : Fin 2, win0_10.index t a * S256x128.size a ≤ (i a).val ∧ (i a).val < win0_10.index t a * S256x128.size a + S256x128.size a := by
  show i ∈ ((View.whole main_v73_2).slice (win0_10.rect t)).set ↔ _
  rw [View.set_slice_whole, Rect.mem_set_unit]
  exact Iff.rfl

theorem covered10 (i : S8192x128.Idx) : ∃ t : Fin cfg0.N, (cfg0.win 10).flush t = true ∧ i ∈ ((cfg0.win 10).blk t).view.set := by
  have hi0 : (i 0).val < 8192 := (i 0).isLt
  have hi1 : (i 1).val < 128 := (i 1).isLt
  refine ⟨⟨(i 0).val / 256, by rw [show cfg0.N = 32 from N_0]; omega⟩, flush10 _, ?_⟩
  rw [mem_blk10]
  intro a
  match a with
  | ⟨0, _⟩ => show win0_10.index _ (0 : Fin 2) * 256 ≤ (i 0).val ∧ (i 0).val < win0_10.index _ (0 : Fin 2) * 256 + 256
              rw [(idx10 _).1]; dsimp only; omega
  | ⟨1, _⟩ => show win0_10.index _ (1 : Fin 2) * 128 ≤ (i 1).val ∧ (i 1).val < win0_10.index _ (1 : Fin 2) * 128 + 128
              rw [(idx10 _).2]; omega

theorem final10 : (dats m 0 c).arrAt 10 cfg0.N = Out10 m c :=
  (dats m 0 c).arrAt_eq_of_cover 10 _ (fun t _ => flushed10 m c t) (covered10)

theorem flushed11 (t : Fin cfg0.N) : (dats m 0 c).flushed 11 t = ((cfg0.win 11).blk t).view.read (Elt Ideal) (Out11 m c) := by
  show (cfg0.win 11).cut (grid0.coords t) ((dats m 0 c).after 11 t) = _
  rw [after0_11]
  funext y
  have hy0 : (y 0).val < 256 := (y 0).isLt
  have hy1 : (y 1).val < 2048 := (y 1).isLt
  have hb0 : (((cfg0.win 11).blk t).view.emb y 0).val = win0_11.index t (0 : Fin 2) * 256 + 1 * (y 0).val := rfl
  have hb1 : (((cfg0.win 11).blk t).view.emb y 1).val = win0_11.index t (1 : Fin 2) * 2048 + 1 * (y 1).val := rfl
  rw [(idx11 t).1] at hb0
  rw [(idx11 t).2] at hb1
  have hx : (cfg0.win 11).xinj (grid0.coords t) y = ix2 (⟨(y 0).val, hy0⟩ : Fin 256) (⟨(y 1).val, hy1⟩ : Fin 2048) := by
    funext a
    match a with
    | ⟨0, _⟩ => rfl
    | ⟨1, _⟩ => rfl
  show (outsAt0 m c t).2.2.2.1 ((cfg0.win 11).xinj (grid0.coords t) y) = Out11 m c (((cfg0.win 11).blk t).view.emb y)
  rw [hx]
  unfold Out11
  have e1 : ((cfg0.win 11).blk t).view.emb y 1 = (⟨(y 1).val, hy1⟩ : Fin 2048) := Fin.ext (by rw [hb1]; dsimp only; omega)
  rw [e1]
  exact at11 m c t _ _ (by rw [hb0]; dsimp only; omega) _

theorem mem_blk11 (t : Fin cfg0.N) (i : S8192x2048.Idx) :
    i ∈ ((cfg0.win 11).blk t).view.set ↔ ∀ a : Fin 2, win0_11.index t a * S256x2048.size a ≤ (i a).val ∧ (i a).val < win0_11.index t a * S256x2048.size a + S256x2048.size a := by
  show i ∈ ((View.whole main_v73_3).slice (win0_11.rect t)).set ↔ _
  rw [View.set_slice_whole, Rect.mem_set_unit]
  exact Iff.rfl

theorem covered11 (i : S8192x2048.Idx) : ∃ t : Fin cfg0.N, (cfg0.win 11).flush t = true ∧ i ∈ ((cfg0.win 11).blk t).view.set := by
  have hi0 : (i 0).val < 8192 := (i 0).isLt
  have hi1 : (i 1).val < 2048 := (i 1).isLt
  refine ⟨⟨(i 0).val / 256, by rw [show cfg0.N = 32 from N_0]; omega⟩, flush11 _, ?_⟩
  rw [mem_blk11]
  intro a
  match a with
  | ⟨0, _⟩ => show win0_11.index _ (0 : Fin 2) * 256 ≤ (i 0).val ∧ (i 0).val < win0_11.index _ (0 : Fin 2) * 256 + 256
              rw [(idx11 _).1]; dsimp only; omega
  | ⟨1, _⟩ => show win0_11.index _ (1 : Fin 2) * 2048 ≤ (i 1).val ∧ (i 1).val < win0_11.index _ (1 : Fin 2) * 2048 + 2048
              rw [(idx11 _).2]; omega

theorem final11 : (dats m 0 c).arrAt 11 cfg0.N = Out11 m c :=
  (dats m 0 c).arrAt_eq_of_cover 11 _ (fun t _ => flushed11 m c t) (covered11)

theorem flushed12 (t : Fin cfg0.N) : (dats m 0 c).flushed 12 t = ((cfg0.win 12).blk t).view.read (Elt Ideal) (Out12 m c) := by
  show (cfg0.win 12).cut (grid0.coords t) ((dats m 0 c).after 12 t) = _
  rw [after0_12]
  funext y
  have hy0 : (y 0).val < 2048 := (y 0).isLt
  have hy1 : (y 1).val < 256 := (y 1).isLt
  have hb0 : (((cfg0.win 12).blk t).view.emb y 0).val = win0_12.index t (0 : Fin 2) * 2048 + 1 * (y 0).val := rfl
  have hb1 : (((cfg0.win 12).blk t).view.emb y 1).val = win0_12.index t (1 : Fin 2) * 256 + 1 * (y 1).val := rfl
  rw [(idx12 t).1] at hb0
  rw [(idx12 t).2] at hb1
  have hx : (cfg0.win 12).xinj (grid0.coords t) y = ix2 (⟨(y 0).val, hy0⟩ : Fin 2048) (⟨(y 1).val, hy1⟩ : Fin 256) := by
    funext a
    match a with
    | ⟨0, _⟩ => rfl
    | ⟨1, _⟩ => rfl
  show (outsAt0 m c t).2.2.2.2 ((cfg0.win 12).xinj (grid0.coords t) y) = Out12 m c (((cfg0.win 12).blk t).view.emb y)
  rw [hx]
  unfold Out12
  have e0 : ((cfg0.win 12).blk t).view.emb y 0 = (⟨(y 0).val, hy0⟩ : Fin 2048) := Fin.ext (by rw [hb0]; dsimp only; omega)
  rw [e0]
  exact at12 m c t _ _ (by rw [hb1]; dsimp only; omega) _

theorem mem_blk12 (t : Fin cfg0.N) (i : S2048x8192.Idx) :
    i ∈ ((cfg0.win 12).blk t).view.set ↔ ∀ a : Fin 2, win0_12.index t a * S2048x256.size a ≤ (i a).val ∧ (i a).val < win0_12.index t a * S2048x256.size a + S2048x256.size a := by
  show i ∈ ((View.whole main_v73_4).slice (win0_12.rect t)).set ↔ _
  rw [View.set_slice_whole, Rect.mem_set_unit]
  exact Iff.rfl

theorem covered12 (i : S2048x8192.Idx) : ∃ t : Fin cfg0.N, (cfg0.win 12).flush t = true ∧ i ∈ ((cfg0.win 12).blk t).view.set := by
  have hi0 : (i 0).val < 2048 := (i 0).isLt
  have hi1 : (i 1).val < 8192 := (i 1).isLt
  refine ⟨⟨(i 1).val / 256, by rw [show cfg0.N = 32 from N_0]; omega⟩, flush12 _, ?_⟩
  rw [mem_blk12]
  intro a
  match a with
  | ⟨0, _⟩ => show win0_12.index _ (0 : Fin 2) * 2048 ≤ (i 0).val ∧ (i 0).val < win0_12.index _ (0 : Fin 2) * 2048 + 2048
              rw [(idx12 _).1]; omega
  | ⟨1, _⟩ => show win0_12.index _ (1 : Fin 2) * 256 ≤ (i 1).val ∧ (i 1).val < win0_12.index _ (1 : Fin 2) * 256 + 256
              rw [(idx12 _).2]; dsimp only; omega

theorem final12 : (dats m 0 c).arrAt 12 cfg0.N = Out12 m c :=
  (dats m 0 c).arrAt_eq_of_cover 12 _ (fun t _ => flushed12 m c t) (covered12)

/-! ## The arrays, from the arguments -/

theorem lat_eq (r : Fin 8192) : lat m c r = latent (fun j => Xp m c (ix3 (⟨r.val / 4096, by omega⟩ : Fin 2) (⟨r.val % 4096, by omega⟩ : Fin 4096) (⟨512 + j.val, by omega⟩ : Fin 1088))) (fun j => Xg m c (ix2 (0 : Fin 1) j)) := by
  exact congrArg₂ latent (funext fun j => v14_ckv m c r j) (funext fun j => v72_apply m c j)

/-- In its first 64 lanes the turned key is the key, its halves turned. -/
theorem turned_eq (r : Fin 8192) (d : Fin 64) : turned m c r (⟨d.val, by omega⟩ : Fin 128) = rope (fun j => Xp m c (ix3 (⟨r.val / 4096, by omega⟩ : Fin 2) (⟨r.val % 4096, by omega⟩ : Fin 4096) (⟨1024 + j.val, by omega⟩ : Fin 1088))) (angle (BitVec.ofNat 32 (r.val % 4096))) d := by
  have ek := v14_kpe m c r d
  have ec := v65_apply m c r (⟨d.val, by omega⟩ : Fin 128)
  have es := v68_apply m c r (⟨d.val, by omega⟩ : Fin 128)
  unfold turned cols cosT sinT rope
  dsimp only at ec es ⊢
  rw [ek, ec, es]
  by_cases h : d.val < 32
  · have er := v14_rot_lo m c r ⟨d.val, h⟩
    have em : (⟨d.val % 32, by omega⟩ : Fin 32) = ⟨d.val, h⟩ := Fin.ext (by dsimp only; omega)
    dsimp only at er
    rw [dif_pos h, er, em, EReal.neg_mul, ← sub_eq_add_neg]
    refine congrArg₂ (fun a b : EReal => a - b) rfl (congrArg₂ (fun a b : EReal => a * b) ?_ rfl)
    exact proj_congr (Xp m c) _ _ _ _ (by dsimp only; omega)
  · have er := (v14_congr m c r (⟨1152 + d.val, by omega⟩ : Fin 1280) (⟨1184 + (d.val - 32), by omega⟩ : Fin 1280) (by dsimp only; omega)).trans (v14_rot_hi m c r ⟨d.val - 32, by omega⟩)
    have em : (⟨d.val % 32, by omega⟩ : Fin 32) = ⟨d.val - 32, by omega⟩ := Fin.ext (by dsimp only; omega)
    rw [dif_neg h, er, em, add_comm]
    refine congrArg₂ (fun a b : EReal => a + b) rfl (congrArg₂ (fun a b : EReal => a * b) ?_ rfl)
    exact proj_congr (Xp m c) _ _ _ _ (by dsimp only; omega)

/-! ## The host lines after it, and the run -/

theorem tail74 (W : Valuation τ sig (Elt Ideal)) (z : Fin 1) (b : Fin 2) (t : Fin 4096) (k : Fin 512) (r : Fin 8192) (hr : r.val = 4096 * b.val + t.val) :
    (StableHlo.after (hostOps1 (F := Ideal)) W (Proc.devRef .tc main_v74) : S1x2x4096x512.Idx → EReal) (ix4 z b t k) = (W (Proc.devRef .tc main_v73_1) : S8192x512.Idx → EReal) (ix2 r k) := by
  after_reads_at
  refine congrArg (W (Proc.devRef .tc main_v73_1) : S8192x512.Idx → EReal) ?_
  congr 1 <;> exact Fin.ext (by first | omega | (dsimp only; omega))

theorem tail76 (W : Valuation τ sig (Elt Ideal)) (z : Fin 1) (b : Fin 2) (t : Fin 4096) (d : Fin 64) (r : Fin 8192) (hr : r.val = 4096 * b.val + t.val) :
    (StableHlo.after (hostOps1 (F := Ideal)) W (Proc.devRef .tc main_v76) : S1x2x4096x64.Idx → EReal) (ix4 z b t d) = (W (Proc.devRef .tc main_v73_2) : S8192x128.Idx → EReal) (ix2 r (⟨d.val, by omega⟩ : Fin 128)) := by
  after_reads_at
  refine congrArg (W (Proc.devRef .tc main_v73_2) : S8192x128.Idx → EReal) ?_
  congr 1 <;> exact Fin.ext (by first | omega | (dsimp only; omega))

/-- What the region leaves, under the lines after it. -/
theorem exit1 : (Pipeline.withArrays (cfgs 0).spec c (V0 m c) (fun w => (dats m 0 c).arrAt w (cfgs 0).N)) (Proc.devRef .tc main_v73_1) = Out9 m c :=
  (Pipeline.withArrays_arr (cfgs 0).spec (by decide) c (V0 m c) (fun w => (dats m 0 c).arrAt w (cfgs 0).N) 9).trans (final9 m c)

theorem exit2 : (Pipeline.withArrays (cfgs 0).spec c (V0 m c) (fun w => (dats m 0 c).arrAt w (cfgs 0).N)) (Proc.devRef .tc main_v73_2) = Out10 m c :=
  (Pipeline.withArrays_arr (cfgs 0).spec (by decide) c (V0 m c) (fun w => (dats m 0 c).arrAt w (cfgs 0).N) 10).trans (final10 m c)

variable (ρ : Dev nD → PrngReg)

/-- THE KERNEL'S RUN: its results, and its arguments unchanged. -/
theorem run : θ_run defs (onTc (τ := τ) (main (F := Ideal))) ⟨m, fun _ => 0, ρ⟩ (fun r => ∀ c : Dev nD,
    (∀ (z : Fin 1) (b : Fin 2) (t : Fin 4096) (k : Fin 512), (r.2.mem ((c.tc : Thread nD τ).loc main_v74) : S1x2x4096x512.Idx → EReal) (ix4 z b t k) =
      latent (fun j => Xp m c (ix3 b t (⟨512 + j.val, by omega⟩ : Fin 1088))) (fun j => Xg m c (ix2 (0 : Fin 1) j)) k)
    ∧ (∀ (z : Fin 1) (b : Fin 2) (t : Fin 4096) (d : Fin 64), (r.2.mem ((c.tc : Thread nD τ).loc main_v76) : S1x2x4096x64.Idx → EReal) (ix4 z b t d) =
      rope (fun j => Xp m c (ix3 b t (⟨1024 + j.val, by omega⟩ : Fin 1088))) (angle (BitVec.ofNat 32 t.val)) d)
    ∧ (∀ (b : Fin 2) (t : Fin 4096) (h : Fin 16) (d : Fin 128) (i : Fin 8192) (hi : i.val = 4096 * b.val + t.val) (n : Fin 2048) (hn : n.val = 128 * h.val + d.val),
      (r.2.mem ((c.tc : Thread nD τ).loc main_v73_3) : S8192x2048.Idx → EReal) (ix2 i n) =
      dot (latent (fun j => Xp m c (ix3 b t (⟨512 + j.val, by omega⟩ : Fin 1088))) (fun j => Xg m c (ix2 (0 : Fin 1) j))) (fun k => Ww m c (ix3 (0 : Fin 1) k (⟨256 * h.val + d.val, by omega⟩ : Fin 4096))))
    ∧ (∀ (b : Fin 2) (t : Fin 4096) (h : Fin 16) (d : Fin 128) (i : Fin 8192) (hi : i.val = 4096 * b.val + t.val) (n : Fin 2048) (hn : n.val = 128 * h.val + d.val),
      (r.2.mem ((c.tc : Thread nD τ).loc main_v73_4) : S2048x8192.Idx → EReal) (ix2 n i) =
      dot (latent (fun j => Xp m c (ix3 b t (⟨512 + j.val, by omega⟩ : Fin 1088))) (fun j => Xg m c (ix2 (0 : Fin 1) j))) (fun k => Ww m c (ix3 (0 : Fin 1) k (⟨256 * h.val + (128 + d.val), by omega⟩ : Fin 4096))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_main (F := Ideal) m ρ) (unchanged (F := Ideal) m ρ))
  obtain ⟨h1, h2⟩ := h
  refine ⟨fun z b t k => ?_, fun z b t d => ?_, fun b t h d i hi n hn => ?_, fun b t h d i hi n hn => ?_, h2 c⟩
  · rw [(h1 c).2 main_v74 (Pipeline.mem_restRefs_of main_v74 (by decide) (by decide))]
    have hr : 4096 * b.val + t.val < 8192 := by omega
    have e1 : (⟨(4096 * b.val + t.val) / 4096, by omega⟩ : Fin 2) = b := Fin.ext (by dsimp only; omega)
    have e2 : (⟨(4096 * b.val + t.val) % 4096, by omega⟩ : Fin 4096) = t := Fin.ext (by dsimp only; omega)
    have e3 : (4096 * b.val + t.val) % 4096 = t.val := by omega
    refine (tail74 _ z b t k ⟨4096 * b.val + t.val, hr⟩ rfl).trans ?_
    rw [exit1]
    refine (congrFun (lat_eq m c ⟨4096 * b.val + t.val, hr⟩) k).trans ?_
    simp only [e1, e2, e3]
  · rw [(h1 c).2 main_v76 (Pipeline.mem_restRefs_of main_v76 (by decide) (by decide))]
    have hr : 4096 * b.val + t.val < 8192 := by omega
    have e1 : (⟨(4096 * b.val + t.val) / 4096, by omega⟩ : Fin 2) = b := Fin.ext (by dsimp only; omega)
    have e2 : (⟨(4096 * b.val + t.val) % 4096, by omega⟩ : Fin 4096) = t := Fin.ext (by dsimp only; omega)
    have e3 : (4096 * b.val + t.val) % 4096 = t.val := by omega
    refine (tail76 _ z b t d ⟨4096 * b.val + t.val, hr⟩ rfl).trans ?_
    rw [exit2]
    refine (turned_eq m c ⟨4096 * b.val + t.val, hr⟩ d).trans ?_
    simp only [e1, e2, e3]

  · have hr : 4096 * b.val + t.val < 8192 := by omega
    have e1 : (⟨(4096 * b.val + t.val) / 4096, by omega⟩ : Fin 2) = b := Fin.ext (by dsimp only; omega)
    have e2 : (⟨(4096 * b.val + t.val) % 4096, by omega⟩ : Fin 4096) = t := Fin.ext (by dsimp only; omega)
    obtain rfl : i = ⟨4096 * b.val + t.val, hr⟩ := Fin.ext hi
    have hm : 128 * h.val + d.val < 2048 := by omega
    obtain rfl : n = ⟨128 * h.val + d.val, hm⟩ := Fin.ext hn
    refine (congrFun (((h1 c).1 11).trans (final11 m c)) _).trans ?_
    show dot (lat m c ⟨4096 * b.val + t.val, hr⟩) (fun k => V m c main_v38 _) = _
    rw [lat_eq]
    refine congrArg₂ dot ?_ (funext fun k => v38_apply m c k h d)
    simp only [e1, e2]

  · have hr : 4096 * b.val + t.val < 8192 := by omega
    have e1 : (⟨(4096 * b.val + t.val) / 4096, by omega⟩ : Fin 2) = b := Fin.ext (by dsimp only; omega)
    have e2 : (⟨(4096 * b.val + t.val) % 4096, by omega⟩ : Fin 4096) = t := Fin.ext (by dsimp only; omega)
    obtain rfl : i = ⟨4096 * b.val + t.val, hr⟩ := Fin.ext hi
    have hm : 128 * h.val + d.val < 2048 := by omega
    obtain rfl : n = ⟨128 * h.val + d.val, hm⟩ := Fin.ext hn
    refine (congrFun (((h1 c).1 12).trans (final12 m c)) _).trans ?_
    show dot (lat m c ⟨4096 * b.val + t.val, hr⟩) (fun k => V m c main_v41 _) = _
    rw [lat_eq]
    refine congrArg₂ dot ?_ (funext fun k => v41_apply m c k h d)
    simp only [e1, e2]

end Cert.Kernel7Ideal.Up
end
-- ==== Proof.UpSample.lean ====
module
public import proofs.«01_k».proof.Proof.Gen.Kernel8Ideal.Frame
public import proofs.«01_k».proof.Proof.Gen.Reference8Ideal.Read
public import Idealize.ShloMosaic.Lib.Pipeline.ValueKit
public import Idealize.ShloMosaic.Lib.StableHlo.ReadAt
public import proofs.«01_k».proof.Proof.Latent
@[expose] public section
set_option maxRecDepth 16384
noncomputable section
open Idealize.ShloMosaic Idealize.ShloMosaic.TcCoe Idealize.ShloMosaic.Tactic Idealize.SL.Sem

/-! # The latent keys and what is made of them, at the sample's shape -/

namespace Cert.Reference8Ideal.Up
open Cert.Reference8Ideal Cert.Reference8Ideal.Read Cert.Latent

/-! ## The reference, read at an index -/

variable (x0 : (⟨S128x1x1088, .f32⟩ : BufTy).Contents (Elt Ideal)) (x2 : (⟨S1x512, .f32⟩ : BufTy).Contents (Elt Ideal))

theorem v49_apply (z : Fin 1) (b : Fin 128) (t : Fin 1) (k : Fin 512) :
    val_main_v49 (F := Ideal) x0 x2 (ix4 z b t k) = latent (fun j => x0 (ix3 b t (⟨512 + j.val, by omega⟩ : Fin 1088))) (fun j => x2 (ix2 (0 : Fin 1) j)) k := by
  obtain rfl : t = 0 := Subsingleton.elim _ _
  pointwise [val_main_v49, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

theorem v30_apply (t : Fin 1) (j : Fin 32) : val_main_v30 (F := Ideal) (ix2 t j) = angle (8192#32) j := by
  obtain rfl : t = 0 := Subsingleton.elim _ _
  pointwise [val_main_v30, val_main_v29, val_main_v28, val_main_v27, val_main_v26, val_main_v25, val_main_v24, val_main_v23, val_main_v22, val_main_v21, val_main_v20, val_main_v2, val_main_v1, val_main_v0, val_main_c, val_main_cst_2, val_main_cst_3]
  rfl

theorem v50_apply (z : Fin 1) (b : Fin 128) (t : Fin 1) (d : Fin 64) :
    val_main_v50 (F := Ideal) x0 (ix4 z b t d) = rope (fun j => x0 (ix3 b t (⟨1024 + j.val, by omega⟩ : Fin 1088))) (angle (8192#32)) d := by
  obtain rfl : t = 0 := Subsingleton.elim _ _
  pointwise [val_main_v50, val_main_v48, val_main_v47]
  unfold rope
  by_cases h : d.val < 32
  · rw [dif_pos h, dif_pos h]
    pointwise [val_main_v41, val_main_v40, val_main_v39, val_main_v38, val_main_v37, val_main_v36, val_main_v35, val_main_v34, val_main_v33, val_main_v32, val_main_v31, val_main_v19, val_main_v18]
    simp only [v30_apply]
  · rw [dif_neg h, dif_neg h]
    pointwise [val_main_v46, val_main_v45, val_main_v44, val_main_v43, val_main_v42, val_main_v36, val_main_v35, val_main_v34, val_main_v33, val_main_v32, val_main_v31, val_main_v19, val_main_v18]
    simp only [v30_apply]

end Cert.Reference8Ideal.Up

namespace Cert.Kernel8Ideal.Up
open Cert.Kernel8Ideal Cert.Kernel8Ideal.Gen Cert.Latent
/-! ## The arrays the call is given -/

variable (m : (ℓ : Loc nD τ sig) → Buf (Elt Ideal) ℓ) (c : Dev nD)

/-- The first 1088 columns of the projection and the latent keys' gain. -/
abbrev Xp : S128x1x1088.Idx → EReal := m ((c.tc : Thread nD τ).loc main_arg0)
abbrev Xg : S1x512.Idx → EReal := m ((c.tc : Thread nD τ).loc main_arg2)

theorem proj_congr (W : S128x1x1088.Idx → EReal) (b : Fin 128) (t : Fin 1) (i j : Fin 1088) (h : i.val = j.val) : W (ix3 b t i) = W (ix3 b t j) := by
  rw [Fin.ext h]

theorem v14_congr (r : Fin 128) (i j : Fin 1280) (h : i.val = j.val) : V m c main_v14 (ix2 r i) = V m c main_v14 (ix2 r j) := by
  rw [Fin.ext h]

theorem v14_ckv (r : Fin 128) (k : Fin 512) : V m c main_v14 (ix2 r (⟨512 + k.val, by omega⟩ : Fin 1280)) =
    Xp m c (ix3 r (0 : Fin 1) (⟨512 + k.val, by omega⟩ : Fin 1088)) := by
  unfold V
  after_reads_at
  rw [dif_pos (by omega)]
  after_reads_at

theorem v14_kpe (r : Fin 128) (d : Fin 64) : V m c main_v14 (ix2 r (⟨1024 + d.val, by omega⟩ : Fin 1280)) =
    Xp m c (ix3 r (0 : Fin 1) (⟨1024 + d.val, by omega⟩ : Fin 1088)) := by
  unfold V
  after_reads_at
  after_reads_at

theorem v14_rot_lo (r : Fin 128) (d : Fin 32) : V m c main_v14 (ix2 r (⟨1152 + d.val, by omega⟩ : Fin 1280)) =
    -Xp m c (ix3 r (0 : Fin 1) (⟨1056 + d.val, by omega⟩ : Fin 1088)) := by
  unfold V
  after_reads_at
  rw [dif_neg (by omega), dif_neg (by omega), dif_neg (by omega), dif_pos (by omega)]
  after_reads_at
  rw [dif_pos (by omega)]
  after_reads_at
  exact congrArg (-·) (proj_congr (Xp m c) _ _ _ _ (by dsimp only; omega))

theorem v14_rot_hi (r : Fin 128) (d : Fin 32) : V m c main_v14 (ix2 r (⟨1184 + d.val, by omega⟩ : Fin 1280)) =
    Xp m c (ix3 r (0 : Fin 1) (⟨1024 + d.val, by omega⟩ : Fin 1088)) := by
  unfold V
  after_reads_at
  rw [dif_neg (by omega), dif_neg (by omega), dif_neg (by omega), dif_pos (by omega)]
  after_reads_at
  rw [dif_neg (by omega)]
  after_reads_at
  exact proj_congr (Xp m c) _ _ _ _ (by dsimp only; omega)

theorem v73_apply (k : Fin 512) : V m c main_v73 (ix2 (0 : Fin 1) k) = Xg m c (ix2 (0 : Fin 1) k) := by
  unfold V
  after_reads_at

theorem v66_apply (r : Fin 128) (j : Fin 128) : V m c main_v66 (ix2 r j) = Ideal.cos (angle (8192#32) (⟨j.val % 32, by omega⟩ : Fin 32)) := by
  unfold V
  after_reads_at
  rfl

theorem v69_apply (r : Fin 128) (j : Fin 128) : V m c main_v69 (ix2 r j) = Ideal.sin (angle (8192#32) (⟨j.val % 32, by omega⟩ : Fin 32)) := by
  unfold V
  after_reads_at
  rfl

/-! ## What the body leaves at a grid point -/

section Bodies
variable {F : FTy → Type} [FloatOps F]
variable
  (c : Dev nD) (i : grid0.Coords)
  (arg1 : Memref sig .tc .vmem S128x1280 .f32) (harg1 : arg1.IsWhole) (arg2 : Memref sig .tc .vmem S1x512 .f32) (harg2 : arg2.IsWhole) (arg3 : Memref sig .tc .vmem S1x512 .f32) (harg3 : arg3.IsWhole)
  (arg4 : Memref sig .tc .vmem S512x4096 .bf16) (harg4 : arg4.IsWhole) (arg5 : Memref sig .tc .vmem S512x2048 .bf16) (harg5 : arg5.IsWhole) (arg6 : Memref sig .tc .vmem S2048x512 .bf16) (harg6 : arg6.IsWhole)
  (arg7 : Memref sig .tc .vmem S128x128 .f32) (harg7 : arg7.IsWhole) (arg8 : Memref sig .tc .vmem S128x128 .f32) (harg8 : arg8.IsWhole) (arg9 : Memref sig .tc .vmem S128x3072 .bf16) (harg9 : arg9.IsWhole)
  (arg10 : Memref sig .tc .vmem S128x512 .f32) (harg10 : arg10.IsWhole) (arg11 : Memref sig .tc .vmem S128x128 .f32) (harg11 : arg11.IsWhole)
  (x0 : Vec F S128x1280 .f32) (x1 : Vec F S1x512 .f32) (x2 : Vec F S1x512 .f32) (x3 : Vec F S512x4096 .bf16) (x4 : Vec F S512x2048 .bf16) (x5 : Vec F S2048x512 .bf16) (x6 : Vec F S128x128 .f32) (x7 : Vec F S128x128 .f32)

/-- The latent keys' columns of a block. -/
def ckvOf : Vec F S128x512 .f32 := View.ld x0 (Rect.unit (s := S128x1280) ![0, 512] S128x512.size inb_S128x1280_S128x512_0_512)
/-- The positioned keys' columns, twice over. -/
def kpeOf : Vec F S128x128 .f32 := View.ld x0 (Rect.unit (s := S128x1280) ![0, 1024] S128x128.size inb_S128x1280_S128x128_0_1024)
/-- The same, their halves exchanged and the first negated. -/
def rotOf : Vec F S128x128 .f32 := View.ld x0 (Rect.unit (s := S128x1280) ![0, 1152] S128x128.size inb_S128x1280_S128x128_0_1152)

/-- The normalised latent keys. -/
theorem out0_A_9_eq : out0_A_9 c i arg1 harg1 arg2 harg2 arg3 harg3 arg4 harg4 arg5 harg5 arg6 harg6 arg7 harg7 arg8 harg8 arg9 harg9 arg10 harg10 arg11 harg11 x0 x1 x2 x3 x4 x5 x6 x7 = k0_pay9 (ckvOf x0) x2 := by
  unfold out0_A_9
  rw [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread]
  rw [View.canon_cons_unit_zero (by decide)]
  simp (disch := decide) only [View.ld_unit_lit]
  rfl

/-- The turned keys. -/
theorem out0_A_10_eq : out0_A_10 c i arg1 harg1 arg2 harg2 arg3 harg3 arg4 harg4 arg5 harg5 arg6 harg6 arg7 harg7 arg8 harg8 arg9 harg9 arg10 harg10 arg11 harg11 x0 x1 x2 x3 x4 x5 x6 x7 = k0_pay10 (k0_pay6 x6) (k0_pay7 x7) (kpeOf x0) (rotOf x0) := by
  unfold out0_A_10
  rw [View.read_writes_junk_eq_canon]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread]
  rw [View.canon_cons_unit_zero (by decide)]
  simp (disch := decide) only [View.ld_unit_lit]
  rfl

end Bodies

theorem ckvOf_apply (x0 : Vec Ideal S128x1280 .f32) (q : Fin 128) (k : Fin 512) : ckvOf x0 (ix2 q k) = x0 (ix2 q (⟨512 + k.val, by omega⟩ : Fin 1280)) := by
  unfold ckvOf
  refine View.ld_unit_apply_of x0 _ _ _ (ix2 q k) _ (fun a => ?_)
  match a with
  | ⟨0, _⟩ => exact (Nat.zero_add _).symm
  | ⟨1, _⟩ => rfl

theorem kpeOf_apply (x0 : Vec Ideal S128x1280 .f32) (q : Fin 128) (k : Fin 128) : kpeOf x0 (ix2 q k) = x0 (ix2 q (⟨1024 + k.val, by omega⟩ : Fin 1280)) := by
  unfold kpeOf
  refine View.ld_unit_apply_of x0 _ _ _ (ix2 q k) _ (fun a => ?_)
  match a with
  | ⟨0, _⟩ => exact (Nat.zero_add _).symm
  | ⟨1, _⟩ => rfl

theorem rotOf_apply (x0 : Vec Ideal S128x1280 .f32) (q : Fin 128) (k : Fin 128) : rotOf x0 (ix2 q k) = x0 (ix2 q (⟨1152 + k.val, by omega⟩ : Fin 1280)) := by
  unfold rotOf
  refine View.ld_unit_apply_of x0 _ _ _ (ix2 q k) _ (fun a => ?_)
  match a with
  | ⟨0, _⟩ => exact (Nat.zero_add _).symm
  | ⟨1, _⟩ => rfl

theorem pay5_apply (v : Vec Ideal S128x512 .f32) (g : Vec Ideal S1x512 .f32) (q : Fin 128) (k : Fin 512) :
    k0_pay9 v g (ix2 q k) = latent (fun j => v (ix2 q j)) (fun j => g (ix2 (0 : Fin 1) j)) k := by
  pointwise [k0_pay9]
  rfl

theorem pay6_apply (a b : Vec Ideal S128x128 .f32) (x y : Vec Ideal S128x128 .f32) (q : Fin 128) (k : Fin 128) :
    k0_pay10 (k0_pay6 a) (k0_pay7 b) x y (ix2 q k) = x (ix2 q k) * a (ix2 q k) + y (ix2 q k) * b (ix2 q k) := by
  pointwise [k0_pay10, k0_pay6, k0_pay7]

/-! ## The blocks a grid point holds -/

theorem idx0 : ∀ t : Fin cfg0.N, win0_0.index t (0 : Fin 2) = t.val ∧ win0_0.index t (1 : Fin 2) = 0 := by decide +kernel
theorem idx6 : ∀ t : Fin cfg0.N, win0_6.index t (0 : Fin 2) = t.val ∧ win0_6.index t (1 : Fin 2) = 0 := by decide +kernel
theorem idx7 : ∀ t : Fin cfg0.N, win0_7.index t (0 : Fin 2) = t.val ∧ win0_7.index t (1 : Fin 2) = 0 := by decide +kernel
theorem idx9 : ∀ t : Fin cfg0.N, win0_9.index t (0 : Fin 2) = t.val ∧ win0_9.index t (1 : Fin 2) = 0 := by decide +kernel
theorem idx10 : ∀ t : Fin cfg0.N, win0_10.index t (0 : Fin 2) = t.val ∧ win0_10.index t (1 : Fin 2) = 0 := by decide +kernel
theorem idx2 : ∀ t : Fin cfg0.N, win0_2.index t (0 : Fin 2) = 0 ∧ win0_2.index t (1 : Fin 2) = 0 := by decide +kernel
theorem flush9 : ∀ t : Fin cfg0.N, (cfg0.win 9).flush t = true := by decide +kernel
theorem flush10 : ∀ t : Fin cfg0.N, (cfg0.win 10).flush t = true := by decide +kernel

theorem ltN (t : Fin cfg0.N) : t.val < 1 := lt_of_lt_of_eq t.isLt (show cfg0.N = 1 from N_0)

theorem blk0 (t : Fin cfg0.N) (q : Fin 128) (k : Fin 1280) (r : Fin 128) (hr : r.val = 128 * t.val + q.val) : iblk m c 0 t (ix2 q k) = V m c main_v14 (ix2 r k) := by
  show V m c main_v14 _ = V m c main_v14 _
  congr 1
  funext a
  apply Fin.ext
  match a with
  | ⟨0, _⟩ => show win0_0.index t (0 : Fin 2) * 128 + 1 * q.val = r.val
              rw [(idx0 t).1]; omega
  | ⟨1, _⟩ => show win0_0.index t (1 : Fin 2) * 1280 + 1 * k.val = k.val
              rw [(idx0 t).2]; omega

theorem blk2 (t : Fin cfg0.N) (q : Fin 1) (k : Fin 512) : iblk m c 2 t (ix2 q k) = V m c main_v73 (ix2 q k) := by
  show V m c main_v73 _ = V m c main_v73 _
  congr 1
  funext a
  apply Fin.ext
  match a with
  | ⟨0, _⟩ => show win0_2.index t (0 : Fin 2) * 1 + 1 * q.val = q.val
              rw [(idx2 t).1]; omega
  | ⟨1, _⟩ => show win0_2.index t (1 : Fin 2) * 512 + 1 * k.val = k.val
              rw [(idx2 t).2]; omega

theorem blk6 (t : Fin cfg0.N) (q : Fin 128) (k : Fin 128) (r : Fin 128) (hr : r.val = 128 * t.val + q.val) : iblk m c 6 t (ix2 q k) = V m c main_v66 (ix2 r k) := by
  show V m c main_v66 _ = V m c main_v66 _
  congr 1
  funext a
  apply Fin.ext
  match a with
  | ⟨0, _⟩ => show win0_6.index t (0 : Fin 2) * 128 + 1 * q.val = r.val
              rw [(idx6 t).1]; omega
  | ⟨1, _⟩ => show win0_6.index t (1 : Fin 2) * 128 + 1 * k.val = k.val
              rw [(idx6 t).2]; omega

theorem blk7 (t : Fin cfg0.N) (q : Fin 128) (k : Fin 128) (r : Fin 128) (hr : r.val = 128 * t.val + q.val) : iblk m c 7 t (ix2 q k) = V m c main_v69 (ix2 r k) := by
  show V m c main_v69 _ = V m c main_v69 _
  congr 1
  funext a
  apply Fin.ext
  match a with
  | ⟨0, _⟩ => show win0_7.index t (0 : Fin 2) * 128 + 1 * q.val = r.val
              rw [(idx7 t).1]; omega
  | ⟨1, _⟩ => show win0_7.index t (1 : Fin 2) * 128 + 1 * k.val = k.val
              rw [(idx7 t).2]; omega

/-! ## The arrays after the run -/

/-- Row `r`'s latent key, normalised. -/
def lat (r : Fin 128) : Fin 512 → EReal := latent (fun j => V m c main_v14 (ix2 r (⟨512 + j.val, by omega⟩ : Fin 1280))) (fun j => V m c main_v73 (ix2 (0 : Fin 1) j))

/-- The operand and the two tables, as functions. -/
abbrev cols : S128x1280.Idx → EReal := V m c main_v14
abbrev cosT : S128x128.Idx → EReal := V m c main_v66
abbrev sinT : S128x128.Idx → EReal := V m c main_v69

/-- Row `r`'s turned key, twice over. -/
def turned (r : Fin 128) (k : Fin 128) : EReal :=
  cols m c (ix2 r (⟨1024 + k.val, by omega⟩ : Fin 1280)) * cosT m c (ix2 r k) + cols m c (ix2 r (⟨1152 + k.val, by omega⟩ : Fin 1280)) * sinT m c (ix2 r k)

def Out9 : S128x512.Idx → EReal := fun i => lat m c (i 0) (i 1)
def Out10 : S128x128.Idx → EReal := fun i => turned m c (i 0) (i 1)

theorem lat_at (t : Fin cfg0.N) (q : Fin 128) (r : Fin 128) (hr : r.val = 128 * t.val + q.val) (k : Fin 512) : k0_pay9 (ckvOf (iblk m c 0 t)) (iblk m c 2 t) (ix2 q k) = lat m c r k := by
  rw [pay5_apply]
  have e0 : ∀ k, iblk m c 0 t (ix2 q k) = _ := fun k => blk0 m c t q k r hr
  have e2 : ∀ k, iblk m c 2 t (ix2 (0 : Fin 1) k) = _ := fun k => blk2 m c t 0 k
  unfold lat
  simp only [ckvOf_apply, e0, e2]

theorem at9 (t : Fin cfg0.N) (q : Fin 128) (r : Fin 128) (hr : r.val = 128 * t.val + q.val) (k : Fin 512) : (outsAt0 m c t).2.1 (ix2 q k) = lat m c r k := by
  unfold outsAt0
  dsimp only
  rw [out0_A_9_eq]
  exact lat_at m c t q r hr k

theorem at10 (t : Fin cfg0.N) (q : Fin 128) (r : Fin 128) (hr : r.val = 128 * t.val + q.val) (k : Fin 128) : (outsAt0 m c t).2.2 (ix2 q k) = turned m c r k := by
  unfold outsAt0
  dsimp only
  rw [out0_A_10_eq, pay6_apply, kpeOf_apply, rotOf_apply]
  have e0 : ∀ k, iblk m c 0 t (ix2 q k) = _ := fun k => blk0 m c t q k r hr
  have e6 : iblk m c 6 t (ix2 q k) = _ := blk6 m c t q k r hr
  have e7 : iblk m c 7 t (ix2 q k) = _ := blk7 m c t q k r hr
  unfold turned cols cosT sinT
  rw [e0, e0, e6, e7]

theorem flushed9 (t : Fin cfg0.N) : (dats m 0 c).flushed 9 t = ((cfg0.win 9).blk t).view.read (Elt Ideal) (Out9 m c) := by
  show (cfg0.win 9).cut (grid0.coords t) ((dats m 0 c).after 9 t) = _
  rw [after0_9]
  funext y
  have hy0 : (y 0).val < 128 := (y 0).isLt
  have hy1 : (y 1).val < 512 := (y 1).isLt
  have hb0 : (((cfg0.win 9).blk t).view.emb y 0).val = win0_9.index t (0 : Fin 2) * 128 + 1 * (y 0).val := rfl
  have hb1 : (((cfg0.win 9).blk t).view.emb y 1).val = win0_9.index t (1 : Fin 2) * 512 + 1 * (y 1).val := rfl
  rw [(idx9 t).1] at hb0
  rw [(idx9 t).2] at hb1
  have hx : (cfg0.win 9).xinj (grid0.coords t) y = ix2 (⟨(y 0).val, hy0⟩ : Fin 128) (⟨(y 1).val, hy1⟩ : Fin 512) := by
    funext a
    match a with
    | ⟨0, _⟩ => rfl
    | ⟨1, _⟩ => rfl
  show (outsAt0 m c t).2.1 ((cfg0.win 9).xinj (grid0.coords t) y) = Out9 m c (((cfg0.win 9).blk t).view.emb y)
  rw [hx]
  unfold Out9
  have e1 : ((cfg0.win 9).blk t).view.emb y 1 = (⟨(y 1).val, hy1⟩ : Fin 512) := Fin.ext (by rw [hb1]; dsimp only; omega)
  rw [e1]
  exact at9 m c t _ _ (by rw [hb0]; dsimp only; omega) _

theorem mem_blk9 (t : Fin cfg0.N) (i : S128x512.Idx) :
    i ∈ ((cfg0.win 9).blk t).view.set ↔ ∀ a : Fin 2, win0_9.index t a * S128x512.size a ≤ (i a).val ∧ (i a).val < win0_9.index t a * S128x512.size a + S128x512.size a := by
  show i ∈ ((View.whole main_v74_1).slice (win0_9.rect t)).set ↔ _
  rw [View.set_slice_whole, Rect.mem_set_unit]
  exact Iff.rfl

theorem covered9 (i : S128x512.Idx) : ∃ t : Fin cfg0.N, (cfg0.win 9).flush t = true ∧ i ∈ ((cfg0.win 9).blk t).view.set := by
  have hi0 : (i 0).val < 128 := (i 0).isLt
  have hi1 : (i 1).val < 512 := (i 1).isLt
  refine ⟨⟨(i 0).val / 128, by rw [show cfg0.N = 1 from N_0]; omega⟩, flush9 _, ?_⟩
  rw [mem_blk9]
  intro a
  match a with
  | ⟨0, _⟩ => show win0_9.index _ (0 : Fin 2) * 128 ≤ (i 0).val ∧ (i 0).val < win0_9.index _ (0 : Fin 2) * 128 + 128
              rw [(idx9 _).1]; dsimp only; omega
  | ⟨1, _⟩ => show win0_9.index _ (1 : Fin 2) * 512 ≤ (i 1).val ∧ (i 1).val < win0_9.index _ (1 : Fin 2) * 512 + 512
              rw [(idx9 _).2]; omega

theorem final9 : (dats m 0 c).arrAt 9 cfg0.N = Out9 m c :=
  (dats m 0 c).arrAt_eq_of_cover 9 _ (fun t _ => flushed9 m c t) (covered9)

theorem flushed10 (t : Fin cfg0.N) : (dats m 0 c).flushed 10 t = ((cfg0.win 10).blk t).view.read (Elt Ideal) (Out10 m c) := by
  show (cfg0.win 10).cut (grid0.coords t) ((dats m 0 c).after 10 t) = _
  rw [after0_10]
  funext y
  have hy0 : (y 0).val < 128 := (y 0).isLt
  have hy1 : (y 1).val < 128 := (y 1).isLt
  have hb0 : (((cfg0.win 10).blk t).view.emb y 0).val = win0_10.index t (0 : Fin 2) * 128 + 1 * (y 0).val := rfl
  have hb1 : (((cfg0.win 10).blk t).view.emb y 1).val = win0_10.index t (1 : Fin 2) * 128 + 1 * (y 1).val := rfl
  rw [(idx10 t).1] at hb0
  rw [(idx10 t).2] at hb1
  have hx : (cfg0.win 10).xinj (grid0.coords t) y = ix2 (⟨(y 0).val, hy0⟩ : Fin 128) (⟨(y 1).val, hy1⟩ : Fin 128) := by
    funext a
    match a with
    | ⟨0, _⟩ => rfl
    | ⟨1, _⟩ => rfl
  show (outsAt0 m c t).2.2 ((cfg0.win 10).xinj (grid0.coords t) y) = Out10 m c (((cfg0.win 10).blk t).view.emb y)
  rw [hx]
  unfold Out10
  have e1 : ((cfg0.win 10).blk t).view.emb y 1 = (⟨(y 1).val, hy1⟩ : Fin 128) := Fin.ext (by rw [hb1]; dsimp only; omega)
  rw [e1]
  exact at10 m c t _ _ (by rw [hb0]; dsimp only; omega) _

theorem mem_blk10 (t : Fin cfg0.N) (i : S128x128.Idx) :
    i ∈ ((cfg0.win 10).blk t).view.set ↔ ∀ a : Fin 2, win0_10.index t a * S128x128.size a ≤ (i a).val ∧ (i a).val < win0_10.index t a * S128x128.size a + S128x128.size a := by
  show i ∈ ((View.whole main_v74_2).slice (win0_10.rect t)).set ↔ _
  rw [View.set_slice_whole, Rect.mem_set_unit]
  exact Iff.rfl

theorem covered10 (i : S128x128.Idx) : ∃ t : Fin cfg0.N, (cfg0.win 10).flush t = true ∧ i ∈ ((cfg0.win 10).blk t).view.set := by
  have hi0 : (i 0).val < 128 := (i 0).isLt
  have hi1 : (i 1).val < 128 := (i 1).isLt
  refine ⟨⟨(i 0).val / 128, by rw [show cfg0.N = 1 from N_0]; omega⟩, flush10 _, ?_⟩
  rw [mem_blk10]
  intro a
  match a with
  | ⟨0, _⟩ => show win0_10.index _ (0 : Fin 2) * 128 ≤ (i 0).val ∧ (i 0).val < win0_10.index _ (0 : Fin 2) * 128 + 128
              rw [(idx10 _).1]; dsimp only; omega
  | ⟨1, _⟩ => show win0_10.index _ (1 : Fin 2) * 128 ≤ (i 1).val ∧ (i 1).val < win0_10.index _ (1 : Fin 2) * 128 + 128
              rw [(idx10 _).2]; omega

theorem final10 : (dats m 0 c).arrAt 10 cfg0.N = Out10 m c :=
  (dats m 0 c).arrAt_eq_of_cover 10 _ (fun t _ => flushed10 m c t) (covered10)

/-! ## The arrays, from the arguments -/

theorem lat_eq (r : Fin 128) : lat m c r = latent (fun j => Xp m c (ix3 r (0 : Fin 1) (⟨512 + j.val, by omega⟩ : Fin 1088))) (fun j => Xg m c (ix2 (0 : Fin 1) j)) := by
  exact congrArg₂ latent (funext fun j => v14_ckv m c r j) (funext fun j => v73_apply m c j)

/-- In its first 64 lanes the turned key is the key, its halves turned. -/
theorem turned_eq (r : Fin 128) (d : Fin 64) : turned m c r (⟨d.val, by omega⟩ : Fin 128) = rope (fun j => Xp m c (ix3 r (0 : Fin 1) (⟨1024 + j.val, by omega⟩ : Fin 1088))) (angle (8192#32)) d := by
  have ek := v14_kpe m c r d
  have ec := v66_apply m c r (⟨d.val, by omega⟩ : Fin 128)
  have es := v69_apply m c r (⟨d.val, by omega⟩ : Fin 128)
  unfold turned cols cosT sinT rope
  dsimp only at ec es ⊢
  rw [ek, ec, es]
  by_cases h : d.val < 32
  · have er := v14_rot_lo m c r ⟨d.val, h⟩
    have em : (⟨d.val % 32, by omega⟩ : Fin 32) = ⟨d.val, h⟩ := Fin.ext (by dsimp only; omega)
    dsimp only at er
    rw [dif_pos h, er, em, EReal.neg_mul, ← sub_eq_add_neg]
    refine congrArg₂ (fun a b : EReal => a - b) rfl (congrArg₂ (fun a b : EReal => a * b) ?_ rfl)
    exact proj_congr (Xp m c) _ _ _ _ (by dsimp only; omega)
  · have er := (v14_congr m c r (⟨1152 + d.val, by omega⟩ : Fin 1280) (⟨1184 + (d.val - 32), by omega⟩ : Fin 1280) (by dsimp only; omega)).trans (v14_rot_hi m c r ⟨d.val - 32, by omega⟩)
    have em : (⟨d.val % 32, by omega⟩ : Fin 32) = ⟨d.val - 32, by omega⟩ := Fin.ext (by dsimp only; omega)
    rw [dif_neg h, er, em, add_comm]
    refine congrArg₂ (fun a b : EReal => a + b) rfl (congrArg₂ (fun a b : EReal => a * b) ?_ rfl)
    exact proj_congr (Xp m c) _ _ _ _ (by dsimp only; omega)

/-! ## The host lines after it, and the run -/

theorem tail75 (W : Valuation τ sig (Elt Ideal)) (z : Fin 1) (b : Fin 128) (t : Fin 1) (k : Fin 512) (r : Fin 128) (hr : r.val = b.val) :
    (StableHlo.after (hostOps1 (F := Ideal)) W (Proc.devRef .tc main_v75) : S1x128x1x512.Idx → EReal) (ix4 z b t k) = (W (Proc.devRef .tc main_v74_1) : S128x512.Idx → EReal) (ix2 r k) := by
  after_reads_at
  refine congrArg (W (Proc.devRef .tc main_v74_1) : S128x512.Idx → EReal) ?_
  congr 1 <;> exact Fin.ext (by first | omega | (dsimp only; omega))

theorem tail77 (W : Valuation τ sig (Elt Ideal)) (z : Fin 1) (b : Fin 128) (t : Fin 1) (d : Fin 64) (r : Fin 128) (hr : r.val = b.val) :
    (StableHlo.after (hostOps1 (F := Ideal)) W (Proc.devRef .tc main_v77) : S1x128x1x64.Idx → EReal) (ix4 z b t d) = (W (Proc.devRef .tc main_v74_2) : S128x128.Idx → EReal) (ix2 r (⟨d.val, by omega⟩ : Fin 128)) := by
  after_reads_at
  refine congrArg (W (Proc.devRef .tc main_v74_2) : S128x128.Idx → EReal) ?_
  congr 1 <;> exact Fin.ext (by first | omega | (dsimp only; omega))

/-- What the region leaves, under the lines after it. -/
theorem exit1 : (Pipeline.withArrays (cfgs 0).spec c (V0 m c) (fun w => (dats m 0 c).arrAt w (cfgs 0).N)) (Proc.devRef .tc main_v74_1) = Out9 m c :=
  (Pipeline.withArrays_arr (cfgs 0).spec (by decide) c (V0 m c) (fun w => (dats m 0 c).arrAt w (cfgs 0).N) 9).trans (final9 m c)

theorem exit2 : (Pipeline.withArrays (cfgs 0).spec c (V0 m c) (fun w => (dats m 0 c).arrAt w (cfgs 0).N)) (Proc.devRef .tc main_v74_2) = Out10 m c :=
  (Pipeline.withArrays_arr (cfgs 0).spec (by decide) c (V0 m c) (fun w => (dats m 0 c).arrAt w (cfgs 0).N) 10).trans (final10 m c)

variable (ρ : Dev nD → PrngReg)

/-- THE KERNEL'S RUN: its results, and its arguments unchanged. -/
theorem run : θ_run defs (onTc (τ := τ) (main (F := Ideal))) ⟨m, fun _ => 0, ρ⟩ (fun r => ∀ c : Dev nD,
    (∀ (z : Fin 1) (b : Fin 128) (t : Fin 1) (k : Fin 512), (r.2.mem ((c.tc : Thread nD τ).loc main_v75) : S1x128x1x512.Idx → EReal) (ix4 z b t k) =
      latent (fun j => Xp m c (ix3 b t (⟨512 + j.val, by omega⟩ : Fin 1088))) (fun j => Xg m c (ix2 (0 : Fin 1) j)) k)
    ∧ (∀ (z : Fin 1) (b : Fin 128) (t : Fin 1) (d : Fin 64), (r.2.mem ((c.tc : Thread nD τ).loc main_v77) : S1x128x1x64.Idx → EReal) (ix4 z b t d) =
      rope (fun j => Xp m c (ix3 b t (⟨1024 + j.val, by omega⟩ : Fin 1088))) (angle (8192#32)) d)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) := by
  refine (θ_run defs _ _).mono (fun r h c => ?_) (θ_run_and (run_main (F := Ideal) m ρ) (unchanged (F := Ideal) m ρ))
  obtain ⟨h1, h2⟩ := h
  refine ⟨fun z b t k => ?_, fun z b t d => ?_, h2 c⟩
  · rw [(h1 c).2 main_v75 (Pipeline.mem_restRefs_of main_v75 (by decide) (by decide))]
    obtain rfl : t = 0 := Subsingleton.elim _ _
    refine (tail75 _ z b 0 k b rfl).trans ?_
    rw [exit1]
    refine (congrFun (lat_eq m c b) k).trans ?_
    rfl
  · rw [(h1 c).2 main_v77 (Pipeline.mem_restRefs_of main_v77 (by decide) (by decide))]
    obtain rfl : t = 0 := Subsingleton.elim _ _
    refine (tail77 _ z b 0 d b rfl).trans ?_
    rw [exit2]
    refine (turned_eq m c b d).trans ?_
    rfl

end Cert.Kernel8Ideal.Up
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Pre_finite
public import proofs.«01_k».proof.Proof.AttRef
public import proofs.«01_k».proof.Proof.AttRun
public import proofs.«01_k».proof.Proof.AttPre
public import proofs.«01_k».proof.Proof.FfnRef
public import proofs.«01_k».proof.Proof.FfnRun
public import proofs.«01_k».proof.Proof.PlePrompt
public import proofs.«01_k».proof.Proof.ProjPrompt
public import proofs.«01_k».proof.Proof.PleSample
public import proofs.«01_k».proof.Proof.ProjSample
public import proofs.«01_k».proof.Proof.UpPrompt
public import proofs.«01_k».proof.Proof.UpSample
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention: the kernel's result is the reference's. -/
theorem algebraic_KernelIdeal_ReferenceIdeal : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Read.val_main_v27_eq (F := Ideal) m' c).trans ?_
  rw [(hagree c).1, (hagree c).2.1, (hagree c).2.2.1, (hagree c).2.2.2]
  funext i
  obtain ⟨r, j, rfl⟩ : ∃ (r : Fin 8192) (j : Fin 2048), i = ix2 r j := ⟨i 0, i 1, by
    funext a
    match a with
    | ⟨0, _⟩ => rfl
    | ⟨1, _⟩ => rfl⟩
  exact (Cert.ReferenceIdeal.Att.v27_apply _ _ _ _ r j).trans
    (Cert.KernelIdeal.Att.kernel_out m c (Cert.Att.real_q m hpre c) (Cert.Att.real_k m hpre c) (Cert.Att.real_r m hpre c) r j).symm

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward part: the kernel's result is the reference's. -/
theorem algebraic_Kernel2Ideal_Reference2Ideal : algebraic_Kernel2Ideal_Reference2Ideal := by
  intro m ρ m' ρ' hpre hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  refine (Cert.Reference2Ideal.Read.val_main_v19_eq (F := Ideal) _ _ _ _ _).trans ?_
  rw [(hagree c).1, (hagree c).2.1, (hagree c).2.2.1, (hagree c).2.2.2.1, (hagree c).2.2.2.2]
  funext i
  obtain ⟨r, j, rfl⟩ : ∃ (r : Fin 8192) (j : Fin 2048), i = ix2 r j := ⟨i 0, i 1, by
    funext a
    match a with
    | ⟨0, _⟩ => rfl
    | ⟨1, _⟩ => rfl⟩
  exact (Cert.Reference2Ideal.Ffn.v19_apply _ _ _ _ _ r j).trans (Cert.Kernel2Ideal.Ffn.kernel_out m c r j).symm

theorem two {a b : ℕ} (i : (⟨2, ![a, b]⟩ : Shape).Idx) : ∃ (p : Fin a) (q : Fin b), i = ix2 p q := ⟨i 0, i 1, by
  funext x
  match x with
  | ⟨0, _⟩ => rfl
  | ⟨1, _⟩ => rfl⟩

theorem five {a b c d e : ℕ} (i : (⟨5, ![a, b, c, d, e]⟩ : Shape).Idx) : ∃ (p : Fin a) (q : Fin b) (r : Fin c) (s : Fin d) (t : Fin e), i = ix5 p q r s t :=
  ⟨i 0, i 1, i 2, i 3, i 4, by
    funext x
    match x with
    | ⟨0, _⟩ => rfl
    | ⟨1, _⟩ => rfl
    | ⟨2, _⟩ => rfl
    | ⟨3, _⟩ => rfl
    | ⟨4, _⟩ => rfl⟩

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The last layer's embedding and the final normalisation of the prompt: the kernel's result is the reference's. -/
theorem algebraic_Kernel3Ideal_Reference3Ideal : algebraic_Kernel3Ideal_Reference3Ideal := by
  intro m ρ m' ρ' hpre hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  refine (Cert.Reference3Ideal.Read.val_main_v36_eq (F := Ideal) m' c).trans ?_
  rw [(hagree c).1, (hagree c).2.1, (hagree c).2.2.1, (hagree c).2.2.2.1, (hagree c).2.2.2.2.1, (hagree c).2.2.2.2.2]
  refine Eq.trans ?_ (Cert.Kernel3Ideal.Ple.final m c).symm
  funext i
  obtain ⟨r, j, rfl⟩ : ∃ (r : Fin 8192) (j : Fin 2048), i = ix2 r j := ⟨i 0, i 1, by
    funext a
    match a with
    | ⟨0, _⟩ => rfl
    | ⟨1, _⟩ => rfl⟩
  exact Cert.Reference3Ideal.Ple.v36_apply _ _ _ _ _ _ r j

theorem quiescent_Reference4Ideal : quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The first mixer's projection of the prompt: the kernel's keys, values and other columns are the reference's. -/
theorem algebraic_Kernel4Ideal_Reference4Ideal : algebraic_Kernel4Ideal_Reference4Ideal := by
  intro m ρ m' ρ' hpre hagree
  refine ⟨fun c => Cert.Reference4Ideal.Read.val_main_v22 (F := Ideal) (Cert.Kernel4Ideal.Proj.Xx m c) (Cert.Kernel4Ideal.Proj.Xn m c) (Cert.Kernel4Ideal.Proj.Ww m c),
    fun c => Cert.Reference4Ideal.Read.val_main_v23 (F := Ideal) (Cert.Kernel4Ideal.Proj.Xx m c) (Cert.Kernel4Ideal.Proj.Xn m c) (Cert.Kernel4Ideal.Proj.Ww m c),
    fun c => Cert.Reference4Ideal.Read.val_main_v24 (F := Ideal) (Cert.Kernel4Ideal.Proj.Xx m c) (Cert.Kernel4Ideal.Proj.Xn m c) (Cert.Kernel4Ideal.Proj.Ww m c), ?_, ?_⟩
  · refine (θ_run Cert.Kernel4Ideal.defs _ _).mono (fun r h c => ?_) (Cert.Kernel4Ideal.Proj.run m ρ)
    obtain ⟨h1, h2, h3, hk⟩ := h c
    refine ⟨?_, ?_, ?_, hk⟩
    · funext i
      obtain ⟨z, b, t, hh, d, rfl⟩ := five i
      exact (h1 z b t hh d).trans (Cert.Reference4Ideal.Proj.v22_apply _ _ _ z b t hh d).symm
    · funext i
      obtain ⟨z, b, t, hh, d, rfl⟩ := five i
      exact (h2 z b t hh d).trans (Cert.Reference4Ideal.Proj.v23_apply _ _ _ z b t hh d).symm
    · funext i
      obtain ⟨r, j, rfl⟩ := two i
      exact (h3 r j).trans (Cert.Reference4Ideal.Proj.v24_apply _ _ _ r j).symm
  · refine (θ_run Cert.Reference4Ideal.defs _ _).mono (fun r h c => ?_) (Cert.Reference4Ideal.Value.run (F := Ideal) m' ρ')
    obtain ⟨h1, h2, h3, hk⟩ := h c
    obtain ⟨a1, a2, a3⟩ := hagree c
    refine ⟨(h1.trans (Cert.Reference4Ideal.Read.val_main_v22_eq (F := Ideal) _ _ _)).trans ?_,
      (h2.trans (Cert.Reference4Ideal.Read.val_main_v23_eq (F := Ideal) _ _ _)).trans ?_,
      (h3.trans (Cert.Reference4Ideal.Read.val_main_v24_eq (F := Ideal) _ _ _)).trans ?_, hk⟩
    · rw [a1, a2, a3]
    · rw [a1, a2, a3]
    · rw [a1, a2, a3]

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The last layer's embedding and the final normalisation of the sample: the kernel's result is the reference's. -/
theorem algebraic_Kernel5Ideal_Reference5Ideal : algebraic_Kernel5Ideal_Reference5Ideal := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  refine (Cert.Reference5Ideal.Read.val_main_v36_eq (F := Ideal) m' c).trans ?_
  rw [(hagree c).1, (hagree c).2.1, (hagree c).2.2.1, (hagree c).2.2.2.1, (hagree c).2.2.2.2.1, (hagree c).2.2.2.2.2]
  refine Eq.trans ?_ (Cert.Kernel5Ideal.Ple.final m c).symm
  funext i
  obtain ⟨r, j, rfl⟩ : ∃ (r : Fin 128) (j : Fin 2048), i = ix2 r j := ⟨i 0, i 1, by
    funext a
    match a with
    | ⟨0, _⟩ => rfl
    | ⟨1, _⟩ => rfl⟩
  exact Cert.Reference5Ideal.Ple.v36_apply _ _ _ _ _ _ r j

theorem quiescent_Reference6Ideal : quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The first mixer's projection of the sample: the kernel's keys, values and other columns are the reference's. -/
theorem algebraic_Kernel6Ideal_Reference6Ideal : algebraic_Kernel6Ideal_Reference6Ideal := by
  intro m ρ m' ρ' hpre hagree
  refine ⟨fun c => Cert.Reference6Ideal.Read.val_main_v22 (F := Ideal) (Cert.Kernel6Ideal.Proj.Xx m c) (Cert.Kernel6Ideal.Proj.Xn m c) (Cert.Kernel6Ideal.Proj.Ww m c),
    fun c => Cert.Reference6Ideal.Read.val_main_v23 (F := Ideal) (Cert.Kernel6Ideal.Proj.Xx m c) (Cert.Kernel6Ideal.Proj.Xn m c) (Cert.Kernel6Ideal.Proj.Ww m c),
    fun c => Cert.Reference6Ideal.Read.val_main_v24 (F := Ideal) (Cert.Kernel6Ideal.Proj.Xx m c) (Cert.Kernel6Ideal.Proj.Xn m c) (Cert.Kernel6Ideal.Proj.Ww m c), ?_, ?_⟩
  · refine (θ_run Cert.Kernel6Ideal.defs _ _).mono (fun r h c => ?_) (Cert.Kernel6Ideal.Proj.run m ρ)
    obtain ⟨h1, h2, h3, hk⟩ := h c
    refine ⟨?_, ?_, ?_, hk⟩
    · funext i
      obtain ⟨z, b, t, hh, d, rfl⟩ := five i
      exact (h1 z b t hh d).trans (Cert.Reference6Ideal.Proj.v22_apply _ _ _ z b t hh d).symm
    · funext i
      obtain ⟨z, b, t, hh, d, rfl⟩ := five i
      exact (h2 z b t hh d).trans (Cert.Reference6Ideal.Proj.v23_apply _ _ _ z b t hh d).symm
    · funext i
      obtain ⟨r, j, rfl⟩ := two i
      exact (h3 r j).trans (Cert.Reference6Ideal.Proj.v24_apply _ _ _ r j).symm
  · refine (θ_run Cert.Reference6Ideal.defs _ _).mono (fun r h c => ?_) (Cert.Reference6Ideal.Value.run (F := Ideal) m' ρ')
    obtain ⟨h1, h2, h3, hk⟩ := h c
    obtain ⟨a1, a2, a3⟩ := hagree c
    refine ⟨(h1.trans (Cert.Reference6Ideal.Read.val_main_v22_eq (F := Ideal) _ _ _)).trans ?_,
      (h2.trans (Cert.Reference6Ideal.Read.val_main_v23_eq (F := Ideal) _ _ _)).trans ?_,
      (h3.trans (Cert.Reference6Ideal.Read.val_main_v24_eq (F := Ideal) _ _ _)).trans ?_, hk⟩
    · rw [a1, a2, a3]
    · rw [a1, a2, a3]
    · rw [a1, a2, a3]

theorem four {a b c d : ℕ} (i : (⟨4, ![a, b, c, d]⟩ : Shape).Idx) : ∃ (p : Fin a) (q : Fin b) (r : Fin c) (s : Fin d), i = ix4 p q r s :=
  ⟨i 0, i 1, i 2, i 3, by
    funext x
    match x with
    | ⟨0, _⟩ => rfl
    | ⟨1, _⟩ => rfl
    | ⟨2, _⟩ => rfl
    | ⟨3, _⟩ => rfl⟩

theorem quiescent_Reference7Ideal : quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The second mixer's latent keys of the prompt, its positioned keys, and the keys and values made from the latent ones: the kernel's are the
reference's. -/
theorem algebraic_Kernel7Ideal_Reference7Ideal : algebraic_Kernel7Ideal_Reference7Ideal := by
  intro m ρ m' ρ' hpre hagree
  refine ⟨fun c => Cert.Reference7Ideal.Read.val_main_v54 (F := Ideal) (Cert.Kernel7Ideal.Up.Xp m c) (Cert.Kernel7Ideal.Up.Xg m c),
    fun c => Cert.Reference7Ideal.Read.val_main_v55 (F := Ideal) (Cert.Kernel7Ideal.Up.Xp m c),
    fun c => Cert.Reference7Ideal.Read.val_main_v57 (F := Ideal) (Cert.Kernel7Ideal.Up.Xp m c) (Cert.Kernel7Ideal.Up.Xg m c) (Cert.Kernel7Ideal.Up.Ww m c),
    fun c => Cert.Reference7Ideal.Read.val_main_v60 (F := Ideal) (Cert.Kernel7Ideal.Up.Xp m c) (Cert.Kernel7Ideal.Up.Xg m c) (Cert.Kernel7Ideal.Up.Ww m c), ?_, ?_⟩
  · refine (θ_run Cert.Kernel7Ideal.defs _ _).mono (fun r h c => ?_) (Cert.Kernel7Ideal.Up.run m ρ)
    obtain ⟨h1, h2, h3, h4, hk⟩ := h c
    refine ⟨?_, ?_, ?_, ?_, hk⟩
    · funext i
      obtain ⟨z, b, t, k, rfl⟩ := four i
      exact (h1 z b t k).trans (Cert.Reference7Ideal.Up.v54_apply _ _ z b t k).symm
    · funext i
      obtain ⟨z, b, t, d, rfl⟩ := four i
      exact (h2 z b t d).trans (Cert.Reference7Ideal.Up.v55_apply _ z b t d).symm
    · funext i
      obtain ⟨r, n, rfl⟩ := two (a := 8192) (b := 2048) i
      have hr : r.val = 4096 * (⟨r.val / 4096, by omega⟩ : Fin 2).val + (⟨r.val % 4096, by omega⟩ : Fin 4096).val := by dsimp only; omega
      have hn : n.val = 128 * (⟨n.val / 128, by omega⟩ : Fin 16).val + (⟨n.val % 128, by omega⟩ : Fin 128).val := by dsimp only; omega
      exact (h3 _ _ _ _ r hr n hn).trans ((Cert.Reference7Ideal.Up.v57_apply _ _ _ _ _ _ _ r hr n hn).trans (Cert.Reference7Ideal.Up.v51_apply _ _ _ _ _ _ _)).symm
    · funext i
      obtain ⟨n, r, rfl⟩ := two (a := 2048) (b := 8192) i
      have hr : r.val = 4096 * (⟨r.val / 4096, by omega⟩ : Fin 2).val + (⟨r.val % 4096, by omega⟩ : Fin 4096).val := by dsimp only; omega
      have hn : n.val = 128 * (⟨n.val / 128, by omega⟩ : Fin 16).val + (⟨n.val % 128, by omega⟩ : Fin 128).val := by dsimp only; omega
      exact (h4 _ _ _ _ r hr n hn).trans ((Cert.Reference7Ideal.Up.v60_apply _ _ _ _ _ _ _ r hr n hn).trans (Cert.Reference7Ideal.Up.v53_apply _ _ _ _ _ _ _)).symm
  · refine (θ_run Cert.Reference7Ideal.defs _ _).mono (fun r h c => ?_) (Cert.Reference7Ideal.Value.run (F := Ideal) m' ρ')
    obtain ⟨h1, h2, h3, h4, hk⟩ := h c
    obtain ⟨a1, a2, a3, a4, a5⟩ := hagree c
    refine ⟨(h1.trans (Cert.Reference7Ideal.Read.val_main_v54_eq (F := Ideal) _ _)).trans ?_,
      (h2.trans (Cert.Reference7Ideal.Read.val_main_v55_eq (F := Ideal) m' c)).trans ?_,
      (h3.trans (Cert.Reference7Ideal.Read.val_main_v57_eq (F := Ideal) _ _ _)).trans ?_,
      (h4.trans (Cert.Reference7Ideal.Read.val_main_v60_eq (F := Ideal) _ _ _)).trans ?_, hk⟩
    · rw [a1, a3]
    · rw [a1]
    · rw [a1, a3, a5]
    · rw [a1, a3, a5]

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The second mixer's latent keys of the sample and its positioned keys: the kernel's are the reference's. -/
theorem algebraic_Kernel8Ideal_Reference8Ideal : algebraic_Kernel8Ideal_Reference8Ideal := by
  intro m ρ m' ρ' hpre hagree
  refine ⟨fun c => Cert.Reference8Ideal.Read.val_main_v49 (F := Ideal) (Cert.Kernel8Ideal.Up.Xp m c) (Cert.Kernel8Ideal.Up.Xg m c),
    fun c => Cert.Reference8Ideal.Read.val_main_v50 (F := Ideal) (Cert.Kernel8Ideal.Up.Xp m c), ?_, ?_⟩
  · refine (θ_run Cert.Kernel8Ideal.defs _ _).mono (fun r h c => ?_) (Cert.Kernel8Ideal.Up.run m ρ)
    obtain ⟨h1, h2, hk⟩ := h c
    refine ⟨?_, ?_, hk⟩
    · funext i
      obtain ⟨z, b, t, k, rfl⟩ := four i
      exact (h1 z b t k).trans (Cert.Reference8Ideal.Up.v49_apply _ _ z b t k).symm
    · funext i
      obtain ⟨z, b, t, d, rfl⟩ := four i
      exact (h2 z b t d).trans (Cert.Reference8Ideal.Up.v50_apply _ z b t d).symm
  · refine (θ_run Cert.Reference8Ideal.defs _ _).mono (fun r h c => ?_) (Cert.Reference8Ideal.Value.run (F := Ideal) m' ρ')
    obtain ⟨h1, h2, hk⟩ := h c
    obtain ⟨a1, a2, a3, a4, a5⟩ := hagree c
    refine ⟨(h1.trans (Cert.Reference8Ideal.Read.val_main_v49_eq (F := Ideal) _ _)).trans ?_,
      (h2.trans (Cert.Reference8Ideal.Read.val_main_v50_eq (F := Ideal) _)).trans ?_, hk⟩
    · rw [a1, a3]
    · rw [a1]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal⟩

end Cert.Proof

end
